-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "eight_ln2" .f32 0x40B17218#32 ((8 * (Real.log 2) : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x4096x960 : Shape := ⟨3, ![16, 4096, 960]⟩
abbrev S16x4096x320 : Shape := ⟨3, ![16, 4096, 320]⟩
abbrev S15 : Shape := ⟨1, ![15]⟩
abbrev S_ : Shape := ⟨0, ![]⟩

class Facts : Prop where
  bitsLt_bf16_f32 : FTy.bits .bf16 < FTy.bits .f32
  bcast_S_S16x4096x960 : S_.BroadcastsInDim S16x4096x960 (![] : Fin 0 → Fin S16x4096x960.rank)
  bcast_S_S16x4096x320 : S_.BroadcastsInDim S16x4096x320 (![] : Fin 0 → Fin S16x4096x320.rank)

variable [Facts]

def fn_part1 {F : FTy → Type} [FloatOps F] (main_arg2 : FVec F S16x4096x320 .bf16) (main_v9 : IVec S16x4096x960 1) (main_v13 : IVec S16x4096x320 1) (main_v15 : IVec S16x4096x320 1) (main_v17 : IVec S16x4096x320 1) : IVec S16x4096x960 1 × IVec S16x4096x320 1 × IVec S16x4096x320 1 :=
  let main_v18 : IVec S16x4096x320 1 := andi main_v15 main_v17
  let main_v19 : IVec S16x4096x320 1 := ori main_v13 main_v18
  let main_v20 : FVec F S16x4096x320 .f32 := (extf .f32 · bitsLt_bf16_f32) main_arg2
  let main_v21 : FVec F S16x4096x320 .f32 := Host.absf main_v20
  let main_cst_5 : FVec F S_ .f32 := constant S_ .f32 0x00000000#32
  let main_v22 : FVec F S16x4096x320 .f32 := broadcastInDim S16x4096x320 ![] bcast_S_S16x4096x320 main_cst_5
  let main_v23 : IVec S16x4096x320 1 := cmpf .oeq main_v21 main_v22
  let main_cst_6 : FVec F S_ .f32 := constant S_ .f32 0x05000000#32
  let main_v24 : FVec F S16x4096x320 .f32 := broadcastInDim S16x4096x320 ![] bcast_S_S16x4096x320 main_cst_6
  let main_v25 : IVec S16x4096x320 1 := cmpf .oge main_v21 main_v24
  let main_cst_7 : FVec F S_ .f32 := constant S_ .f32 0x7F7F0000#32
  let main_v26 : FVec F S16x4096x320 .f32 := broadcastInDim S16x4096x320 ![] bcast_S_S16x4096x320 main_cst_7
  let main_v27 : IVec S16x4096x320 1 := cmpf .ole main_v21 main_v26
  let main_v28 : IVec S16x4096x320 1 := andi main_v25 main_v27
  let main_v29 : IVec S16x4096x320 1 := ori main_v23 main_v28
  (main_v9, main_v19, main_v29)

def fn {F : FTy → Type} [FloatOps F] (main_arg0 : FVec F S16x4096x960 .bf16) (main_arg1 : FVec F S16x4096x320 .bf16) (main_arg2 : FVec F S16x4096x320 .bf16) (main_arg3 : FVec F S15 .f32) : IVec S16x4096x960 1 × IVec S16x4096x320 1 × IVec S16x4096x320 1 :=
  let main_v0 : FVec F S16x4096x960 .f32 := (extf .f32 · bitsLt_bf16_f32) main_arg0
  let main_v1 : FVec F S16x4096x960 .f32 := Host.absf main_v0
  let main_cst : FVec F S_ .f32 := constant S_ .f32 0x00000000#32
  let main_v2 : FVec F S16x4096x960 .f32 := broadcastInDim S16x4096x960 ![] bcast_S_S16x4096x960 main_cst
  let main_v3 : IVec S16x4096x960 1 := cmpf .oeq main_v1 main_v2
  let main_cst_0 : FVec F S_ .f32 := constant S_ .f32 0x11800000#32
  let main_v4 : FVec F S16x4096x960 .f32 := broadcastInDim S16x4096x960 ![] bcast_S_S16x4096x960 main_cst_0
  let main_v5 : IVec S16x4096x960 1 := cmpf .oge main_v1 main_v4
  let main_cst_1 : FVec F S_ .f32 := constant S_ .f32 0x7F7F0000#32
  let main_v6 : FVec F S16x4096x960 .f32 := broadcastInDim S16x4096x960 ![] bcast_S_S16x4096x960 main_cst_1
  let main_v7 : IVec S16x4096x960 1 := cmpf .ole main_v1 main_v6
  let main_v8 : IVec S16x4096x960 1 := andi main_v5 main_v7
  let main_v9 : IVec S16x4096x960 1 := ori main_v3 main_v8
  let main_v10 : FVec F S16x4096x320 .f32 := (extf .f32 · bitsLt_bf16_f32) main_arg1
  let main_v11 : FVec F S16x4096x320 .f32 := Host.absf main_v10
  let main_cst_2 : FVec F S_ .f32 := constant S_ .f32 0x00000000#32
  let main_v12 : FVec F S16x4096x320 .f32 := broadcastInDim S16x4096x320 ![] bcast_S_S16x4096x320 main_cst_2
  let main_v13 : IVec S16x4096x320 1 := cmpf .oeq main_v11 main_v12
  let main_cst_3 : FVec F S_ .f32 := constant S_ .f32 0x05000000#32
  let main_v14 : FVec F S16x4096x320 .f32 := broadcastInDim S16x4096x320 ![] bcast_S_S16x4096x320 main_cst_3
  let main_v15 : IVec S16x4096x320 1 := cmpf .oge main_v11 main_v14
  let main_cst_4 : FVec F S_ .f32 := constant S_ .f32 0x7F7F0000#32
  let main_v16 : FVec F S16x4096x320 .f32 := broadcastInDim S16x4096x320 ![] bcast_S_S16x4096x320 main_cst_4
  let main_v17 : IVec S16x4096x320 1 := cmpf .ole main_v11 main_v16
  fn_part1 (F := F) main_arg2 main_v9 main_v13 main_v15 main_v17
-- ==== Kernel.lean ====
abbrev S16x4096x960 : Shape := ⟨3, ![16, 4096, 960]⟩
abbrev S16x4096x320 : Shape := ⟨3, ![16, 4096, 320]⟩
abbrev S15 : Shape := ⟨1, ![15]⟩
abbrev S16x960x4096 : Shape := ⟨3, ![16, 960, 4096]⟩
abbrev S16x320x4096 : Shape := ⟨3, ![16, 320, 4096]⟩
abbrev S16x15x4096 : Shape := ⟨3, ![16, 15, 4096]⟩
abbrev S16x5x4096 : Shape := ⟨3, ![16, 5, 4096]⟩
abbrev S16x5x128 : Shape := ⟨3, ![16, 5, 128]⟩
abbrev S1x960x256 : Shape := ⟨3, ![1, 960, 256]⟩
abbrev S1x320x4096 : Shape := ⟨3, ![1, 320, 4096]⟩
abbrev S1x15x256 : Shape := ⟨3, ![1, 15, 256]⟩
abbrev S1x5x4096 : Shape := ⟨3, ![1, 5, 4096]⟩
abbrev S1x5x128 : Shape := ⟨3, ![1, 5, 128]⟩
abbrev S5x4096x64 : Shape := ⟨3, ![5, 4096, 64]⟩
abbrev S5x4096x128 : Shape := ⟨3, ![5, 4096, 128]⟩
abbrev S8x256 : Shape := ⟨2, ![8, 256]⟩
abbrev S4096x256 : Shape := ⟨2, ![4096, 256]⟩
abbrev S64x256 : Shape := ⟨2, ![64, 256]⟩
abbrev S1x64x256 : Shape := ⟨3, ![1, 64, 256]⟩
abbrev S256 : Shape := ⟨1, ![256]⟩
abbrev S1x256 : Shape := ⟨2, ![1, 256]⟩
abbrev S1x1x256 : Shape := ⟨3, ![1, 1, 256]⟩
abbrev S256x64 : Shape := ⟨2, ![256, 64]⟩
abbrev S256x1 : Shape := ⟨2, ![256, 1]⟩
abbrev S1x256x64 : Shape := ⟨3, ![1, 256, 64]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩
abbrev S1x1 : Shape := ⟨2, ![1, 1]⟩
abbrev S1x128 : Shape := ⟨2, ![1, 128]⟩
abbrev S1x1x128 : Shape := ⟨3, ![1, 1, 128]⟩
abbrev S256x256 : Shape := ⟨2, ![256, 256]⟩
abbrev S32x8x256 : Shape := ⟨3, ![32, 8, 256]⟩

abbrev nBuf : Space → Nat
  | .hbm => 15
  | .vmem => 26
  | .smem => 1
  | _ => 0

abbrev bufTy : (tb : Table) → Fin (tcTables nBuf tb) → BufTy
  | .hbm, ⟨0, _⟩ => ⟨S16x4096x960, .bf16⟩
  | .hbm, ⟨1, _⟩ => ⟨S16x4096x320, .bf16⟩
  | .hbm, ⟨2, _⟩ => ⟨S16x4096x320, .bf16⟩
  | .hbm, ⟨3, _⟩ => ⟨S15, .f32⟩
  | .hbm, ⟨4, _⟩ => ⟨S16x960x4096, .bf16⟩
  | .hbm, ⟨5, _⟩ => ⟨S16x320x4096, .bf16⟩
  | .hbm, ⟨6, _⟩ => ⟨S16x320x4096, .bf16⟩
  | .hbm, ⟨7, _⟩ => ⟨S16x960x4096, .bf16⟩
  | .hbm, ⟨8, _⟩ => ⟨S16x15x4096, .f32⟩
  | .hbm, ⟨9, _⟩ => ⟨S16x960x4096, .fp8e4m3⟩
  | .hbm, ⟨10, _⟩ => ⟨S16x15x4096, .f32⟩
  | .hbm, ⟨11, _⟩ => ⟨S16x320x4096, .fp8e4m3⟩
  | .hbm, ⟨12, _⟩ => ⟨S16x5x4096, .f32⟩
  | .hbm, ⟨13, _⟩ => ⟨S16x320x4096, .fp8e4m3⟩
  | .hbm, ⟨14, _⟩ => ⟨S16x5x128, .f32⟩
  | .local _ .vmem, ⟨0, _⟩ => ⟨S1x960x256, .bf16⟩
  | .local _ .vmem, ⟨1, _⟩ => ⟨S1x960x256, .bf16⟩
  | .local _ .vmem, ⟨2, _⟩ => ⟨S1x320x4096, .bf16⟩
  | .local _ .vmem, ⟨3, _⟩ => ⟨S1x320x4096, .bf16⟩
  | .local _ .vmem, ⟨4, _⟩ => ⟨S1x320x4096, .bf16⟩
  | .local _ .vmem, ⟨5, _⟩ => ⟨S1x320x4096, .bf16⟩
  | .local _ .vmem, ⟨6, _⟩ => ⟨S1x960x256, .bf16⟩
  | .local _ .vmem, ⟨7, _⟩ => ⟨S1x960x256, .bf16⟩
  | .local _ .vmem, ⟨8, _⟩ => ⟨S1x15x256, .f32⟩
  | .local _ .vmem, ⟨9, _⟩ => ⟨S1x15x256, .f32⟩
  | .local _ .vmem, ⟨10, _⟩ => ⟨S1x960x256, .fp8e4m3⟩
  | .local _ .vmem, ⟨11, _⟩ => ⟨S1x960x256, .fp8e4m3⟩
  | .local _ .vmem, ⟨12, _⟩ => ⟨S1x15x256, .f32⟩
  | .local _ .vmem, ⟨13, _⟩ => ⟨S1x15x256, .f32⟩
  | .local _ .vmem, ⟨14, _⟩ => ⟨S1x320x4096, .fp8e4m3⟩
  | .local _ .vmem, ⟨15, _⟩ => ⟨S1x320x4096, .fp8e4m3⟩
  | .local _ .vmem, ⟨16, _⟩ => ⟨S1x5x4096, .f32⟩
  | .local _ .vmem, ⟨17, _⟩ => ⟨S1x5x4096, .f32⟩
  | .local _ .vmem, ⟨18, _⟩ => ⟨S1x320x4096, .fp8e4m3⟩
  | .local _ .vmem, ⟨19, _⟩ => ⟨S1x320x4096, .fp8e4m3⟩
  | .local _ .vmem, ⟨20, _⟩ => ⟨S1x5x128, .f32⟩
  | .local _ .vmem, ⟨21, _⟩ => ⟨S1x5x128, .f32⟩
  | .local _ .vmem, ⟨22, _⟩ => ⟨S5x4096x64, .fp8e4m3⟩
  | .local _ .vmem, ⟨23, _⟩ => ⟨S5x4096x128, .f32⟩
  | .local _ .vmem, ⟨24, _⟩ => ⟨S8x256, .f32⟩
  | .local _ .vmem, ⟨25, _⟩ => ⟨S4096x256, .f32⟩
  | .local _ .smem, ⟨0, _⟩ => ⟨S15, .f32⟩
  | _, _ => ⟨S16x4096x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c5_i32 : BitVec 32 := 5#32
  let v16 : BitVec 32 := Scalar.addi c0_i32_5 c5_i32
  let c1_i32_6 : BitVec 32 := 1#32
  ⟨c0_i32_5, v16, c1_i32_6⟩
def k0_mult1 (k0_t1 : Fin k0_t1_loop.trips) : BitVec 32 :=
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  v17
def k0_off1 (k0_t1 : Fin k0_t1_loop.trips) : Fin 3 → Nat :=
  let c0 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v20 : Index := Scalar.indexCast v18
  let c0_8 : Index := 0#32
  ![0, v20.toNat, 0]
def k0_off2 (k0_t1 : Fin k0_t1_loop.trips) : Fin 3 → Nat :=
  let c0_17 : Index := 0#32
  let c0_i32_5 : BitVec 32 := 0#32
  let c1_i32_6 : BitVec 32 := 1#32
  let arg18 : BitVec 32 := Scf.iv c0_i32_5 c1_i32_6 k0_t1
  let v52 : Index := Scalar.indexCast arg18
  let c0_18 : Index := 0#32
  ![0, v52.toNat, 0]
def k0_off3 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v103 : Index := Scalar.indexCast arg18
  let c0_36 : Index := 0#32
  let c0_37 : Index := 0#32
  ![v103.toNat, 0, 0]
def k0_off4 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v111 : Index := Scalar.indexCast arg18
  let c0_39 : Index := 0#32
  let c0_40 : Index := 0#32
  ![v111.toNat, 0, 0]
def k0_off5 (k0_t1 : Fin k0_t1_loop.trips) : Fin 3 → Nat :=
  let c0_43 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v121 : Index := Scalar.indexCast v18
  let c256 : Index := 256#32
  ![0, v121.toNat, 256]
def k0_off6 (k0_t1 : Fin k0_t1_loop.trips) : Fin 3 → Nat :=
  let c0_55 : Index := 0#32
  let c0_i32_5 : BitVec 32 := 0#32
  let c1_i32_6 : BitVec 32 := 1#32
  let arg18 : BitVec 32 := Scf.iv c0_i32_5 c1_i32_6 k0_t1
  let v153 : Index := Scalar.indexCast arg18
  let c256_56 : Index := 256#32
  ![0, v153.toNat, 256]
def k0_off7 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v204 : Index := Scalar.indexCast arg18
  let c256_74 : Index := 256#32
  let c0_75 : Index := 0#32
  ![v204.toNat, 256, 0]
def k0_off8 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v212 : Index := Scalar.indexCast arg18
  let c256_77 : Index := 256#32
  let c0_78 : Index := 0#32
  ![v212.toNat, 256, 0]
def k0_off9 (k0_t1 : Fin k0_t1_loop.trips) : Fin 3 → Nat :=
  let c0_81 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v222 : Index := Scalar.indexCast v18
  let c512 : Index := 512#32
  ![0, v222.toNat, 512]
def k0_off10 (k0_t1 : Fin k0_t1_loop.trips) : Fin 3 → Nat :=
  let c0_93 : Index := 0#32
  let c0_i32_5 : BitVec 32 := 0#32
  let c1_i32_6 : BitVec 32 := 1#32
  let arg18 : BitVec 32 := Scf.iv c0_i32_5 c1_i32_6 k0_t1
  let v254 : Index := Scalar.indexCast arg18
  let c512_94 : Index := 512#32
  ![0, v254.toNat, 512]
def k0_off11 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v305 : Index := Scalar.indexCast arg18
  let c512_112 : Index := 512#32
  let c0_113 : Index := 0#32
  ![v305.toNat, 512, 0]
def k0_off12 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v313 : Index := Scalar.indexCast arg18
  let c512_115 : Index := 512#32
  let c0_116 : Index := 0#32
  ![v313.toNat, 512, 0]
def k0_off13 (k0_t1 : Fin k0_t1_loop.trips) : Fin 3 → Nat :=
  let c0_119 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v323 : Index := Scalar.indexCast v18
  let c768 : Index := 768#32
  ![0, v323.toNat, 768]
def k0_off14 (k0_t1 : Fin k0_t1_loop.trips) : Fin 3 → Nat :=
  let c0_131 : Index := 0#32
  let c0_i32_5 : BitVec 32 := 0#32
  let c1_i32_6 : BitVec 32 := 1#32
  let arg18 : BitVec 32 := Scf.iv c0_i32_5 c1_i32_6 k0_t1
  let v355 : Index := Scalar.indexCast arg18
  let c768_132 : Index := 768#32
  ![0, v355.toNat, 768]
def k0_off15 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v406 : Index := Scalar.indexCast arg18
  let c768_150 : Index := 768#32
  let c0_151 : Index := 0#32
  ![v406.toNat, 768, 0]
def k0_off16 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v414 : Index := Scalar.indexCast arg18
  let c768_153 : Index := 768#32
  let c0_154 : Index := 0#32
  ![v414.toNat, 768, 0]
def k0_off17 (k0_t1 : Fin k0_t1_loop.trips) : Fin 3 → Nat :=
  let c0_157 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v424 : Index := Scalar.indexCast v18
  let c1024 : Index := 1024#32
  ![0, v424.toNat, 1024]
def k0_off18 (k0_t1 : Fin k0_t1_loop.trips) : Fin 3 → Nat :=
  let c0_169 : Index := 0#32
  let c0_i32_5 : BitVec 32 := 0#32
  let c1_i32_6 : BitVec 32 := 1#32
  let arg18 : BitVec 32 := Scf.iv c0_i32_5 c1_i32_6 k0_t1
  let v456 : Index := Scalar.indexCast arg18
  let c1024_170 : Index := 1024#32
  ![0, v456.toNat, 1024]
def k0_off19 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v507 : Index := Scalar.indexCast arg18
  let c1024_188 : Index := 1024#32
  let c0_189 : Index := 0#32
  ![v507.toNat, 1024, 0]
def k0_off20 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v515 : Index := Scalar.indexCast arg18
  let c1024_191 : Index := 1024#32
  let c0_192 : Index := 0#32
  ![v515.toNat, 1024, 0]
def k0_off21 (k0_t1 : Fin k0_t1_loop.trips) : Fin 3 → Nat :=
  let c0_195 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v525 : Index := Scalar.indexCast v18
  let c1280 : Index := 1280#32
  ![0, v525.toNat, 1280]
def k0_off22 (k0_t1 : Fin k0_t1_loop.trips) : Fin 3 → Nat :=
  let c0_207 : Index := 0#32
  let c0_i32_5 : BitVec 32 := 0#32
  let c1_i32_6 : BitVec 32 := 1#32
  let arg18 : BitVec 32 := Scf.iv c0_i32_5 c1_i32_6 k0_t1
  let v557 : Index := Scalar.indexCast arg18
  let c1280_208 : Index := 1280#32
  ![0, v557.toNat, 1280]
def k0_off23 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v608 : Index := Scalar.indexCast arg18
  let c1280_226 : Index := 1280#32
  let c0_227 : Index := 0#32
  ![v608.toNat, 1280, 0]
def k0_off24 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v616 : Index := Scalar.indexCast arg18
  let c1280_229 : Index := 1280#32
  let c0_230 : Index := 0#32
  ![v616.toNat, 1280, 0]
def k0_off25 (k0_t1 : Fin k0_t1_loop.trips) : Fin 3 → Nat :=
  let c0_233 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v626 : Index := Scalar.indexCast v18
  let c1536 : Index := 1536#32
  ![0, v626.toNat, 1536]
def k0_off26 (k0_t1 : Fin k0_t1_loop.trips) : Fin 3 → Nat :=
  let c0_245 : Index := 0#32
  let c0_i32_5 : BitVec 32 := 0#32
  let c1_i32_6 : BitVec 32 := 1#32
  let arg18 : BitVec 32 := Scf.iv c0_i32_5 c1_i32_6 k0_t1
  let v658 : Index := Scalar.indexCast arg18
  let c1536_246 : Index := 1536#32
  ![0, v658.toNat, 1536]
def k0_off27 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v709 : Index := Scalar.indexCast arg18
  let c1536_264 : Index := 1536#32
  let c0_265 : Index := 0#32
  ![v709.toNat, 1536, 0]
def k0_off28 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v717 : Index := Scalar.indexCast arg18
  let c1536_267 : Index := 1536#32
  let c0_268 : Index := 0#32
  ![v717.toNat, 1536, 0]
def k0_off29 (k0_t1 : Fin k0_t1_loop.trips) : Fin 3 → Nat :=
  let c0_271 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v727 : Index := Scalar.indexCast v18
  let c1792 : Index := 1792#32
  ![0, v727.toNat, 1792]
def k0_off30 (k0_t1 : Fin k0_t1_loop.trips) : Fin 3 → Nat :=
  let c0_283 : Index := 0#32
  let c0_i32_5 : BitVec 32 := 0#32
  let c1_i32_6 : BitVec 32 := 1#32
  let arg18 : BitVec 32 := Scf.iv c0_i32_5 c1_i32_6 k0_t1
  let v759 : Index := Scalar.indexCast arg18
  let c1792_284 : Index := 1792#32
  ![0, v759.toNat, 1792]
def k0_off31 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v810 : Index := Scalar.indexCast arg18
  let c1792_302 : Index := 1792#32
  let c0_303 : Index := 0#32
  ![v810.toNat, 1792, 0]
def k0_off32 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v818 : Index := Scalar.indexCast arg18
  let c1792_305 : Index := 1792#32
  let c0_306 : Index := 0#32
  ![v818.toNat, 1792, 0]
def k0_off33 (k0_t1 : Fin k0_t1_loop.trips) : Fin 3 → Nat :=
  let c0_309 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v828 : Index := Scalar.indexCast v18
  let c2048 : Index := 2048#32
  ![0, v828.toNat, 2048]
def k0_off34 (k0_t1 : Fin k0_t1_loop.trips) : Fin 3 → Nat :=
  let c0_321 : Index := 0#32
  let c0_i32_5 : BitVec 32 := 0#32
  let c1_i32_6 : BitVec 32 := 1#32
  let arg18 : BitVec 32 := Scf.iv c0_i32_5 c1_i32_6 k0_t1
  let v860 : Index := Scalar.indexCast arg18
  let c2048_322 : Index := 2048#32
  ![0, v860.toNat, 2048]
def k0_off35 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v911 : Index := Scalar.indexCast arg18
  let c2048_340 : Index := 2048#32
  let c0_341 : Index := 0#32
  ![v911.toNat, 2048, 0]
def k0_off36 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v919 : Index := Scalar.indexCast arg18
  let c2048_343 : Index := 2048#32
  let c0_344 : Index := 0#32
  ![v919.toNat, 2048, 0]
def k0_off37 (k0_t1 : Fin k0_t1_loop.trips) : Fin 3 → Nat :=
  let c0_347 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v929 : Index := Scalar.indexCast v18
  let c2304 : Index := 2304#32
  ![0, v929.toNat, 2304]
def k0_off38 (k0_t1 : Fin k0_t1_loop.trips) : Fin 3 → Nat :=
  let c0_359 : Index := 0#32
  let c0_i32_5 : BitVec 32 := 0#32
  let c1_i32_6 : BitVec 32 := 1#32
  let arg18 : BitVec 32 := Scf.iv c0_i32_5 c1_i32_6 k0_t1
  let v961 : Index := Scalar.indexCast arg18
  let c2304_360 : Index := 2304#32
  ![0, v961.toNat, 2304]
def k0_off39 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1012 : Index := Scalar.indexCast arg18
  let c2304_378 : Index := 2304#32
  let c0_379 : Index := 0#32
  ![v1012.toNat, 2304, 0]
def k0_off40 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1020 : Index := Scalar.indexCast arg18
  let c2304_381 : Index := 2304#32
  let c0_382 : Index := 0#32
  ![v1020.toNat, 2304, 0]
def k0_off41 (k0_t1 : Fin k0_t1_loop.trips) : Fin 3 → Nat :=
  let c0_385 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v1030 : Index := Scalar.indexCast v18
  let c2560 : Index := 2560#32
  ![0, v1030.toNat, 2560]
def k0_off42 (k0_t1 : Fin k0_t1_loop.trips) : Fin 3 → Nat :=
  let c0_397 : Index := 0#32
  let c0_i32_5 : BitVec 32 := 0#32
  let c1_i32_6 : BitVec 32 := 1#32
  let arg18 : BitVec 32 := Scf.iv c0_i32_5 c1_i32_6 k0_t1
  let v1062 : Index := Scalar.indexCast arg18
  let c2560_398 : Index := 2560#32
  ![0, v1062.toNat, 2560]
def k0_off43 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1113 : Index := Scalar.indexCast arg18
  let c2560_416 : Index := 2560#32
  let c0_417 : Index := 0#32
  ![v1113.toNat, 2560, 0]
def k0_off44 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1121 : Index := Scalar.indexCast arg18
  let c2560_419 : Index := 2560#32
  let c0_420 : Index := 0#32
  ![v1121.toNat, 2560, 0]
def k0_off45 (k0_t1 : Fin k0_t1_loop.trips) : Fin 3 → Nat :=
  let c0_423 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v1131 : Index := Scalar.indexCast v18
  let c2816 : Index := 2816#32
  ![0, v1131.toNat, 2816]
def k0_off46 (k0_t1 : Fin k0_t1_loop.trips) : Fin 3 → Nat :=
  let c0_435 : Index := 0#32
  let c0_i32_5 : BitVec 32 := 0#32
  let c1_i32_6 : BitVec 32 := 1#32
  let arg18 : BitVec 32 := Scf.iv c0_i32_5 c1_i32_6 k0_t1
  let v1163 : Index := Scalar.indexCast arg18
  let c2816_436 : Index := 2816#32
  ![0, v1163.toNat, 2816]
def k0_off47 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1214 : Index := Scalar.indexCast arg18
  let c2816_454 : Index := 2816#32
  let c0_455 : Index := 0#32
  ![v1214.toNat, 2816, 0]
def k0_off48 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1222 : Index := Scalar.indexCast arg18
  let c2816_457 : Index := 2816#32
  let c0_458 : Index := 0#32
  ![v1222.toNat, 2816, 0]
def k0_off49 (k0_t1 : Fin k0_t1_loop.trips) : Fin 3 → Nat :=
  let c0_461 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v1232 : Index := Scalar.indexCast v18
  let c3072 : Index := 3072#32
  ![0, v1232.toNat, 3072]
def k0_off50 (k0_t1 : Fin k0_t1_loop.trips) : Fin 3 → Nat :=
  let c0_473 : Index := 0#32
  let c0_i32_5 : BitVec 32 := 0#32
  let c1_i32_6 : BitVec 32 := 1#32
  let arg18 : BitVec 32 := Scf.iv c0_i32_5 c1_i32_6 k0_t1
  let v1264 : Index := Scalar.indexCast arg18
  let c3072_474 : Index := 3072#32
  ![0, v1264.toNat, 3072]
def k0_off51 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1315 : Index := Scalar.indexCast arg18
  let c3072_492 : Index := 3072#32
  let c0_493 : Index := 0#32
  ![v1315.toNat, 3072, 0]
def k0_off52 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1323 : Index := Scalar.indexCast arg18
  let c3072_495 : Index := 3072#32
  let c0_496 : Index := 0#32
  ![v1323.toNat, 3072, 0]
def k0_off53 (k0_t1 : Fin k0_t1_loop.trips) : Fin 3 → Nat :=
  let c0_499 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v1333 : Index := Scalar.indexCast v18
  let c3328 : Index := 3328#32
  ![0, v1333.toNat, 3328]
def k0_off54 (k0_t1 : Fin k0_t1_loop.trips) : Fin 3 → Nat :=
  let c0_511 : Index := 0#32
  let c0_i32_5 : BitVec 32 := 0#32
  let c1_i32_6 : BitVec 32 := 1#32
  let arg18 : BitVec 32 := Scf.iv c0_i32_5 c1_i32_6 k0_t1
  let v1365 : Index := Scalar.indexCast arg18
  let c3328_512 : Index := 3328#32
  ![0, v1365.toNat, 3328]
def k0_off55 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1416 : Index := Scalar.indexCast arg18
  let c3328_530 : Index := 3328#32
  let c0_531 : Index := 0#32
  ![v1416.toNat, 3328, 0]
def k0_off56 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1424 : Index := Scalar.indexCast arg18
  let c3328_533 : Index := 3328#32
  let c0_534 : Index := 0#32
  ![v1424.toNat, 3328, 0]
def k0_off57 (k0_t1 : Fin k0_t1_loop.trips) : Fin 3 → Nat :=
  let c0_537 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v1434 : Index := Scalar.indexCast v18
  let c3584 : Index := 3584#32
  ![0, v1434.toNat, 3584]
def k0_off58 (k0_t1 : Fin k0_t1_loop.trips) : Fin 3 → Nat :=
  let c0_549 : Index := 0#32
  let c0_i32_5 : BitVec 32 := 0#32
  let c1_i32_6 : BitVec 32 := 1#32
  let arg18 : BitVec 32 := Scf.iv c0_i32_5 c1_i32_6 k0_t1
  let v1466 : Index := Scalar.indexCast arg18
  let c3584_550 : Index := 3584#32
  ![0, v1466.toNat, 3584]
def k0_off59 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1517 : Index := Scalar.indexCast arg18
  let c3584_568 : Index := 3584#32
  let c0_569 : Index := 0#32
  ![v1517.toNat, 3584, 0]
def k0_off60 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1525 : Index := Scalar.indexCast arg18
  let c3584_571 : Index := 3584#32
  let c0_572 : Index := 0#32
  ![v1525.toNat, 3584, 0]
def k0_off61 (k0_t1 : Fin k0_t1_loop.trips) : Fin 3 → Nat :=
  let c0_575 : Index := 0#32
  let c0_i32_5 : BitVec 32 := 0#32
  let c1_i32_6 : BitVec 32 := 1#32
  let arg18 : BitVec 32 := Scf.iv c0_i32_5 c1_i32_6 k0_t1
  let c64_i32 : BitVec 32 := 64#32
  let v17 : BitVec 32 := Scalar.muli arg18 c64_i32
  let v18 : BitVec 32 := v17
  let v1535 : Index := Scalar.indexCast v18
  let c3840 : Index := 3840#32
  ![0, v1535.toNat, 3840]
def k0_off62 (k0_t1 : Fin k0_t1_loop.trips) : Fin 3 → Nat :=
  let c0_587 : Index := 0#32
  let c0_i32_5 : BitVec 32 := 0#32
  let c1_i32_6 : BitVec 32 := 1#32
  let arg18 : BitVec 32 := Scf.iv c0_i32_5 c1_i32_6 k0_t1
  let v1567 : Index := Scalar.indexCast arg18
  let c3840_588 : Index := 3840#32
  ![0, v1567.toNat, 3840]
def k0_off63 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1618 : Index := Scalar.indexCast arg18
  let c3840_606 : Index := 3840#32
  let c0_607 : Index := 0#32
  ![v1618.toNat, 3840, 0]
def k0_off64 (k0_t1 : Fin k0_t1_loop.trips) : Fin 3 → Nat :=
  let c0_i32_5 : BitVec 32 := 0#32
  let c1_i32_6 : BitVec 32 := 1#32
  let arg18 : BitVec 32 := Scf.iv c0_i32_5 c1_i32_6 k0_t1
  let v1626 : Index := Scalar.indexCast arg18
  let c3840_609 : Index := 3840#32
  let c0_610 : Index := 0#32
  ![v1626.toNat, 3840, 0]
def k0_off65 (k0_t1 : Fin k0_t1_loop.trips) : Fin 3 → Nat :=
  let c0_624 : Index := 0#32
  let c0_i32_5 : BitVec 32 := 0#32
  let c1_i32_6 : BitVec 32 := 1#32
  let arg18 : BitVec 32 := Scf.iv c0_i32_5 c1_i32_6 k0_t1
  let v1668 : Index := Scalar.indexCast arg18
  let c0_625 : Index := 0#32
  ![0, v1668.toNat, 0]
def k0_off66 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let v1676 : Index := Scalar.indexCast arg18
  let c0_627 : Index := 0#32
  ![v1676.toNat, 0]
@[reducible] def k0_t2_loop : Scf.Loop 32 :=
  let c0_i32_2 : BitVec 32 := 0#32
  let c15_i32 : BitVec 32 := 15#32
  let v15 : BitVec 32 := Scalar.addi c0_i32_2 c15_i32
  let c1_i32_3 : BitVec 32 := 1#32
  ⟨c0_i32_2, v15, c1_i32_3⟩
def k0_mult2 (k0_t2 : Fin k0_t2_loop.trips) : BitVec 32 :=
  let c0_i32_2 : BitVec 32 := 0#32
  let c1_i32_3 : BitVec 32 := 1#32
  let arg18 : BitVec 32 := Scf.iv c0_i32_2 c1_i32_3 k0_t2
  let c64_i32 : BitVec 32 := 64#32
  let v33 : BitVec 32 := Scalar.muli arg18 c64_i32
  v33
def k0_mult3 (k0_t2 : Fin k0_t2_loop.trips) : BitVec 32 :=
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let c64_i32_11 : BitVec 32 := 64#32
  let v35 : BitVec 32 := Scalar.muli v32 c64_i32_11
  v35
def k0_off67 (k0_t2 : Fin k0_t2_loop.trips) : Fin 3 → Nat :=
  let c0 : Index := 0#32
  let c0_i32_2 : BitVec 32 := 0#32
  let c1_i32_3 : BitVec 32 := 1#32
  let arg18 : BitVec 32 := Scf.iv c0_i32_2 c1_i32_3 k0_t2
  let c64_i32 : BitVec 32 := 64#32
  let v33 : BitVec 32 := Scalar.muli arg18 c64_i32
  let v34 : BitVec 32 := v33
  let v37 : Index := Scalar.indexCast v34
  let c0_12 : Index := 0#32
  ![0, v37.toNat, 0]
def k0_off68 (k0_t2 : Fin k0_t2_loop.trips) : Fin 3 → Nat :=
  let c0_22 : Index := 0#32
  let c0_i32_2 : BitVec 32 := 0#32
  let c1_i32_3 : BitVec 32 := 1#32
  let arg18 : BitVec 32 := Scf.iv c0_i32_2 c1_i32_3 k0_t2
  let v76 : Index := Scalar.indexCast arg18
  let c0_23 : Index := 0#32
  ![0, v76.toNat, 0]
@[reducible] def k0_t3_loop (i : grid0.Coords) : Scf.Loop 32 :=
  let c0_i32_28 : BitVec 32 := 0#32
  let arg1 : BitVec 32 := BitVec.ofNat 32 (i 1).val
  let c1_i32 : BitVec 32 := 1#32
  let v3 : BitVec 32 := Scalar.addi arg1 c1_i32
  let c1_i32_26 : BitVec 32 := 1#32
  let v84 : BitVec 32 := Scalar.subi v3 c1_i32_26
  let v86 : BitVec 32 := Scalar.subi v84 c0_i32_28
  let c1_i32_29 : BitVec 32 := 1#32
  let v88 : BitVec 32 := Scalar.divsi v86 c1_i32_29
  let v89 : BitVec 32 := Scalar.muli v88 c1_i32_29
  let v90 : BitVec 32 := Scalar.addi c0_i32_28 v89
  let c1_i32_30 : BitVec 32 := 1#32
  ⟨c0_i32_28, v90, c1_i32_30⟩
def k0_mult4 (i : grid0.Coords) (k0_t3 : Fin (k0_t3_loop i).trips) : BitVec 32 :=
  let c0_i32_28 : BitVec 32 := 0#32
  let c1_i32_30 : BitVec 32 := 1#32
  let arg19 : BitVec 32 := Scf.iv c0_i32_28 c1_i32_30 k0_t3
  let c256_i32_57 : BitVec 32 := 256#32
  let v166 : BitVec 32 := Scalar.muli arg19 c256_i32_57
  v166
def k0_off69 (i : grid0.Coords) (k0_t2 : Fin k0_t2_loop.trips) (k0_t3 : Fin (k0_t3_loop i).trips) : Fin 3 → Nat :=
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let v168 : Index := Scalar.indexCast v32
  let c0_i32_28 : BitVec 32 := 0#32
  let c1_i32_30 : BitVec 32 := 1#32
  let arg19 : BitVec 32 := Scf.iv c0_i32_28 c1_i32_30 k0_t3
  let c256_i32_57 : BitVec 32 := 256#32
  let v166 : BitVec 32 := Scalar.muli arg19 c256_i32_57
  let v167 : BitVec 32 := v166
  let v169 : Index := Scalar.indexCast v167
  let c0_58 : Index := 0#32
  ![v168.toNat, v169.toNat, 0]
def k0_off70 (i : grid0.Coords) (k0_t2 : Fin k0_t2_loop.trips) (k0_t3 : Fin (k0_t3_loop i).trips) : Fin 3 → Nat :=
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let v173 : Index := Scalar.indexCast v32
  let c0_i32_28 : BitVec 32 := 0#32
  let c1_i32_30 : BitVec 32 := 1#32
  let arg19 : BitVec 32 := Scf.iv c0_i32_28 c1_i32_30 k0_t3
  let c256_i32_57 : BitVec 32 := 256#32
  let v166 : BitVec 32 := Scalar.muli arg19 c256_i32_57
  let v167 : BitVec 32 := v166
  let v174 : Index := Scalar.indexCast v167
  let c0_60 : Index := 0#32
  ![v173.toNat, v174.toNat, 0]
def k0_off71 (i : grid0.Coords) (k0_t3 : Fin (k0_t3_loop i).trips) : Fin 2 → Nat :=
  let c0_i32_28 : BitVec 32 := 0#32
  let c1_i32_30 : BitVec 32 := 1#32
  let arg19 : BitVec 32 := Scf.iv c0_i32_28 c1_i32_30 k0_t3
  let c256_i32_57 : BitVec 32 := 256#32
  let v166 : BitVec 32 := Scalar.muli arg19 c256_i32_57
  let v167 : BitVec 32 := v166
  let v179 : Index := Scalar.indexCast v167
  let c0_61 : Index := 0#32
  ![v179.toNat, 0]
@[reducible] def k0_t4_loop (i : grid0.Coords) : Scf.Loop 32 :=
  let c0_i32_28 : BitVec 32 := 0#32
  let arg1 : BitVec 32 := BitVec.ofNat 32 (i 1).val
  let c1_i32 : BitVec 32 := 1#32
  let v3 : BitVec 32 := Scalar.addi arg1 c1_i32
  let c1_i32_26 : BitVec 32 := 1#32
  let v84 : BitVec 32 := Scalar.subi v3 c1_i32_26
  let v86 : BitVec 32 := Scalar.subi v84 c0_i32_28
  let c1_i32_29 : BitVec 32 := 1#32
  let v88 : BitVec 32 := Scalar.divsi v86 c1_i32_29
  let v89 : BitVec 32 := Scalar.muli v88 c1_i32_29
  let v90 : BitVec 32 := Scalar.addi c0_i32_28 v89
  let v87 : BitVec 32 := Scalar.addi c0_i32_28 v86
  let c1_i32_31 : BitVec 32 := 1#32
  ⟨v90, v87, c1_i32_31⟩
def k0_mult5 (i : grid0.Coords) (k0_t4 : Fin (k0_t4_loop i).trips) : BitVec 32 :=
  let c0_i32_28 : BitVec 32 := 0#32
  let arg1 : BitVec 32 := BitVec.ofNat 32 (i 1).val
  let c1_i32 : BitVec 32 := 1#32
  let v3 : BitVec 32 := Scalar.addi arg1 c1_i32
  let c1_i32_26 : BitVec 32 := 1#32
  let v84 : BitVec 32 := Scalar.subi v3 c1_i32_26
  let v86 : BitVec 32 := Scalar.subi v84 c0_i32_28
  let c1_i32_29 : BitVec 32 := 1#32
  let v88 : BitVec 32 := Scalar.divsi v86 c1_i32_29
  let v89 : BitVec 32 := Scalar.muli v88 c1_i32_29
  let v90 : BitVec 32 := Scalar.addi c0_i32_28 v89
  let c1_i32_31 : BitVec 32 := 1#32
  let arg19 : BitVec 32 := Scf.iv v90 c1_i32_31 k0_t4
  let c256_i32_57 : BitVec 32 := 256#32
  let v166 : BitVec 32 := Scalar.muli arg19 c256_i32_57
  v166
def k0_off72 (i : grid0.Coords) (k0_t2 : Fin k0_t2_loop.trips) (k0_t4 : Fin (k0_t4_loop i).trips) : Fin 3 → Nat :=
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let v168 : Index := Scalar.indexCast v32
  let c0_i32_28 : BitVec 32 := 0#32
  let arg1 : BitVec 32 := BitVec.ofNat 32 (i 1).val
  let c1_i32 : BitVec 32 := 1#32
  let v3 : BitVec 32 := Scalar.addi arg1 c1_i32
  let c1_i32_26 : BitVec 32 := 1#32
  let v84 : BitVec 32 := Scalar.subi v3 c1_i32_26
  let v86 : BitVec 32 := Scalar.subi v84 c0_i32_28
  let c1_i32_29 : BitVec 32 := 1#32
  let v88 : BitVec 32 := Scalar.divsi v86 c1_i32_29
  let v89 : BitVec 32 := Scalar.muli v88 c1_i32_29
  let v90 : BitVec 32 := Scalar.addi c0_i32_28 v89
  let c1_i32_31 : BitVec 32 := 1#32
  let arg19 : BitVec 32 := Scf.iv v90 c1_i32_31 k0_t4
  let c256_i32_57 : BitVec 32 := 256#32
  let v166 : BitVec 32 := Scalar.muli arg19 c256_i32_57
  let v167 : BitVec 32 := v166
  let v169 : Index := Scalar.indexCast v167
  let c0_58 : Index := 0#32
  ![v168.toNat, v169.toNat, 0]
def k0_off73 (i : grid0.Coords) (k0_t2 : Fin k0_t2_loop.trips) (k0_t4 : Fin (k0_t4_loop i).trips) : Fin 3 → Nat :=
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let v173 : Index := Scalar.indexCast v32
  let c0_i32_28 : BitVec 32 := 0#32
  let arg1 : BitVec 32 := BitVec.ofNat 32 (i 1).val
  let c1_i32 : BitVec 32 := 1#32
  let v3 : BitVec 32 := Scalar.addi arg1 c1_i32
  let c1_i32_26 : BitVec 32 := 1#32
  let v84 : BitVec 32 := Scalar.subi v3 c1_i32_26
  let v86 : BitVec 32 := Scalar.subi v84 c0_i32_28
  let c1_i32_29 : BitVec 32 := 1#32
  let v88 : BitVec 32 := Scalar.divsi v86 c1_i32_29
  let v89 : BitVec 32 := Scalar.muli v88 c1_i32_29
  let v90 : BitVec 32 := Scalar.addi c0_i32_28 v89
  let c1_i32_31 : BitVec 32 := 1#32
  let arg19 : BitVec 32 := Scf.iv v90 c1_i32_31 k0_t4
  let c256_i32_57 : BitVec 32 := 256#32
  let v166 : BitVec 32 := Scalar.muli arg19 c256_i32_57
  let v167 : BitVec 32 := v166
  let v174 : Index := Scalar.indexCast v167
  let c0_60 : Index := 0#32
  ![v173.toNat, v174.toNat, 0]
def k0_off74 (i : grid0.Coords) (k0_t4 : Fin (k0_t4_loop i).trips) : Fin 2 → Nat :=
  let c0_i32_28 : BitVec 32 := 0#32
  let arg1 : BitVec 32 := BitVec.ofNat 32 (i 1).val
  let c1_i32 : BitVec 32 := 1#32
  let v3 : BitVec 32 := Scalar.addi arg1 c1_i32
  let c1_i32_26 : BitVec 32 := 1#32
  let v84 : BitVec 32 := Scalar.subi v3 c1_i32_26
  let v86 : BitVec 32 := Scalar.subi v84 c0_i32_28
  let c1_i32_29 : BitVec 32 := 1#32
  let v88 : BitVec 32 := Scalar.divsi v86 c1_i32_29
  let v89 : BitVec 32 := Scalar.muli v88 c1_i32_29
  let v90 : BitVec 32 := Scalar.addi c0_i32_28 v89
  let c1_i32_31 : BitVec 32 := 1#32
  let arg19 : BitVec 32 := Scf.iv v90 c1_i32_31 k0_t4
  let c256_i32_57 : BitVec 32 := 256#32
  let v166 : BitVec 32 := Scalar.muli arg19 c256_i32_57
  let v167 : BitVec 32 := v166
  let v179 : Index := Scalar.indexCast v167
  let c0_61 : Index := 0#32
  ![v179.toNat, 0]
def k0_mult6 (i : grid0.Coords) : BitVec 32 :=
  let arg1 : BitVec 32 := BitVec.ofNat 32 (i 1).val
  let c1_i32 : BitVec 32 := 1#32
  let v3 : BitVec 32 := Scalar.addi arg1 c1_i32
  let c1_i32_32 : BitVec 32 := 1#32
  let v93 : BitVec 32 := Scalar.subi v3 c1_i32_32
  let c256_i32_33 : BitVec 32 := 256#32
  let v94 : BitVec 32 := Scalar.muli v93 c256_i32_33
  v94
def k0_off75 (i : grid0.Coords) (k0_t2 : Fin k0_t2_loop.trips) : Fin 3 → Nat :=
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let v96 : Index := Scalar.indexCast v32
  let arg1 : BitVec 32 := BitVec.ofNat 32 (i 1).val
  let c1_i32 : BitVec 32 := 1#32
  let v3 : BitVec 32 := Scalar.addi arg1 c1_i32
  let c1_i32_32 : BitVec 32 := 1#32
  let v93 : BitVec 32 := Scalar.subi v3 c1_i32_32
  let c256_i32_33 : BitVec 32 := 256#32
  let v94 : BitVec 32 := Scalar.muli v93 c256_i32_33
  let v95 : BitVec 32 := v94
  let v97 : Index := Scalar.indexCast v95
  let c0_34 : Index := 0#32
  ![v96.toNat, v97.toNat, 0]
def k0_off76 (i : grid0.Coords) (k0_t2 : Fin k0_t2_loop.trips) : Fin 3 → Nat :=
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let v101 : Index := Scalar.indexCast v32
  let arg1 : BitVec 32 := BitVec.ofNat 32 (i 1).val
  let c1_i32 : BitVec 32 := 1#32
  let v3 : BitVec 32 := Scalar.addi arg1 c1_i32
  let c1_i32_32 : BitVec 32 := 1#32
  let v93 : BitVec 32 := Scalar.subi v3 c1_i32_32
  let c256_i32_33 : BitVec 32 := 256#32
  let v94 : BitVec 32 := Scalar.muli v93 c256_i32_33
  let v95 : BitVec 32 := v94
  let v102 : Index := Scalar.indexCast v95
  let c0_36 : Index := 0#32
  ![v101.toNat, v102.toNat, 0]
def k0_off77 (i : grid0.Coords) : Fin 2 → Nat :=
  let arg1 : BitVec 32 := BitVec.ofNat 32 (i 1).val
  let c1_i32 : BitVec 32 := 1#32
  let v3 : BitVec 32 := Scalar.addi arg1 c1_i32
  let c1_i32_32 : BitVec 32 := 1#32
  let v93 : BitVec 32 := Scalar.subi v3 c1_i32_32
  let c256_i32_33 : BitVec 32 := 256#32
  let v94 : BitVec 32 := Scalar.muli v93 c256_i32_33
  let v95 : BitVec 32 := v94
  let v109 : Index := Scalar.indexCast v95
  let c0_38 : Index := 0#32
  ![v109.toNat, 0]
def k0_off78 (k0_t2 : Fin k0_t2_loop.trips) : Fin 1 → Nat :=
  let c0_i32_2 : BitVec 32 := 0#32
  let c1_i32_3 : BitVec 32 := 1#32
  let arg18 : BitVec 32 := Scf.iv c0_i32_2 c1_i32_3 k0_t2
  let v118 : Index := Scalar.indexCast arg18
  ![v118.toNat]
@[reducible] def k0_t5_loop (i : grid0.Coords) : Scf.Loop 32 :=
  let c0_i32_46 : BitVec 32 := 0#32
  let arg1 : BitVec 32 := BitVec.ofNat 32 (i 1).val
  let c1_i32 : BitVec 32 := 1#32
  let v3 : BitVec 32 := Scalar.addi arg1 c1_i32
  let v133 : BitVec 32 := Scalar.subi v3 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_48 : BitVec 32 := 1#32
  ⟨c0_i32_46, v137, c1_i32_48⟩
def k0_mult7 (i : grid0.Coords) (k0_t5 : Fin (k0_t5_loop i).trips) : BitVec 32 :=
  let c0_i32_46 : BitVec 32 := 0#32
  let c1_i32_48 : BitVec 32 := 1#32
  let arg19 : BitVec 32 := Scf.iv c0_i32_46 c1_i32_48 k0_t5
  let c256_i32_57 : BitVec 32 := 256#32
  let v166 : BitVec 32 := Scalar.muli arg19 c256_i32_57
  v166
def k0_off79 (i : grid0.Coords) (k0_t5 : Fin (k0_t5_loop i).trips) : Fin 2 → Nat :=
  let c0_i32_46 : BitVec 32 := 0#32
  let c1_i32_48 : BitVec 32 := 1#32
  let arg19 : BitVec 32 := Scf.iv c0_i32_46 c1_i32_48 k0_t5
  let c256_i32_57 : BitVec 32 := 256#32
  let v166 : BitVec 32 := Scalar.muli arg19 c256_i32_57
  let v167 : BitVec 32 := v166
  let v168 : Index := Scalar.indexCast v167
  let c0_58 : Index := 0#32
  ![v168.toNat, 0]
def k0_off80 (i : grid0.Coords) (k0_t2 : Fin k0_t2_loop.trips) (k0_t5 : Fin (k0_t5_loop i).trips) : Fin 3 → Nat :=
  let c0_62 : Index := 0#32
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let c64_i32_11 : BitVec 32 := 64#32
  let v35 : BitVec 32 := Scalar.muli v32 c64_i32_11
  let v36 : BitVec 32 := v35
  let v183 : Index := Scalar.indexCast v36
  let c0_i32_46 : BitVec 32 := 0#32
  let c1_i32_48 : BitVec 32 := 1#32
  let arg19 : BitVec 32 := Scf.iv c0_i32_46 c1_i32_48 k0_t5
  let c256_i32_57 : BitVec 32 := 256#32
  let v166 : BitVec 32 := Scalar.muli arg19 c256_i32_57
  let v167 : BitVec 32 := v166
  let v184 : Index := Scalar.indexCast v167
  ![0, v183.toNat, v184.toNat]
@[reducible] def k0_t6_loop (i : grid0.Coords) : Scf.Loop 32 :=
  let c0_i32_46 : BitVec 32 := 0#32
  let arg1 : BitVec 32 := BitVec.ofNat 32 (i 1).val
  let c1_i32 : BitVec 32 := 1#32
  let v3 : BitVec 32 := Scalar.addi arg1 c1_i32
  let v133 : BitVec 32 := Scalar.subi v3 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let v134 : BitVec 32 := Scalar.addi c0_i32_46 v133
  let c1_i32_49 : BitVec 32 := 1#32
  ⟨v137, v134, c1_i32_49⟩
def k0_mult8 (i : grid0.Coords) (k0_t6 : Fin (k0_t6_loop i).trips) : BitVec 32 :=
  let c0_i32_46 : BitVec 32 := 0#32
  let arg1 : BitVec 32 := BitVec.ofNat 32 (i 1).val
  let c1_i32 : BitVec 32 := 1#32
  let v3 : BitVec 32 := Scalar.addi arg1 c1_i32
  let v133 : BitVec 32 := Scalar.subi v3 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_49 : BitVec 32 := 1#32
  let arg19 : BitVec 32 := Scf.iv v137 c1_i32_49 k0_t6
  let c256_i32_57 : BitVec 32 := 256#32
  let v166 : BitVec 32 := Scalar.muli arg19 c256_i32_57
  v166
def k0_off81 (i : grid0.Coords) (k0_t6 : Fin (k0_t6_loop i).trips) : Fin 2 → Nat :=
  let c0_i32_46 : BitVec 32 := 0#32
  let arg1 : BitVec 32 := BitVec.ofNat 32 (i 1).val
  let c1_i32 : BitVec 32 := 1#32
  let v3 : BitVec 32 := Scalar.addi arg1 c1_i32
  let v133 : BitVec 32 := Scalar.subi v3 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_49 : BitVec 32 := 1#32
  let arg19 : BitVec 32 := Scf.iv v137 c1_i32_49 k0_t6
  let c256_i32_57 : BitVec 32 := 256#32
  let v166 : BitVec 32 := Scalar.muli arg19 c256_i32_57
  let v167 : BitVec 32 := v166
  let v168 : Index := Scalar.indexCast v167
  let c0_58 : Index := 0#32
  ![v168.toNat, 0]
def k0_off82 (i : grid0.Coords) (k0_t2 : Fin k0_t2_loop.trips) (k0_t6 : Fin (k0_t6_loop i).trips) : Fin 3 → Nat :=
  let c0_62 : Index := 0#32
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let c64_i32_11 : BitVec 32 := 64#32
  let v35 : BitVec 32 := Scalar.muli v32 c64_i32_11
  let v36 : BitVec 32 := v35
  let v183 : Index := Scalar.indexCast v36
  let c0_i32_46 : BitVec 32 := 0#32
  let arg1 : BitVec 32 := BitVec.ofNat 32 (i 1).val
  let c1_i32 : BitVec 32 := 1#32
  let v3 : BitVec 32 := Scalar.addi arg1 c1_i32
  let v133 : BitVec 32 := Scalar.subi v3 c0_i32_46
  let c1_i32_47 : BitVec 32 := 1#32
  let v135 : BitVec 32 := Scalar.divsi v133 c1_i32_47
  let v136 : BitVec 32 := Scalar.muli v135 c1_i32_47
  let v137 : BitVec 32 := Scalar.addi c0_i32_46 v136
  let c1_i32_49 : BitVec 32 := 1#32
  let arg19 : BitVec 32 := Scf.iv v137 c1_i32_49 k0_t6
  let c256_i32_57 : BitVec 32 := 256#32
  let v166 : BitVec 32 := Scalar.muli arg19 c256_i32_57
  let v167 : BitVec 32 := v166
  let v184 : Index := Scalar.indexCast v167
  ![0, v183.toNat, v184.toNat]
def k0_off83 (k0_t2 : Fin k0_t2_loop.trips) : Fin 2 → Nat :=
  let c0_i32_2 : BitVec 32 := 0#32
  let c1_i32_3 : BitVec 32 := 1#32
  let arg18 : BitVec 32 := Scf.iv c0_i32_2 c1_i32_3 k0_t2
  let c0_i32_5 : BitVec 32 := 0#32
  let v17 : BitVec 1 := Scalar.cmpi .sgt arg18 c0_i32_5
  let v18 : BitVec 32 := Scalar.extui v17
  let c0_i32_6 : BitVec 32 := 0#32
  let v19 : BitVec 1 := Scalar.cmpi .slt arg18 c0_i32_6
  let v20 : BitVec 32 := Scalar.extui v19
  let v21 : BitVec 32 := Scalar.subi v18 v20
  let c3_i32 : BitVec 32 := 3#32
  let c0_i32_7 : BitVec 32 := 0#32
  let v22 : BitVec 1 := Scalar.cmpi .sgt c3_i32 c0_i32_7
  let v23 : BitVec 32 := Scalar.extui v22
  let c0_i32_8 : BitVec 32 := 0#32
  let v24 : BitVec 1 := Scalar.cmpi .slt c3_i32 c0_i32_8
  let v25 : BitVec 32 := Scalar.extui v24
  let v26 : BitVec 32 := Scalar.subi v23 v25
  let v27 : BitVec 1 := Scalar.cmpi .ne v21 v26
  let v28 : BitVec 32 := Scalar.remsi arg18 c3_i32
  let c0_i32_9 : BitVec 32 := 0#32
  let v29 : BitVec 1 := Scalar.cmpi .ne v28 c0_i32_9
  let v30 : BitVec 1 := Scalar.andi v27 v29
  let v16 : BitVec 32 := Scalar.divsi arg18 c3_i32
  let c1_i32_10 : BitVec 32 := 1#32
  let v31 : BitVec 32 := Scalar.subi v16 c1_i32_10
  let v32 : BitVec 32 := Scalar.select v30 v31 v16
  let v148 : Index := Scalar.indexCast v32
  let c0_52 : Index := 0#32
  ![v148.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S15 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x960x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x320x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x320x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x960x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x15x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x960x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x15x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x320x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x5x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x320x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x5x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "eight_ln2" => some ((8 * (Real.log 2) : ℝ) : EReal)
  | "log2e" => some (((Real.log 2)⁻¹ : ℝ) : EReal)
  | _ => none
-- ==== ReferenceIdeal.lean ====
abbrev S16x4096x960 : Shape := ⟨3, ![16, 4096, 960]⟩
abbrev S16x4096x320 : Shape := ⟨3, ![16, 4096, 320]⟩
abbrev S15 : Shape := ⟨1, ![15]⟩
abbrev S16x960x4096 : Shape := ⟨3, ![16, 960, 4096]⟩
abbrev S16x15x4096 : Shape := ⟨3, ![16, 15, 4096]⟩
abbrev S16x320x4096 : Shape := ⟨3, ![16, 320, 4096]⟩
abbrev S16x5x4096 : Shape := ⟨3, ![16, 5, 4096]⟩
abbrev S16x5x128 : Shape := ⟨3, ![16, 5, 128]⟩
abbrev S16x4096x5x3x64 : Shape := ⟨5, ![16, 4096, 5, 3, 64]⟩
abbrev S16x4096x5x3 : Shape := ⟨4, ![16, 4096, 5, 3]⟩
abbrev S16x4096x5x3x1 : Shape := ⟨5, ![16, 4096, 5, 3, 1]⟩
abbrev S16x4096x5x64 : Shape := ⟨4, ![16, 4096, 5, 64]⟩
abbrev S16x4096x5 : Shape := ⟨3, ![16, 4096, 5]⟩
abbrev S16x4096x5x1 : Shape := ⟨4, ![16, 4096, 5, 1]⟩
abbrev S16x5 : Shape := ⟨2, ![16, 5]⟩
abbrev S16x1x5x1 : Shape := ⟨4, ![16, 1, 5, 1]⟩
abbrev S5x3 : Shape := ⟨2, ![5, 3]⟩
abbrev S1x5x1x3 : Shape := ⟨4, ![1, 5, 1, 3]⟩
abbrev S16x5x1x1x1 : Shape := ⟨5, ![16, 5, 1, 1, 1]⟩
abbrev S16x5x4096x3x4096 : Shape := ⟨5, ![16, 5, 4096, 3, 4096]⟩
abbrev S16x5x4096x3 : Shape := ⟨4, ![16, 5, 4096, 3]⟩
abbrev S16x5x4096x3x1 : Shape := ⟨5, ![16, 5, 4096, 3, 1]⟩
abbrev S16x5x1x1x4096 : Shape := ⟨5, ![16, 5, 1, 1, 4096]⟩
abbrev S4096x4096 : Shape := ⟨2, ![4096, 4096]⟩
abbrev S1x1x4096x1x4096 : Shape := ⟨5, ![1, 1, 4096, 1, 4096]⟩
abbrev S16x5x4096x3x64 : Shape := ⟨5, ![16, 5, 4096, 3, 64]⟩
abbrev S1x1x4096x1 : Shape := ⟨4, ![1, 1, 4096, 1]⟩
abbrev S16x5x3x64x4096 : Shape := ⟨5, ![16, 5, 3, 64, 4096]⟩
abbrev S16x5x3x4096 : Shape := ⟨4, ![16, 5, 3, 4096]⟩
abbrev S16x5x64x4096 : Shape := ⟨4, ![16, 5, 64, 4096]⟩
abbrev S16x5x1 : Shape := ⟨3, ![16, 5, 1]⟩

abbrev nBuf : Space → Nat
  | .hbm => 12
  | .vmem => 12
  | .smem => 0
  | _ => 0

abbrev bufTy : (tb : Table) → Fin (tcTables nBuf tb) → BufTy
  | .hbm, ⟨0, _⟩ => ⟨S16x4096x960, .bf16⟩
  | .hbm, ⟨1, _⟩ => ⟨S16x4096x320, .bf16⟩
  | .hbm, ⟨2, _⟩ => ⟨S16x4096x320, .bf16⟩
  | .hbm, ⟨3, _⟩ => ⟨S15, .f32⟩
  | .hbm, ⟨4, _⟩ => ⟨S16x960x4096, .bf16⟩
  | .hbm, ⟨5, _⟩ => ⟨S16x15x4096, .f32⟩
  | .hbm, ⟨6, _⟩ => ⟨S16x960x4096, .fp8e4m3⟩
  | .hbm, ⟨7, _⟩ => ⟨S16x15x4096, .f32⟩
  | .hbm, ⟨8, _⟩ => ⟨S16x320x4096, .fp8e4m3⟩
  | .hbm, ⟨9, _⟩ => ⟨S16x5x4096, .f32⟩
  | .hbm, ⟨10, _⟩ => ⟨S16x320x4096, .fp8e4m3⟩
  | .hbm, ⟨11, _⟩ => ⟨S16x5x128, .f32⟩
  | .local _ .vmem, ⟨0, _⟩ => ⟨S16x4096x960, .bf16⟩
  | .local _ .vmem, ⟨1, _⟩ => ⟨S16x4096x320, .bf16⟩
  | .local _ .vmem, ⟨2, _⟩ => ⟨S16x4096x320, .bf16⟩
  | .local _ .vmem, ⟨3, _⟩ => ⟨S15, .f32⟩
  | .local _ .vmem, ⟨4, _⟩ => ⟨S16x960x4096, .bf16⟩
  | .local _ .vmem, ⟨5, _⟩ => ⟨S16x15x4096, .f32⟩
  | .local _ .vmem, ⟨6, _⟩ => ⟨S16x960x4096, .fp8e4m3⟩
  | .local _ .vmem, ⟨7, _⟩ => ⟨S16x15x4096, .f32⟩
  | .local _ .vmem, ⟨8, _⟩ => ⟨S16x320x4096, .fp8e4m3⟩
  | .local _ .vmem, ⟨9, _⟩ => ⟨S16x5x4096, .f32⟩
  | .local _ .vmem, ⟨10, _⟩ => ⟨S16x320x4096, .fp8e4m3⟩
  | .local _ .vmem, ⟨11, _⟩ => ⟨S16x5x128, .f32⟩
  | _, _ => ⟨S16x4096x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S16x4096x960 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x960x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x15x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x960x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x15x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x320x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x5x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x320x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x5x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelFrame.lean ====
/-
  The frame of `Kernel`: from any memory the program terminates without a fault, its argument arrays end
  unchanged and every semaphore counter ends at zero. Nothing is said here of what the results hold: every
  result window and every scratch buffer is carried at contents that are not named.
-/
module

public import proofs.«01_k».proof.Proof.Gen.Kernel.Frame
public import proofs.«01_k».proof.Proof.Gen.Kernel.Loops
public import proofs.«01_k».proof.Proof.Gen.Kernel.Skeleton

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop over the query heads -/

/-- Before and after every trip of the loop over the query heads: the sinks and the query block as they were, and every
    buffer the loop writes or reads besides held at some contents. -/
@[sl_loop] def loopInv_k0_t2 (c : Dev nD) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole) (v3 : BitVec 32) (X_arg2 : BufTy.Contents (Elt F) arg2.view.ty) (X_arg3 : BufTy.Contents (Elt F) arg3.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 where
  inv _ _ := iprop((arg2.view.loc (c : Thread nD τ) ↦[arg2.view.set]{fullShare} X_arg2) ∗ (arg3.view.loc (c : Thread nD τ) ↦[arg3.view.set]{fullShare} X_arg3) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg17.view.loc (c : Thread nD τ) ↦[arg17.view.set]{fullShare} f)) ∗ (∃ f, (arg12.view.loc (c : Thread nD τ) ↦[arg12.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))
  step k acc := by
    unfold k0_t2_body
    simp only [k0_part47_eq_skeleton, k0_part48_eq_skeleton, k0_part49_eq_skeleton]
    iintro ⟨Harg2, Harg3, ⟨%f_arg6, Harg6⟩, ⟨%f_arg7, Harg7⟩, ⟨%f_arg8, Harg8⟩, ⟨%f_arg9, Harg9⟩, ⟨%f_arg17, Harg17⟩, ⟨%f_arg12, Harg12⟩, ⟨%f_arg14, Harg14⟩, ⟨%f_arg15, Harg15⟩, ⟨%f_arg16, Harg16⟩⟩
    sl_exec
    sl_step
    isplitl [Harg2]; · iexact Harg2
    isplitl [Harg3]; · iexact Harg3
    isplitl [Harg6]; · iexists _; iexact Harg6
    isplitl [Harg7]; · iexists _; iexact Harg7
    isplitl [Harg8]; · iexists _; iexact Harg8
    isplitl [Harg9]; · iexists _; iexact Harg9
    isplitl [Harg17]; · iexists _; iexact Harg17
    isplitl [Harg12]; · iexists _; iexact Harg12
    isplitl [Harg14]; · iexists _; iexact Harg14
    isplitl [Harg15]; · iexists _; iexact Harg15
    iexists _; iexact Harg16

/-! ## The body -/

set_option maxHeartbeats 4000000 in
/-- The kernel body on whole buffers, the four inputs' at contents that are named and the rest at any, runs to the
    continuation holding the inputs as they were and the rest at some contents. -/
theorem sound_kernel (c : Dev nD) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole) (x_arg2 : Vec F S15 .f32) (x_arg3 : Vec F S1x960x256 .bf16) (x_arg4 : Vec F S1x320x4096 .bf16) (x_arg5 : Vec F S1x320x4096 .bf16) (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ (cc0_fp8_gqa_sinks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_fp8_gqa_sinks_eq_skeleton]; unfold cc0_fp8_gqa_sinks_skel
  unfold owns
  iintro ⟨⟨%f_arg2, %hf_arg2, Harg2⟩, ⟨%f_arg3, %hf_arg3, Harg3⟩, ⟨%f_arg4, %hf_arg4, Harg4⟩, ⟨%f_arg5, %hf_arg5, Harg5⟩, ⟨%d_arg6, %f_arg6, -, Harg6⟩, ⟨%d_arg7, %f_arg7, -, Harg7⟩, ⟨%d_arg8, %f_arg8, -, Harg8⟩, ⟨%d_arg9, %f_arg9, -, Harg9⟩, ⟨%d_arg10, %f_arg10, -, Harg10⟩, ⟨%d_arg11, %f_arg11, -, Harg11⟩, ⟨%d_arg12, %f_arg12, -, Harg12⟩, ⟨%d_arg13, %f_arg13, -, Harg13⟩, ⟨%d_arg14, %f_arg14, -, Harg14⟩, ⟨%d_arg15, %f_arg15, -, Harg15⟩, ⟨%d_arg16, %f_arg16, -, Harg16⟩, ⟨%d_arg17, %f_arg17, -, Harg17⟩, Hk⟩
  subst hf_arg2 hf_arg3 hf_arg4 hf_arg5
  by_cases hc : k0_cond1 i = 1#1
  · sl_exec
    sl_step
    iapply Hk
    isplitl [Harg2]
    · iexists f_arg2; isplitr; · ipureintro; rfl
      iexact Harg2
    isplitl [Harg3]
    · iexists f_arg3; isplitr; · ipureintro; rfl
      iexact Harg3
    isplitl [Harg4]
    · iexists f_arg4; isplitr; · ipureintro; rfl
      iexact Harg4
    isplitl [Harg5]
    · iexists f_arg5; isplitr; · ipureintro; rfl
      iexact Harg5
    isplitl [Harg6]
    · iexists _; iexists _; isplitr; swap; · iexact Harg6
      ipureintro; rfl
    isplitl [Harg7]
    · iexists _; iexists _; isplitr; swap; · iexact Harg7
      ipureintro; rfl
    isplitl [Harg8]
    · iexists _; iexists _; isplitr; swap; · iexact Harg8
      ipureintro; rfl
    isplitl [Harg9]
    · iexists _; iexists _; isplitr; swap; · iexact Harg9
      ipureintro; rfl
    isplitl [Harg10]
    · iexists _; iexists _; isplitr; swap; · iexact Harg10
      ipureintro; rfl
    isplitl [Harg11]
    · iexists _; iexists _; isplitr; swap; · iexact Harg11
      ipureintro; rfl
    isplitl [Harg12]
    · iexists _; iexists _; isplitr; swap; · iexact Harg12
      ipureintro; rfl
    isplitl [Harg13]
    · iexists _; iexists _; isplitr; swap; · iexact Harg13
      ipureintro; rfl
    isplitl [Harg14]
    · iexists _; iexists _; isplitr; swap; · iexact Harg14
      ipureintro; rfl
    isplitl [Harg15]
    · iexists _; iexists _; isplitr; swap; · iexact Harg15
      ipureintro; rfl
    isplitl [Harg16]
    · iexists _; iexists _; isplitr; swap; · iexact Harg16
      ipureintro; rfl
    iexists _; iexists _; isplitr; swap; · iexact Harg17
    ipureintro; rfl
  · sl_exec
    sl_step
    iapply Hk
    isplitl [Harg2]
    · iexists f_arg2; isplitr; · ipureintro; rfl
      iexact Harg2
    isplitl [Harg3]
    · iexists f_arg3; isplitr; · ipureintro; rfl
      iexact Harg3
    isplitl [Harg4]
    · iexists f_arg4; isplitr; · ipureintro; rfl
      iexact Harg4
    isplitl [Harg5]
    · iexists f_arg5; isplitr; · ipureintro; rfl
      iexact Harg5
    isplitl [Harg6]
    · iexists _; iexists _; isplitr; swap; · iexact Harg6
      ipureintro; rfl
    isplitl [Harg7]
    · iexists _; iexists _; isplitr; swap; · iexact Harg7
      ipureintro; rfl
    isplitl [Harg8]
    · iexists _; iexists _; isplitr; swap; · iexact Harg8
      ipureintro; rfl
    isplitl [Harg9]
    · iexists _; iexists _; isplitr; swap; · iexact Harg9
      ipureintro; rfl
    isplitl [Harg10]
    · iexists _; iexists _; isplitr; swap; · iexact Harg10
      ipureintro; rfl
    isplitl [Harg11]
    · iexists _; iexists _; isplitr; swap; · iexact Harg11
      ipureintro; rfl
    isplitl [Harg12]
    · iexists _; iexists _; isplitr; swap; · iexact Harg12
      ipureintro; rfl
    isplitl [Harg13]
    · iexists _; iexists _; isplitr; swap; · iexact Harg13
      ipureintro; rfl
    isplitl [Harg14]
    · iexists _; iexists _; isplitr; swap; · iexact Harg14
      ipureintro; rfl
    isplitl [Harg15]
    · iexists _; iexists _; isplitr; swap; · iexact Harg15
      ipureintro; rfl
    isplitl [Harg16]
    · iexists _; iexists _; isplitr; swap; · iexact Harg16
      ipureintro; rfl
    iexists _; iexists _; isplitr; swap; · iexact Harg17
    ipureintro; rfl

/-! ## The pipeline's proof data -/

variable (m : (ℓ : Loc nD τ sig) → Buf (Elt F) ℓ) (ρ : Dev nD → PrngReg)

/-- The windows whose contents are not named: the eight results'. -/
def fgt (w : Fin cfg0.W) : Bool := decide (4 ≤ w.val)

/-- The arrays as the region finds them, each input's buffer at its block after the body, the results' at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (cfg := cfg0) 4 t
    | ⟨5, _⟩ => Dat.unnamed (cfg := cfg0) 5 t
    | ⟨6, _⟩ => Dat.unnamed (cfg := cfg0) 6 t
    | ⟨7, _⟩ => Dat.unnamed (cfg := cfg0) 7 t
    | ⟨8, _⟩ => Dat.unnamed (cfg := cfg0) 8 t
    | ⟨9, _⟩ => Dat.unnamed (cfg := cfg0) 9 t
    | ⟨10, _⟩ => Dat.unnamed (cfg := cfg0) 10 t
    | ⟨11, _⟩ => Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

set_option maxHeartbeats 1000000 in
/-- The body at any point: the inputs' buffers hold their blocks, so `sound_kernel` applies; the scratch buffers
    come out of the invariant and go back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [← owns_whole]
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c (grid0.coords t) _ _ _ _ _ _ _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexists _; iexact S0
  isplitl [S1]; · iexists _; iexact S1
  isplitl [S2]; · iexists _; iexact S2
  isplitl [S3]; · iexists _; iexact S3
  iintro ⟨H0, H1, H2, H3, H4, H5, H6, H7, H8, H9, H10, H11, S0, S1, S2, S3⟩
  isplitl [S0 S1 S2 S3 Hr]
  · isplitr [Hr]
    · isplitl [S0]; · iexact S0
      isplitl [S1]; · iexact S1
      isplitl [S2]; · iexact S2
      iexact S3
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every execution terminates, the inputs' arrays hold what the region found in them, and every semaphore
    counter is zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 0 rfl).trans ((A_eq m c 0).trans (V_main_arg3 m c))⟩, h.2⟩)
    (run_main_quiescent m ρ)

end Cert.Proof.KernelFrame

end
-- ==== Proof.KernelIdealFrame.lean ====
/-
  The frame of `KernelIdeal`: from any memory the program terminates without a fault, its argument arrays end
  unchanged and every semaphore counter ends at zero. Nothing is said here of what the results hold: every
  result window and every scratch buffer is carried at contents that are not named.
-/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The loop over the query heads -/

/-- Before and after every trip of the loop over the query heads: the sinks and the query block as they were, and every
    buffer the loop writes or reads besides held at some contents. -/
@[sl_loop] def loopInv_k0_t2 (c : Dev nD) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole) (v3 : BitVec 32) (X_arg2 : BufTy.Contents (Elt F) arg2.view.ty) (X_arg3 : BufTy.Contents (Elt F) arg3.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 where
  inv _ _ := iprop((arg2.view.loc (c : Thread nD τ) ↦[arg2.view.set]{fullShare} X_arg2) ∗ (arg3.view.loc (c : Thread nD τ) ↦[arg3.view.set]{fullShare} X_arg3) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg17.view.loc (c : Thread nD τ) ↦[arg17.view.set]{fullShare} f)) ∗ (∃ f, (arg12.view.loc (c : Thread nD τ) ↦[arg12.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))
  step k acc := by
    unfold k0_t2_body
    simp only [k0_part47_eq_skeleton, k0_part48_eq_skeleton, k0_part49_eq_skeleton]
    iintro ⟨Harg2, Harg3, ⟨%f_arg6, Harg6⟩, ⟨%f_arg7, Harg7⟩, ⟨%f_arg8, Harg8⟩, ⟨%f_arg9, Harg9⟩, ⟨%f_arg17, Harg17⟩, ⟨%f_arg12, Harg12⟩, ⟨%f_arg14, Harg14⟩, ⟨%f_arg15, Harg15⟩, ⟨%f_arg16, Harg16⟩⟩
    sl_exec
    sl_step
    isplitl [Harg2]; · iexact Harg2
    isplitl [Harg3]; · iexact Harg3
    isplitl [Harg6]; · iexists _; iexact Harg6
    isplitl [Harg7]; · iexists _; iexact Harg7
    isplitl [Harg8]; · iexists _; iexact Harg8
    isplitl [Harg9]; · iexists _; iexact Harg9
    isplitl [Harg17]; · iexists _; iexact Harg17
    isplitl [Harg12]; · iexists _; iexact Harg12
    isplitl [Harg14]; · iexists _; iexact Harg14
    isplitl [Harg15]; · iexists _; iexact Harg15
    iexists _; iexact Harg16

/-! ## The body -/

set_option maxHeartbeats 4000000 in
/-- The kernel body on whole buffers, the four inputs' at contents that are named and the rest at any, runs to the
    continuation holding the inputs as they were and the rest at some contents. -/
theorem sound_kernel (c : Dev nD) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole) (x_arg2 : Vec F S15 .f32) (x_arg3 : Vec F S1x960x256 .bf16) (x_arg4 : Vec F S1x320x4096 .bf16) (x_arg5 : Vec F S1x320x4096 .bf16) (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ (cc0_fp8_gqa_sinks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_fp8_gqa_sinks_eq_skeleton]; unfold cc0_fp8_gqa_sinks_skel
  unfold owns
  iintro ⟨⟨%f_arg2, %hf_arg2, Harg2⟩, ⟨%f_arg3, %hf_arg3, Harg3⟩, ⟨%f_arg4, %hf_arg4, Harg4⟩, ⟨%f_arg5, %hf_arg5, Harg5⟩, ⟨%d_arg6, %f_arg6, -, Harg6⟩, ⟨%d_arg7, %f_arg7, -, Harg7⟩, ⟨%d_arg8, %f_arg8, -, Harg8⟩, ⟨%d_arg9, %f_arg9, -, Harg9⟩, ⟨%d_arg10, %f_arg10, -, Harg10⟩, ⟨%d_arg11, %f_arg11, -, Harg11⟩, ⟨%d_arg12, %f_arg12, -, Harg12⟩, ⟨%d_arg13, %f_arg13, -, Harg13⟩, ⟨%d_arg14, %f_arg14, -, Harg14⟩, ⟨%d_arg15, %f_arg15, -, Harg15⟩, ⟨%d_arg16, %f_arg16, -, Harg16⟩, ⟨%d_arg17, %f_arg17, -, Harg17⟩, Hk⟩
  subst hf_arg2 hf_arg3 hf_arg4 hf_arg5
  by_cases hc : k0_cond1 i = 1#1
  · sl_exec
    sl_step
    iapply Hk
    isplitl [Harg2]
    · iexists f_arg2; isplitr; · ipureintro; rfl
      iexact Harg2
    isplitl [Harg3]
    · iexists f_arg3; isplitr; · ipureintro; rfl
      iexact Harg3
    isplitl [Harg4]
    · iexists f_arg4; isplitr; · ipureintro; rfl
      iexact Harg4
    isplitl [Harg5]
    · iexists f_arg5; isplitr; · ipureintro; rfl
      iexact Harg5
    isplitl [Harg6]
    · iexists _; iexists _; isplitr; swap; · iexact Harg6
      ipureintro; rfl
    isplitl [Harg7]
    · iexists _; iexists _; isplitr; swap; · iexact Harg7
      ipureintro; rfl
    isplitl [Harg8]
    · iexists _; iexists _; isplitr; swap; · iexact Harg8
      ipureintro; rfl
    isplitl [Harg9]
    · iexists _; iexists _; isplitr; swap; · iexact Harg9
      ipureintro; rfl
    isplitl [Harg10]
    · iexists _; iexists _; isplitr; swap; · iexact Harg10
      ipureintro; rfl
    isplitl [Harg11]
    · iexists _; iexists _; isplitr; swap; · iexact Harg11
      ipureintro; rfl
    isplitl [Harg12]
    · iexists _; iexists _; isplitr; swap; · iexact Harg12
      ipureintro; rfl
    isplitl [Harg13]
    · iexists _; iexists _; isplitr; swap; · iexact Harg13
      ipureintro; rfl
    isplitl [Harg14]
    · iexists _; iexists _; isplitr; swap; · iexact Harg14
      ipureintro; rfl
    isplitl [Harg15]
    · iexists _; iexists _; isplitr; swap; · iexact Harg15
      ipureintro; rfl
    isplitl [Harg16]
    · iexists _; iexists _; isplitr; swap; · iexact Harg16
      ipureintro; rfl
    iexists _; iexists _; isplitr; swap; · iexact Harg17
    ipureintro; rfl
  · sl_exec
    sl_step
    iapply Hk
    isplitl [Harg2]
    · iexists f_arg2; isplitr; · ipureintro; rfl
      iexact Harg2
    isplitl [Harg3]
    · iexists f_arg3; isplitr; · ipureintro; rfl
      iexact Harg3
    isplitl [Harg4]
    · iexists f_arg4; isplitr; · ipureintro; rfl
      iexact Harg4
    isplitl [Harg5]
    · iexists f_arg5; isplitr; · ipureintro; rfl
      iexact Harg5
    isplitl [Harg6]
    · iexists _; iexists _; isplitr; swap; · iexact Harg6
      ipureintro; rfl
    isplitl [Harg7]
    · iexists _; iexists _; isplitr; swap; · iexact Harg7
      ipureintro; rfl
    isplitl [Harg8]
    · iexists _; iexists _; isplitr; swap; · iexact Harg8
      ipureintro; rfl
    isplitl [Harg9]
    · iexists _; iexists _; isplitr; swap; · iexact Harg9
      ipureintro; rfl
    isplitl [Harg10]
    · iexists _; iexists _; isplitr; swap; · iexact Harg10
      ipureintro; rfl
    isplitl [Harg11]
    · iexists _; iexists _; isplitr; swap; · iexact Harg11
      ipureintro; rfl
    isplitl [Harg12]
    · iexists _; iexists _; isplitr; swap; · iexact Harg12
      ipureintro; rfl
    isplitl [Harg13]
    · iexists _; iexists _; isplitr; swap; · iexact Harg13
      ipureintro; rfl
    isplitl [Harg14]
    · iexists _; iexists _; isplitr; swap; · iexact Harg14
      ipureintro; rfl
    isplitl [Harg15]
    · iexists _; iexists _; isplitr; swap; · iexact Harg15
      ipureintro; rfl
    isplitl [Harg16]
    · iexists _; iexists _; isplitr; swap; · iexact Harg16
      ipureintro; rfl
    iexists _; iexists _; isplitr; swap; · iexact Harg17
    ipureintro; rfl

/-! ## The pipeline's proof data -/

variable (m : (ℓ : Loc nD τ sig) → Buf (Elt F) ℓ) (ρ : Dev nD → PrngReg)

/-- The windows whose contents are not named: the eight results'. -/
def fgt (w : Fin cfg0.W) : Bool := decide (4 ≤ w.val)

/-- The arrays as the region finds them, each input's buffer at its block after the body, the results' at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (cfg := cfg0) 4 t
    | ⟨5, _⟩ => Dat.unnamed (cfg := cfg0) 5 t
    | ⟨6, _⟩ => Dat.unnamed (cfg := cfg0) 6 t
    | ⟨7, _⟩ => Dat.unnamed (cfg := cfg0) 7 t
    | ⟨8, _⟩ => Dat.unnamed (cfg := cfg0) 8 t
    | ⟨9, _⟩ => Dat.unnamed (cfg := cfg0) 9 t
    | ⟨10, _⟩ => Dat.unnamed (cfg := cfg0) 10 t
    | ⟨11, _⟩ => Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

set_option maxHeartbeats 1000000 in
/-- The body at any point: the inputs' buffers hold their blocks, so `sound_kernel` applies; the scratch buffers
    come out of the invariant and go back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [← owns_whole]
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c (grid0.coords t) _ _ _ _ _ _ _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexists _; iexact S0
  isplitl [S1]; · iexists _; iexact S1
  isplitl [S2]; · iexists _; iexact S2
  isplitl [S3]; · iexists _; iexact S3
  iintro ⟨H0, H1, H2, H3, H4, H5, H6, H7, H8, H9, H10, H11, S0, S1, S2, S3⟩
  isplitl [S0 S1 S2 S3 Hr]
  · isplitr [Hr]
    · isplitl [S0]; · iexact S0
      isplitl [S1]; · iexact S1
      isplitl [S2]; · iexact S2
      iexact S3
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every execution terminates, the inputs' arrays hold what the region found in them, and every semaphore
    counter is zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 0 rfl).trans ((A_eq m c 0).trans (V_main_arg3 m c))⟩, h.2⟩)
    (run_main_quiescent m ρ)

end Cert.Proof.KernelIdealFrame

end
-- ==== Proof.Scalar.lean ====
/-
  The power-of-two scale of a maximum `a`, at the ideal instance: the kernel's, put together from an exponent field, and
  the reference's, a power of two, are one real number wherever `a` is zero or neither tiny nor infinite.
-/
module

public import Idealize.ShloMosaic.PureOps.Ideal

@[expose] public section

set_option maxRecDepth 16384

noncomputable section

namespace Cert.Proof.Scalar

open Idealize.ShloMosaic

/-- The f32 nearest 1/448, both programs' factor on the maximum. -/
def c448 : EReal := Ideal.ofBits .f32 0x3B124925#32

/-- One over the logarithm of two, what the named constant stands for. -/
def log2e : EReal := (((Real.log 2)⁻¹ : ℝ) : EReal)

/-- The floor of the base-two logarithm of `a / 448`. -/
def lg (a : EReal) : EReal := Ideal.liftRound Int.floor (Ideal.log (a * c448) * log2e)

/-- The kernel's exponent word of the maximum `a`: biased by 127, zero at least. -/
def kexpo (a : EReal) : BitVec 32 :=
  Ideal.fptosi 32 (max (lg a + Ideal.ofBits .f32 0x42FE0000#32) (Ideal.ofBits .f32 0x00000000#32))

/-- The kernel's exponent field of the scale. -/
def kbias (a : EReal) : BitVec 32 := if kexpo a = 0#32 then 127#32 else kexpo a + 1#32

/-- The kernel's scale and its inverse. -/
def kscale (a : EReal) : EReal := Ideal.ieee 8 23 (kbias a <<< 23)
def kinv (a : EReal) : EReal := Ideal.ieee 8 23 ((254#32 - kbias a) <<< 23)

/-- The reference's exponent, scale and inverse. -/
def rexp (a : EReal) : EReal := if a = 0 then 0 else lg a + 1
def rscale (a : EReal) : EReal := Ideal.exp2 (rexp a)
def rinv (a : EReal) : EReal := Ideal.exp2 (0 - rexp a)

theorem c448_eq : c448 = ((9586981 / 4294967296 : ℝ) : EReal) := by
  show Ideal.ieee 8 23 0x3B124925#32 = _
  unfold Ideal.ieee
  rw [show (BitVec.extractLsb' (8 + 23) 1 0x3B124925#32 == 1#1) = false by decide,
    show (BitVec.extractLsb' 23 8 0x3B124925#32).toNat = 118 by decide,
    show (BitVec.extractLsb' 0 23 0x3B124925#32).toNat = 1198373 by decide]
  norm_num [zpow_neg, zpow_ofNat]

theorem f127_eq : Ideal.ofBits .f32 0x42FE0000#32 = ((127 : ℝ) : EReal) := by
  show Ideal.ieee 8 23 0x42FE0000#32 = _
  unfold Ideal.ieee
  rw [show (BitVec.extractLsb' (8 + 23) 1 0x42FE0000#32 == 1#1) = false by decide,
    show (BitVec.extractLsb' 23 8 0x42FE0000#32).toNat = 133 by decide,
    show (BitVec.extractLsb' 0 23 0x42FE0000#32).toNat = 8257536 by decide]
  norm_num [zpow_neg, zpow_ofNat]

theorem f0_eq : Ideal.ofBits .f32 0x00000000#32 = 0 := by
  show Ideal.ieee 8 23 0x00000000#32 = _
  unfold Ideal.ieee
  rw [show (BitVec.extractLsb' (8 + 23) 1 0x00000000#32 == 1#1) = false by decide,
    show (BitVec.extractLsb' 23 8 0x00000000#32).toNat = 0 by decide,
    show (BitVec.extractLsb' 0 23 0x00000000#32).toNat = 0 by decide]
  norm_num

theorem field_bits : ∀ n : Fin 256, ((BitVec.ofNat 32 n.val <<< 23).extractLsb' (8 + 23) 1 == 1#1) = false
    ∧ ((BitVec.ofNat 32 n.val <<< 23).extractLsb' 23 8).toNat = n.val
    ∧ ((BitVec.ofNat 32 n.val <<< 23).extractLsb' 0 23).toNat = 0 := by decide +kernel

/-- An exponent field alone is a power of two. -/
theorem ieee_field (n : ℕ) (h0 : 1 ≤ n) (h1 : n ≤ 254) :
    Ideal.ieee 8 23 (BitVec.ofNat 32 n <<< 23) = (((2 : ℝ) ^ ((n : ℤ) - 127) : ℝ) : EReal) := by
  obtain ⟨e1, e2, e3⟩ := field_bits ⟨n, by omega⟩
  dsimp only at e1 e2 e3
  unfold Ideal.ieee
  rw [e1, e2, e3]
  dsimp only
  have a1 : ¬ n = 2 ^ 8 - 1 := by omega
  have a2 : ¬ n = 0 := by omega
  rw [if_neg a1, if_neg a2]
  have : ((n : ℤ) - 127) = 23 + ((n : ℤ) - (2 ^ (8 - 1) - 1) - (23 : ℕ)) := by push_cast; ring
  refine congrArg _ ?_
  rw [this, zpow_add₀ (two_ne_zero)]
  refine congrArg₂ _ ?_ rfl
  norm_num

theorem log2_pos : 0 < Real.log 2 := Real.log_pos (by norm_num)

theorem lg_coe (r : ℝ) (h : 0 < r) :
    lg (r : EReal) = (((⌊Real.log (r * (9586981 / 4294967296)) * (Real.log 2)⁻¹⌋ : ℤ) : ℝ) : EReal) := by
  unfold lg log2e
  rw [c448_eq, ← EReal.coe_mul]
  have hp : 0 < r * (9586981 / 4294967296) := by positivity
  show Ideal.liftRound Int.floor ((if r * (9586981 / 4294967296) ≤ 0 then (⊥ : EReal) else _) * _) = _
  rw [if_neg (not_le.mpr hp), ← EReal.coe_mul]
  rfl

theorem lg_zero : lg 0 = ⊥ := by
  unfold lg log2e
  rw [zero_mul, ← EReal.coe_zero]
  show Ideal.liftRound Int.floor ((if (0 : ℝ) ≤ 0 then (⊥ : EReal) else _) * _) = _
  rw [if_pos le_rfl, EReal.bot_mul_coe_of_pos (inv_pos.mpr log2_pos)]
  rfl

/-- What the scale of the maximum `a` and its inverse are, in both programs: `2 ^ n` and `2 ^ (-n)`. -/
def Pow (a : EReal) (n : ℤ) : Prop :=
  kscale a = (((2 : ℝ) ^ n : ℝ) : EReal) ∧ rscale a = (((2 : ℝ) ^ n : ℝ) : EReal)
    ∧ kinv a = (((2 : ℝ) ^ (-n) : ℝ) : EReal) ∧ rinv a = (((2 : ℝ) ^ (-n) : ℝ) : EReal)

theorem exp2_int (n : ℤ) : Ideal.exp2 (((n : ℝ)) : EReal) = (((2 : ℝ) ^ n : ℝ) : EReal) := by
  show ((Real.rpow 2 (n : ℝ) : ℝ) : EReal) = _
  rw [Real.rpow_eq_pow, Real.rpow_intCast]

theorem pow_zero : Pow 0 0 := by
  have hk : kexpo 0 = 0#32 := by
    unfold kexpo
    rw [lg_zero, f0_eq, EReal.bot_add, max_eq_right bot_le, ← EReal.coe_zero]
    unfold Ideal.fptosi
    rw [Ideal.toIntClamped_coe]
    norm_num
  have hb : kbias 0 = BitVec.ofNat 32 127 := by unfold kbias; rw [if_pos hk]
  have hs : kscale 0 = (((2 : ℝ) ^ (0 : ℤ) : ℝ) : EReal) := by
    unfold kscale; rw [hb, ieee_field 127 (by norm_num) (by norm_num)]; norm_num
  have hi : kinv 0 = (((2 : ℝ) ^ (-0 : ℤ) : ℝ) : EReal) := by
    unfold kinv; rw [hb, show (254#32 - BitVec.ofNat 32 127) = BitVec.ofNat 32 127 by decide,
      ieee_field 127 (by norm_num) (by norm_num)]; norm_num
  refine ⟨hs, ?_, hi, ?_⟩
  · unfold rscale rexp; rw [if_pos rfl]
    have := exp2_int 0; simpa using this
  · unfold rinv rexp; rw [if_pos rfl]
    have := exp2_int 0; simpa using this

theorem pow_of_floor (r : ℝ) (hr : 0 < r) (n : ℤ) (hn : ⌊Real.log (r * (9586981 / 4294967296)) * (Real.log 2)⁻¹⌋ = n)
    (h0 : -126 ≤ n) (h1 : n ≤ 125) : Pow (r : EReal) (n + 1) := by
  have hl : lg (r : EReal) = ((n : ℝ) : EReal) := by rw [lg_coe r hr, hn]
  have hne : (r : EReal) ≠ 0 := by rw [← EReal.coe_zero]; exact fun h => hr.ne' (EReal.coe_injective h)
  obtain ⟨N, hN⟩ : ∃ N : ℕ, (N : ℤ) = n + 127 := ⟨(n + 127).toNat, by omega⟩
  have hk : kexpo r = BitVec.ofNat 32 N := by
    unfold kexpo
    rw [hl, f127_eq, f0_eq, ← EReal.coe_add, max_eq_left]
    · unfold Ideal.fptosi
      rw [Ideal.toIntClamped_coe]
      have e : ((n : ℝ) + 127) = ((N : ℤ) : ℝ) := by rw [hN]; push_cast; ring
      rw [e, Int.floor_intCast, Int.ceil_intCast, ite_self, max_eq_right, min_eq_right]
      · exact BitVec.ofInt_natCast ..
      · norm_num <;> omega
      · norm_num <;> omega
    · rw [← EReal.coe_zero, EReal.coe_le_coe_iff]
      have : (-126 : ℝ) ≤ n := by exact_mod_cast h0
      linarith
  have hb : kbias r = BitVec.ofNat 32 (N + 1) := by
    unfold kbias
    rw [hk, if_neg, BitVec.ofNat_add]
    intro h
    have := congrArg BitVec.toNat h
    simp only [BitVec.toNat_ofNat] at this
    omega
  refine ⟨?_, ?_, ?_, ?_⟩
  · unfold kscale; rw [hb, ieee_field _ (by omega) (by omega)]
    congr 2; push_cast; omega
  · unfold rscale rexp; rw [if_neg hne, hl]
    have := exp2_int (n + 1); rw [← this]; push_cast; rfl
  · unfold kinv
    have : (254#32 - kbias r) = BitVec.ofNat 32 (254 - (N + 1)) := by
      rw [hb]; apply BitVec.eq_of_toNat_eq
      simp only [BitVec.toNat_sub, BitVec.toNat_ofNat]; omega
    rw [this, ieee_field _ (by omega) (by omega)]
    congr 2; push_cast; omega
  · unfold rinv rexp; rw [if_neg hne, hl]
    have := exp2_int (-(n + 1)); rw [← this]; congr 1
    rw [zero_sub]; push_cast; rfl

theorem floor_ge (r : ℝ) (k : ℤ) (h : (2 : ℝ) ^ (k + 9) ≤ r) : k ≤ ⌊Real.log (r * (9586981 / 4294967296)) * (Real.log 2)⁻¹⌋ := by
  have hp : (0 : ℝ) < 2 ^ (k + 9) := by positivity
  have hr : 0 < r := lt_of_lt_of_le hp h
  rw [Int.le_floor, ← div_eq_mul_inv, le_div_iff₀ log2_pos, ← Real.log_zpow]
  refine Real.log_le_log (by positivity) ?_
  have : (2 : ℝ) ^ k = 2 ^ (k + 9) * (1 / 512) := by
    rw [zpow_add₀ (by norm_num)]; norm_num [mul_assoc]
  rw [this]
  calc (2 : ℝ) ^ (k + 9) * (1 / 512) ≤ r * (1 / 512) := by gcongr
    _ ≤ _ := mul_le_mul_of_nonneg_left (by norm_num) hr.le

theorem floor_le (r : ℝ) (hr : 0 < r) (k : ℤ) (h : r ≤ (2 : ℝ) ^ (k + 9)) :
    ⌊Real.log (r * (9586981 / 4294967296)) * (Real.log 2)⁻¹⌋ ≤ k := by
  have : ⌊Real.log (r * (9586981 / 4294967296)) * (Real.log 2)⁻¹⌋ < k + 1 := by
    rw [Int.floor_lt, ← div_eq_mul_inv, div_lt_iff₀ log2_pos, ← Real.log_zpow]
    refine Real.log_lt_log (by positivity) ?_
    have e : (2 : ℝ) ^ (k + 1) = 2 ^ (k + 9) * (1 / 256) := by
      rw [zpow_add₀ (by norm_num), zpow_add₀ (by norm_num)]; norm_num [mul_assoc]
    rw [e]
    have hp : (0 : ℝ) < 2 ^ (k + 9) := by positivity
    calc r * (9586981 / 4294967296) ≤ 2 ^ (k + 9) * (9586981 / 4294967296) := by gcongr
      _ < _ := mul_lt_mul_of_pos_left (by norm_num) hp
  omega

/-- A magnitude a scale is right for: zero, or between `2 ^ k` and `2 ^ 128`. -/
def Tame (k : ℤ) (a : EReal) : Prop := a = 0 ∨ ∃ r : ℝ, a = (r : EReal) ∧ (2 : ℝ) ^ k ≤ r ∧ r ≤ (2 : ℝ) ^ (128 : ℤ)

/-- Both scales of a tame maximum are one power of two, of an exponent that `k` bounds from below. -/
theorem pow_of_tame (k : ℤ) (hk : -117 ≤ k) (hk' : k ≤ 0) (a : EReal) (h : Tame k a) : ∃ n, Pow a n ∧ k - 8 ≤ n ∧ n ≤ 120 := by
  rcases h with rfl | ⟨r, rfl, h1, h2⟩
  · exact ⟨0, pow_zero, by omega, by norm_num⟩
  · have hr : 0 < r := lt_of_lt_of_le (by positivity) h1
    have a1 := floor_ge r (k - 9) (by rwa [sub_add_cancel])
    have a2 := floor_le r hr 119 (by norm_num at h2 ⊢; exact h2)
    exact ⟨_, pow_of_floor r hr _ rfl (by omega) (by omega), by omega, by omega⟩

end Cert.Proof.Scalar

end
-- ==== Proof.Spec.lean ====
/-
  What the kernel computes for one query head and one query, written over plain functions: the query row `x`, the codes `kt`
  and eighth scales `kb` of the keys, the codes `vc` of the values, the value scale `vm` and the head's sink.
-/
module

public import proofs.«01_k».proof.Proof.Scalar

@[expose] public section

set_option maxRecDepth 16384

noncomputable section

namespace Cert.Proof.Spec

open Idealize.ShloMosaic Cert.Proof.Scalar

/-- The magnitude of an extended real. -/
def mag (y : EReal) : EReal := max y (-y)

/-- The greatest magnitude in a row of 64. -/
def amax (x : Fin 64 → EReal) : EReal := Finset.univ.sup fun d => mag (x d)

/-- `y` held between -448 and 448. -/
def clip (y : EReal) : EReal := min (Ideal.ofBits .f32 0x43E00000#32) (max (Ideal.ofBits .f32 0xC3E00000#32) y)

/-- The code of an element with the kernel's inverse scale for the maximum `a`. -/
def kcode (a y : EReal) : EReal := clip (y * kinv a)

section head

variable (q : ℕ) (x : Fin 64 → EReal) (kt : Fin 4096 → Fin 64 → EReal) (kb : Fin 4096 → EReal)
  (vc : Fin 64 → Fin 4096 → EReal) (vm sink : EReal)

/-- The score of key `n`, before the query's scale and the mask. -/
def kraw (n : Fin 4096) : EReal := (∑ d, kt n d * kcode (amax x) (x d)) * kb n

/-- The score of key `n`, `-∞` where the query does not see it. -/
def kscore (n : Fin 4096) : EReal := if n.val ≤ q then kraw x kt kb n else ⊥

/-- The row's maximum, the sink counted. -/
def kmax : EReal := max ((Finset.univ.sup (kscore q x kt kb)) * kscale (amax x)) sink

/-- The query's scale, held from below. -/
def kfloor : EReal := max (kscale (amax x)) (Ideal.ofBits .f32 0x0D800000#32)

/-- The shifted maximum in units of the query's scale. -/
def kshift : EReal := Ideal.div (kmax q x kt kb sink) (kfloor x) - Ideal.div ((8 * Real.log 2 : ℝ) : EReal) (kfloor x)

/-- The weight of key `n`, 256 times too large. -/
def kprob (n : Fin 4096) : EReal :=
  Ideal.exp2 ((kscore q x kt kb n - kshift q x kt kb sink) * (kfloor x * log2e))

/-- The row's sum of weights, the sink's among them. -/
def ksum : EReal :=
  (∑ n, kprob q x kt kb sink n) * Ideal.ofBits .f32 0x3B800000#32 + Ideal.exp (sink - kmax q x kt kb sink)

/-- Component `d` of the attention row. -/
def kout (d : Fin 64) : EReal :=
  Ideal.div ((∑ n, vc d n * clip (kprob q x kt kb sink n)) * vm) (ksum q x kt kb sink)

/-- The row's log-sum-exp less the log of the number of keys it sees. -/
def klse : EReal :=
  kmax q x kt kb sink + Ideal.log (ksum q x kt kb sink) - Ideal.log (((q + 1 : ℕ) : ℝ) : EReal)

end head

/-- The greatest magnitude of a value head over the whole row. -/
def vmax (v : Fin 64 → Fin 4096 → EReal) : EReal := Finset.univ.sup fun n => Finset.univ.sup fun d => mag (v d n)

end Cert.Proof.Spec

end
-- ==== Proof.PayHead.lean ====
/-
  The arithmetic of the loop over the query heads, read at an index: what each block of the kernel's body computes from the
  blocks it loads, at the ideal instance.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof.PayHead

open Cert.KernelIdeal Cert.KernelIdeal.Gen
open Idealize.ShloMosaic Idealize.ShloMosaic.TcCoe
open Cert.Proof.Scalar Cert.Proof.Spec

theorem neg_inf : Ideal.ofBits .f32 0xFF800000#32 = ⊥ := by
  show Ideal.ieee 8 23 0xFF800000#32 = _
  unfold Ideal.ieee
  rw [show (BitVec.extractLsb' (8 + 23) 1 0xFF800000#32 == 1#1) = true by decide,
    show (BitVec.extractLsb' 23 8 0xFF800000#32).toNat = 255 by decide,
    show (BitVec.extractLsb' 0 23 0xFF800000#32).toNat = 0 by decide]
  simp

/-- A maximum folded from `-∞` is a supremum. -/
theorem fold_max {ι : Type} (s : Finset ι) (f : ι → EReal) :
    Finset.fold max (Ideal.ofBits .f32 0xFF800000#32) f s = s.sup f := by
  rw [neg_inf]; rfl

/-- The maximum of magnitudes folded from `-∞`. -/
theorem fold_abs (f : Fin 64 → EReal) :
    Finset.fold max (Ideal.ofBits .f32 0xFF800000#32) (fun d => FloatOps.absf (F := Ideal) (φ := .f32) (f d)) Finset.univ = amax f :=
  fold_max _ _

theorem named_log2e : (Named.named κ "log2e" 0x3FB8AA3B#32 : Ideal .f32) = log2e :=
  IdealRules.named_const.ideal_named_scalar _ _ _ _ rfl

theorem named_eight : (Named.named κ "eight_ln2" 0x40B17218#32 : Ideal .f32) = ((8 * Real.log 2 : ℝ) : EReal) :=
  IdealRules.named_const.ideal_named_scalar _ _ _ _ rfl

/-- The exponent word as the programs print it. -/
theorem word_kexpo (a : EReal) : (FloatOps.fptosi (F := Ideal) (φ := .f32) 32
    (max (Ideal.liftRound Int.floor (Ideal.log (a * Ideal.ofBits .f32 0x3B124925#32) * log2e)
      + Ideal.ofBits .f32 0x42FE0000#32) 0)) = kexpo a := by
  rw [← f0_eq]; rfl

/-- The exponent field as the programs print it. -/
theorem word_kbias (a : EReal) : Scalar.select (IntOp.cmpi .eq (kexpo a) 0#32) (127#32) (IntOp.addi (kexpo a) 1#32) = kbias a := by
  unfold kbias
  by_cases h : kexpo a = 0#32
  · rw [if_pos h, h]; rfl
  · rw [if_neg h]
    have : IntOp.cmpi .eq (kexpo a) 0#32 = 0#1 := by
      show BitVec.ofBool (kexpo a == 0#32) = 0#1
      rw [beq_eq_false_iff_ne.mpr h]; rfl
    rw [this]; rfl

theorem word_kscale (a : EReal) : Ideal.ofBits .f32 (IntOp.shli .vector (kbias a) 23#32) = kscale a := rfl

theorem word_kinv (a : EReal) : Ideal.ofBits .f32 (IntOp.shli .vector (IntOp.subi (254#32) (kbias a)) 23#32) = kinv a := rfl

section query

variable (v38 : Vec Ideal S1x64x256 .bf16) (c : Fin 256)

/-- The column's greatest magnitude. -/
def colMax : EReal := amax fun d => v38 (ix3 0 d c)

theorem pay229_apply : k0_pay229 v38 (ix2 0 c) = kexpo (colMax v38 c) := by
  unfold_payloads
  pointwise
  rw [fold_abs (fun d => v38 (ix3 0 d c)), named_log2e]
  exact word_kexpo _

theorem pay231_apply : k0_pay231 (k0_pay229 v38) (k0_pay230 v38) 1#32 (ix2 0 c) = kbias (colMax v38 c) := by
  unfold k0_pay231 k0_pay230
  pointwise
  rw [pay229_apply]
  exact word_kbias _

/-- The query's scale. -/
theorem pay232_apply : k0_pay232 (F := Ideal) (k0_pay229 v38) (k0_pay230 v38) 1#32 (ix2 0 c) = kscale (colMax v38 c) := by
  unfold k0_pay232
  pointwise
  rw [pay231_apply]
  exact word_kscale _

theorem pay234_apply : k0_pay234 (F := Ideal) (k0_pay229 v38) (k0_pay230 v38) 1#32 (ix3 0 0 c) = kscale (colMax v38 c) := by
  unfold k0_pay234
  pointwise
  exact pay232_apply _ _

/-- The query's codes. -/
theorem pay233_apply (d : Fin 64) : k0_pay233 (k0_pay228 v38) (k0_pay229 v38) (k0_pay230 v38) 1#32 (ix2 d c)
    = kcode (colMax v38 c) (v38 (ix3 0 d c)) := by
  unfold k0_pay233 k0_pay228
  pointwise
  rw [pay231_apply, word_kinv]
  rfl

theorem pay235_apply (d : Fin 64) : k0_pay235 (k0_pay228 v38) (k0_pay229 v38) (k0_pay230 v38) 1#32 (ix3 0 d c)
    = kcode (colMax v38 c) (v38 (ix3 0 d c)) := by
  unfold k0_pay235
  pointwise
  exact pay233_apply _ _ _

end query

/-- The lane of a 128-lane row that column `c` of 256 reads. -/
def lane (c : Fin 256) : Fin 128 := ⟨c.val % 128, Nat.mod_lt _ (by decide)⟩

theorem lane_eq (v : Fin 128 → EReal) (c : Fin 256) :
    (if h : c.val < 128 then v ⟨c.val, h⟩ else v ⟨c.val - 128, by omega⟩) = v (lane c) := by
  split
  · exact congrArg v (Fin.ext (by simp [lane]; omega))
  · exact congrArg v (Fin.ext (by simp [lane]; omega))

/-- A block of scores of keys every query of the tile sees. -/
theorem pay237_apply (v40 : FVec Ideal S64x256 .f32) (v54 : IVec S1x256 32) (v56 : IVec S1x256 1) (c1 : BitVec 32)
    (v170 : Vec Ideal S1x256x64 .fp8e4m3) (v175 : Vec Ideal S1x256x128 .f32) (r c : Fin 256) :
    k0_pay237 v40 v54 v56 c1 v170 v175 (ix2 r c)
      = (∑ d, v170 (ix3 0 r d) * k0_pay233 v40 v54 v56 c1 (ix2 d c)) * v175 (ix3 0 r (lane c)) := by
  unfold k0_pay237
  pointwise
  rw [← lane_eq (fun l => v175 (ix3 0 r l)) c]

theorem pay238_apply (v40 : FVec Ideal S64x256 .f32) (v54 : IVec S1x256 32) (v56 : IVec S1x256 1) (c1 : BitVec 32)
    (v170 : Vec Ideal S1x256x64 .fp8e4m3) (v175 : Vec Ideal S1x256x128 .f32) (r c : Fin 256) :
    k0_pay238 v40 v54 v56 c1 v170 v175 (ix2 r c)
      = (∑ d, v170 (ix3 0 r d) * k0_pay233 v40 v54 v56 c1 (ix2 d c)) * v175 (ix3 0 r (lane c)) := by
  unfold k0_pay238
  pointwise
  exact pay237_apply ..

/-- The running maxima after one more block of scores. -/
theorem pay239_apply (v40 : FVec Ideal S64x256 .f32) (v54 : IVec S1x256 32) (v56 : IVec S1x256 1) (c1 : BitVec 32)
    (acc : FVec Ideal S8x256 .f32) (v170 : Vec Ideal S1x256x64 .fp8e4m3) (v175 : Vec Ideal S1x256x128 .f32) (s : Fin 8) (c : Fin 256) :
    k0_pay239 v40 v54 v56 c1 acc v170 v175 (ix2 s c)
      = max (acc (ix2 s c)) (Finset.univ.sup fun u : Fin 32 =>
          k0_pay237 v40 v54 v56 c1 v170 v175 (ix2 ⟨u.val * 8 + s.val, by omega⟩ c)) := by
  unfold k0_pay239
  pointwise
  rw [fold_max]

theorem pay236_apply (s : Fin 8) (c : Fin 256) : k0_pay236 (F := Ideal) (ix2 s c) = ⊥ := by
  unfold k0_pay236
  pointwise
  exact neg_inf

theorem sle_iff (r c : Fin 256) : IntOp.cmpi .sle (BitVec.ofNat 32 r.val) (BitVec.ofNat 32 c.val) = BitVec.ofBool (decide (r.val ≤ c.val)) := by
  have e : ∀ n : ℕ, n < 256 → (BitVec.ofNat 32 n).toInt = n := fun n h => by
    rw [BitVec.toInt_eq_toNat_of_lt] <;> rw [BitVec.toNat_ofNat, Nat.mod_eq_of_lt (by omega)]
    omega
  have : (BitVec.ofNat 32 r.val).sle (BitVec.ofNat 32 c.val) = decide (r.val ≤ c.val) := by
    rw [BitVec.sle_eq_decide, e _ r.isLt, e _ c.isLt]
    exact decide_eq_decide.mpr Nat.cast_le
  show BitVec.ofBool _ = _
  rw [← this]

/-- The block of scores on the diagonal: `-∞` at the keys after the query. -/
theorem pay243_apply (v75 : FVec Ideal S64x256 .fp8e4m3)
    (v98 : Vec Ideal S1x256x64 .fp8e4m3) (v103 : Vec Ideal S1x256x128 .f32) (r c : Fin 256) :
    k0_pay243 k0_pay2 v75 v98 v103 (ix2 r c)
      = if r.val ≤ c.val then (∑ d, v98 (ix3 0 r d) * v75 (ix2 d c)) * v103 (ix3 0 r (lane c)) else ⊥ := by
  unfold k0_pay243 k0_pay2
  pointwise
  rw [sle_iff, neg_inf, ← lane_eq (fun l => v103 (ix3 0 r l)) c]
  by_cases h : r.val ≤ c.val
  · rw [if_pos h, decide_eq_true h]; rfl
  · rw [if_neg h, decide_eq_false h]; rfl

theorem pay244_apply (v75 : FVec Ideal S64x256 .fp8e4m3)
    (v98 : Vec Ideal S1x256x64 .fp8e4m3) (v103 : Vec Ideal S1x256x128 .f32) (r c : Fin 256) :
    k0_pay244 k0_pay2 v75 v98 v103 (ix2 r c)
      = if r.val ≤ c.val then (∑ d, v98 (ix3 0 r d) * v75 (ix2 d c)) * v103 (ix3 0 r (lane c)) else ⊥ := by
  unfold k0_pay244
  pointwise
  exact pay243_apply ..

section weights

variable (v63 : FVec Ideal S1x256 .f32) (v75 : FVec Ideal S64x256 .fp8e4m3) (v92 : FVec Ideal S8x256 .f32)
  (v98 : Vec Ideal S1x256x64 .fp8e4m3) (v103 : Vec Ideal S1x256x128 .f32) (v119 : Elt Ideal .f32) (c : Fin 256)

/-- The row's maximum over the running maxima and the block on the diagonal, the sink counted. -/
theorem pay245_apply : k0_pay245 k0_pay2 v63 v75 v92 v98 v103 v119 (ix2 0 c)
    = max ((Finset.univ.sup fun s : Fin 8 => max (v92 (ix2 s c)) (Finset.univ.sup fun u : Fin 32 =>
        k0_pay243 k0_pay2 v75 v98 v103 (ix2 ⟨u.val * 8 + s.val, by omega⟩ c))) * v63 (ix2 0 c)) v119 := by
  unfold k0_pay245
  pointwise
  simp only [fold_max]

/-- The weights of a block of scores. -/
theorem pay251_apply (v169 : Vec Ideal S256x256 .f32) (r : Fin 256) :
    k0_pay251 k0_pay2 v63 v75 v92 v98 v103 v119 v169 (ix2 r c)
      = Ideal.exp2 ((v169 (ix2 r c) - (Ideal.div (k0_pay245 k0_pay2 v63 v75 v92 v98 v103 v119 (ix2 0 c))
            (max (v63 (ix2 0 c)) (Ideal.ofBits .f32 0x0D800000#32))
          - Ideal.div ((8 * Real.log 2 : ℝ) : EReal) (max (v63 (ix2 0 c)) (Ideal.ofBits .f32 0x0D800000#32))))
        * (max (v63 (ix2 0 c)) (Ideal.ofBits .f32 0x0D800000#32) * log2e)) := by
  unfold k0_pay251 k0_pay247 k0_pay248 k0_pay246
  pointwise
  rw [named_log2e, named_eight]
  rfl

/-- The running sums of weights after one more block. -/
theorem pay252_apply (acc : FVec Ideal S8x256 .f32) (v169 : Vec Ideal S256x256 .f32) (s : Fin 8) :
    k0_pay252 k0_pay2 v63 v75 v92 v98 v103 v119 acc v169 (ix2 s c)
      = acc (ix2 s c) + ∑ u : Fin 32, k0_pay251 k0_pay2 v63 v75 v92 v98 v103 v119 v169 (ix2 ⟨u.val * 8 + s.val, by omega⟩ c) := by
  unfold k0_pay252
  pointwise

/-- The running weighted sums of the values' codes after one more block. -/
theorem pay253_apply (acc : FVec Ideal S64x256 .f32) (v169 : Vec Ideal S256x256 .f32) (v185 : Vec Ideal S1x64x256 .fp8e4m3) (d : Fin 64) :
    k0_pay253 k0_pay2 v63 v75 v92 v98 v103 v119 acc v169 v185 (ix2 d c)
      = acc (ix2 d c) + ∑ r : Fin 256, v185 (ix3 0 d r) * clip (k0_pay251 k0_pay2 v63 v75 v92 v98 v103 v119 v169 (ix2 r c)) := by
  unfold k0_pay253
  pointwise
  rfl

end weights

theorem pay249_apply (s : Fin 8) (c : Fin 256) : k0_pay249 (F := Ideal) (ix2 s c) = 0 := by
  unfold k0_pay249
  pointwise

theorem pay250_apply (d : Fin 64) (c : Fin 256) : k0_pay250 (F := Ideal) (ix2 d c) = 0 := by
  unfold k0_pay250
  pointwise

section results

variable (v119 : Elt Ideal .f32) (v122 : FVec Ideal S1x256 .f32) (l8 : FVec Ideal S8x256 .f32) (c : Fin 256)

/-- The row's sum of weights, the sink's among them. -/
theorem pay3_apply : k0_pay3 v119 v122 l8 (ix2 0 c)
    = (∑ s : Fin 8, l8 (ix2 s c)) * Ideal.ofBits .f32 0x3B800000#32 + Ideal.exp (v119 - v122 (ix2 0 c)) := by
  unfold k0_pay3
  pointwise

/-- The attention row. -/
theorem pay4_apply (o : FVec Ideal S64x256 .f32) (v149 : Vec Ideal S1x256 .f32) (d : Fin 64) :
    k0_pay4 v119 v122 l8 o v149 (ix3 0 d c) = Ideal.div (o (ix2 d c) * v149 (ix2 0 c)) (k0_pay3 v119 v122 l8 (ix2 0 c)) := by
  unfold k0_pay4
  pointwise

theorem count_word : ∀ (j : Fin 16) (c : Fin 256),
    (IntOp.addi (IntOp.addi (Scalar.muli (BitVec.ofNat 32 j.val) 256#32) (BitVec.ofNat 32 c.val)) 1#32).toInt
      = ((256 * j.val + c.val + 1 : ℕ) : ℤ) := by decide +kernel

/-- The row's log-sum-exp less the log of the number of keys it sees. -/
theorem pay5_apply (i : grid0.Coords) : k0_pay5 i v119 v122 l8 (ix3 0 0 c)
    = v122 (ix2 0 c) + Ideal.log (k0_pay3 v119 v122 l8 (ix2 0 c)) - Ideal.log ((((256 * (i 1).val + c.val) + 1 : ℕ) : ℝ) : EReal) := by
  unfold k0_pay5
  pointwise
  have : (FloatOps.sitofp (F := Ideal) .f32
      (IntOp.addi (IntOp.addi (Scalar.muli (BitVec.ofNat 32 (i 1).val) 256#32) (BitVec.ofNat 32 c.val)) 1#32))
      = ((((256 * (i 1).val + c.val) + 1 : ℕ) : ℝ) : EReal) := by
    show (((IntOp.addi (IntOp.addi (Scalar.muli (BitVec.ofNat 32 (i 1).val) 256#32) (BitVec.ofNat 32 c.val)) 1#32).toInt : ℝ) : EReal) = _
    rw [count_word (i 1) c]
    norm_cast
  rw [this]

end results

end Cert.Proof.PayHead

end
-- ==== Proof.HeadLoops.lean ====
/-
  The three loops of one query head: how many trips they make, where a trip reads and writes, and what its loops over blocks
  of keys have computed after any number of trips.
-/
module

public import proofs.«01_k».proof.Proof.Gen.KernelIdeal.Loops
public import proofs.«01_k».proof.Proof.PayHead
public import Idealize.ShloMosaic.Lib.WritesUnit
public import Idealize.ShloMosaic.Lib.Pipeline.ValueKit.Tiles

@[expose] public section

set_option maxRecDepth 16384

noncomputable section

namespace Cert.Proof.HeadLoops

open Cert.KernelIdeal Cert.KernelIdeal.Gen
open Idealize.ShloMosaic Idealize.ShloMosaic.TcCoe
open Cert.Proof.Scalar Cert.Proof.Spec Cert.Proof.PayHead

/-! ## Trip counts and offsets -/

theorem t3_trips (i : grid0.Coords) : (k0_t3_loop i).trips = (i 1).val := by
  unfold k0_t3_loop
  generalize i 1 = j
  revert j; decide +kernel

theorem t4_trips (i : grid0.Coords) : (k0_t4_loop i).trips = 0 := by
  unfold k0_t4_loop
  generalize i 1 = j
  revert j; decide +kernel

theorem t5_trips (i : grid0.Coords) : (k0_t5_loop i).trips = (i 1).val + 1 := by
  unfold k0_t5_loop
  generalize i 1 = j
  revert j; decide +kernel

theorem t6_trips (i : grid0.Coords) : (k0_t6_loop i).trips = 0 := by
  unfold k0_t6_loop
  generalize i 1 = j
  revert j; decide +kernel

theorem off83_eq : ∀ k : Fin k0_t2_loop.trips, k0_off83 k = ![k.val / 3, 0] := by decide +kernel

theorem off69_eq (i : grid0.Coords) (h : Fin k0_t2_loop.trips) (k : Fin (k0_t3_loop i).trips) :
    k0_off69 i h k = ![h.val / 3, 256 * k.val, 0] := by
  have a : k0_off69 i h k = ![k0_off83 h 0, k0_off71 i k 0, 0] := rfl
  rw [a, off83_eq, k0_off71_eq]; rfl

theorem off70_eq (i : grid0.Coords) (h : Fin k0_t2_loop.trips) (k : Fin (k0_t3_loop i).trips) :
    k0_off70 i h k = ![h.val / 3, 256 * k.val, 0] := by
  have a : k0_off70 i h k = ![k0_off83 h 0, k0_off71 i k 0, 0] := rfl
  rw [a, off83_eq, k0_off71_eq]; rfl

theorem off75_eq (i : grid0.Coords) (h : Fin k0_t2_loop.trips) : k0_off75 i h = ![h.val / 3, 256 * (i 1).val, 0] := by
  have a : k0_off75 i h = ![k0_off83 h 0, k0_off77 i 0, 0] := rfl
  rw [a, off83_eq, k0_off77_eq]; rfl

theorem off76_eq (i : grid0.Coords) (h : Fin k0_t2_loop.trips) : k0_off76 i h = ![h.val / 3, 256 * (i 1).val, 0] := by
  have a : k0_off76 i h = ![k0_off83 h 0, k0_off77 i 0, 0] := rfl
  rw [a, off83_eq, k0_off77_eq]; rfl

theorem off80_eq (i : grid0.Coords) (h : Fin k0_t2_loop.trips) (k : Fin (k0_t5_loop i).trips) :
    k0_off80 i h k = ![0, 64 * (h.val / 3), 256 * k.val] := by
  have b : ∀ h : Fin k0_t2_loop.trips, (Scalar.muli (BitVec.ofNat 32 (k0_off83 h 0)) 64#32).toNat = 64 * (h.val / 3) := by decide +kernel
  have a : k0_off80 i h k = ![0, (Scalar.muli (BitVec.ofNat 32 (k0_off83 h 0)) 64#32).toNat, k0_off79 i k 0] := by
    rw [show BitVec.ofNat 32 (k0_off83 h 0) = _ from BitVec.ofNat_toNat ..]
    rfl
  rw [a, b, k0_off79_eq]; rfl

/-- The key and value group of query head `h`. -/
def grp (h : Fin k0_t2_loop.trips) : Fin 5 := ⟨h.val / 3, by have := h.isLt; have e : k0_t2_loop.trips = 15 := rfl; omega⟩

/-- A load through a rectangle reads the buffer where the rectangle lies. -/
theorem load_apply {sig : RefSig} {κ : Kind} {sp : Space} {s : Shape} {e : EltTy} (v : View sig κ sp s e) (X : v.ty.Contents (Elt Ideal))
    {off off' size : Fin s.rank → ℕ} (inb : ∀ a, off a + size a ≤ s.size a)
    (x : (Rect.unit off size inb).shape.Idx) (h : off = off') (y : s.Idx) (hy : ∀ a, (y a).val = off' a + (x a).val) :
    v.readAt (Elt Ideal) (Rect.unit off size inb).toLoadRect X x = v.read (Elt Ideal) X y := by
  subst h
  exact View.ld_unit_apply_of (v.read (Elt Ideal) X) off size inb x y hy

/-! ## The loop over the blocks every query of the tile sees in full -/

section t3

variable (𝒱 : Variants) (c : Dev nD) (bd : Option 𝒱.V) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole)
  (v3 : BitVec 32) (h : Fin k0_t2_loop.trips) (arg18 : BitVec 32) (v32 : BitVec 32) (v34 : BitVec 32) (v40 : FVec Ideal S64x256 .f32) (v54 : IVec S1x256 32) (v56 : IVec S1x256 1) (c1 : BitVec 32) (X_arg14 : BufTy.Contents (Elt Ideal) arg14.view.ty) (X_arg15 : BufTy.Contents (Elt Ideal) arg15.view.ty)

/-- The score of key `n` for the query of column `col`, before scale and mask, by the query's codes. -/
def raw (q : Fin 64 → EReal) (n : Fin 4096) (col : Fin 256) : EReal :=
  (∑ d, arg14.view.read (Elt Ideal) X_arg14 (ix3 (grp h) n d) * q d)
    * arg15.view.read (Elt Ideal) X_arg15 (ix3 (grp h) n (lane col))

/-- A trip leaves the running maxima over its block. -/
theorem tripR3_eq (k : Fin (k0_t3_loop i).trips) (acc : FVec Ideal S8x256 .f32) :
    tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v34 v40 v54 v56 c1 X_arg14 X_arg15 k acc
      = k0_pay239 v40 v54 v56 c1 acc
          (View.readAt (Elt Ideal) arg14.view (Rect.unit (s := S5x4096x64) (k0_off69 i h k) S1x256x64.size (k0_off69_inb i h k)).toLoadRect X_arg14)
          (View.readAt (Elt Ideal) arg15.view (Rect.unit (s := S5x4096x128) (k0_off70 i h k) S1x256x128.size (k0_off70_inb i h k)).toLoadRect X_arg15) := by
  unfold tripR_k0_t3 trip_k0_t3
  rfl

/-- A trip stores its block of scores. -/
theorem tripL3_eq (k : Fin (k0_t3_loop i).trips) (acc : FVec Ideal S8x256 .f32) :
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v34 v40 v54 v56 c1 X_arg14 X_arg15 k acc
      = [⟨Rect.unit (s := S4096x256) (k0_off71 i k) S256x256.size (k0_off71_inb i k), k0_pay238 v40 v54 v56 c1
          (View.readAt (Elt Ideal) arg14.view (Rect.unit (s := S5x4096x64) (k0_off69 i h k) S1x256x64.size (k0_off69_inb i h k)).toLoadRect X_arg14)
          (View.readAt (Elt Ideal) arg15.view (Rect.unit (s := S5x4096x128) (k0_off70 i h k) S1x256x128.size (k0_off70_inb i h k)).toLoadRect X_arg15)⟩] := by
  unfold tripL_k0_t3 trip_k0_t3
  rfl

/-- The scores of a block of keys, at an index. -/
theorem block_raw (k : Fin (k0_t3_loop i).trips) (r col : Fin 256) (n : Fin 4096) (hn : n.val = 256 * k.val + r.val) :
    (∑ d, View.readAt (Elt Ideal) arg14.view (Rect.unit (s := S5x4096x64) (k0_off69 i h k) S1x256x64.size (k0_off69_inb i h k)).toLoadRect X_arg14 (ix3 0 r d)
        * k0_pay233 v40 v54 v56 c1 (ix2 d col))
      * View.readAt (Elt Ideal) arg15.view (Rect.unit (s := S5x4096x128) (k0_off70 i h k) S1x256x128.size (k0_off70_inb i h k)).toLoadRect X_arg15 (ix3 0 r (lane col))
      = raw arg14 arg15 h X_arg14 X_arg15 (fun d => k0_pay233 v40 v54 v56 c1 (ix2 d col)) n col := by
  unfold raw
  congr 1
  · refine Finset.sum_congr rfl fun d _ => ?_
    congr 1
    refine load_apply _ _ _ _ (off69_eq i h k) _ fun a => ?_
    fin_cases a
    · rfl
    · exact hn
    · exact (Nat.zero_add _).symm
  · refine load_apply _ _ _ _ (off70_eq i h k) _ fun a => ?_
    fin_cases a
    · rfl
    · exact hn
    · exact (Nat.zero_add _).symm

/-- After `m` trips the carried maxima are those of the first `256 m` keys, by key modulo eight. -/
theorem st3_max (init : FVec Ideal S8x256 .f32) (m : ℕ) (hm : m ≤ (k0_t3_loop i).trips) (s : Fin 8) (col : Fin 256) (y : EReal) :
    (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v34 v40 v54 v56 c1 X_arg14 X_arg15 init m).1 (ix2 s col) ≤ y
      ↔ init (ix2 s col) ≤ y ∧ ∀ n : Fin 4096, n.val < 256 * m → n.val % 8 = s.val →
          raw arg14 arg15 h X_arg14 X_arg15 (fun d => k0_pay233 v40 v54 v56 c1 (ix2 d col)) n col ≤ y := by
  induction m with
  | zero =>
    refine ⟨fun hy => ⟨hy, fun n hn => absurd hn (by omega)⟩, fun hy => hy.1⟩
  | succ m ih =>
    have hk : m < (k0_t3_loop i).trips := hm
    have h16 : m < 16 := by have := t3_trips i; have : (i 1).val < 16 := (i 1).isLt; omega
    rw [st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v34 v40 v54 v56 c1 X_arg14 X_arg15 init ⟨m, hk⟩]
    dsimp only
    rw [tripR3_eq, pay239_apply, max_le_iff, ih (by omega), Finset.sup_le_iff, and_assoc]
    refine and_congr_right fun _ => ⟨fun ⟨h1, h2⟩ n hn hs => ?_, fun h1 => ⟨fun n hn hs => h1 n (by omega) hs, fun u _ => ?_⟩⟩
    · by_cases hlt : n.val < 256 * m
      · exact h1 n hlt hs
      · have := h2 ⟨(n.val - 256 * m) / 8, by omega⟩ (Finset.mem_univ _)
        rw [pay237_apply, block_raw _ _ _ _ _ _ _ _ _ _ ⟨m, hk⟩ _ _ n (by simp only; omega)] at this
        exact this
    · rw [pay237_apply, block_raw _ _ _ _ _ _ _ _ _ _ ⟨m, hk⟩ _ _ ⟨256 * m + (u.val * 8 + s.val), by omega⟩ rfl]
      exact h1 _ (by simp only; omega) (by simp only; omega)

/-- After `m` trips the score buffer holds the scores of the first `256 m` keys. -/
theorem st3_read (init : FVec Ideal S8x256 .f32) (m : ℕ) (hm : m ≤ (k0_t3_loop i).trips) (f : BufTy.Contents (Elt Ideal) arg17.view.ty)
    (n : Fin 4096) (hn : n.val < 256 * m) (col : Fin 256) :
    arg17.view.read (Elt Ideal) (arg17.view.writes (Elt Ideal) f (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v34 v40 v54 v56 c1 X_arg14 X_arg15 init m).2) (ix2 n col)
      = raw arg14 arg15 h X_arg14 X_arg15 (fun d => k0_pay233 v40 v54 v56 c1 (ix2 d col)) n col := by
  induction m with
  | zero => exact absurd hn (by omega)
  | succ m ih =>
    have hk : m < (k0_t3_loop i).trips := hm
    rw [st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v34 v40 v54 v56 c1 X_arg14 X_arg15 init ⟨m, hk⟩]
    dsimp only
    rw [tripL3_eq, List.singleton_append]
    by_cases hlt : n.val < 256 * m
    · rw [View.read_writes_cons_unit_of_not_mem _ _ _ _ _ _ (k0_off71_eq i ⟨m, hk⟩) 0 (Or.inl hlt)]
      exact ih (by omega) hlt
    · rw [View.read_writes_cons_unit_of_mem _ _ _ _ _ _ (ix2 (⟨n.val - 256 * m, by omega⟩ : Fin 256) col) (k0_off71_eq i ⟨m, hk⟩) ?_]
      · rw [pay238_apply, block_raw _ _ _ _ _ _ _ _ _ _ ⟨m, hk⟩ _ _ n (by simp only; omega)]
      · intro a
        fin_cases a
        · show n.val = 256 * m + (n.val - 256 * m); omega
        · exact (Nat.zero_add _).symm

end t3

/-! ## The loop over the blocks of weights -/

section t5

variable (𝒱 : Variants) (c : Dev nD) (bd : Option 𝒱.V) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole)
  (v3 : BitVec 32) (h : Fin k0_t2_loop.trips) (arg18 : BitVec 32) (v32 : BitVec 32) (v36 : BitVec 32) (v63 : FVec Ideal S1x256 .f32) (v75 : FVec Ideal S64x256 .fp8e4m3) (v92 : FVec Ideal S8x256 .f32) (v95 : BitVec 32) (v98 : Vec Ideal S1x256x64 .fp8e4m3) (v103 : Vec Ideal S1x256x128 .f32) (v119 : Elt Ideal .f32) (X_arg12 : BufTy.Contents (Elt Ideal) arg12.view.ty) (X_arg17 : BufTy.Contents (Elt Ideal) arg17.view.ty)

/-- A trip leaves the running sums over its block. -/
theorem tripR5_eq (k : Fin (k0_t5_loop i).trips) (acc : FVec Ideal S8x256 .f32 × FVec Ideal S64x256 .f32) :
    tripR_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_pay2 h arg18 v32 v36 v63 v75 v92 v95 v98 v103 v119 X_arg12 X_arg17 k acc
      = (k0_pay252 k0_pay2 v63 v75 v92 v98 v103 v119 acc.1
            (View.readAt (Elt Ideal) arg17.view (Rect.unit (s := S4096x256) (k0_off79 i k) S256x256.size (k0_off79_inb i k)).toLoadRect X_arg17),
          k0_pay253 k0_pay2 v63 v75 v92 v98 v103 v119 acc.2
            (View.readAt (Elt Ideal) arg17.view (Rect.unit (s := S4096x256) (k0_off79 i k) S256x256.size (k0_off79_inb i k)).toLoadRect X_arg17)
            (View.readAt (Elt Ideal) arg12.view (Rect.unit (s := S1x320x4096) (k0_off80 i h k) S1x64x256.size (k0_off80_inb i h k)).toLoadRect X_arg12)) := by
  unfold tripR_k0_t5 trip_k0_t5
  rfl

/-- The weight of a score `t` of column `col`. -/
def weight (col : Fin 256) (t : EReal) : EReal :=
  Ideal.exp2 ((t - (Ideal.div (k0_pay245 k0_pay2 v63 v75 v92 v98 v103 v119 (ix2 0 col))
      (max (v63 (ix2 0 col)) (Ideal.ofBits .f32 0x0D800000#32))
    - Ideal.div ((8 * Real.log 2 : ℝ) : EReal) (max (v63 (ix2 0 col)) (Ideal.ofBits .f32 0x0D800000#32))))
    * (max (v63 (ix2 0 col)) (Ideal.ofBits .f32 0x0D800000#32) * log2e))

/-- The weight of key `n`, whatever `n`. -/
def wt (col : Fin 256) (n : ℕ) : EReal :=
  if hn : n < 4096 then weight v63 v75 v92 v98 v103 v119 col (arg17.view.read (Elt Ideal) X_arg17 (ix2 ⟨n, hn⟩ col)) else 0

/-- Component `d` of key `n`'s value code, whatever `n`. -/
def vcode (d : Fin 64) (n : ℕ) : EReal :=
  if hn : n < 4096 then arg12.view.read (Elt Ideal) X_arg12 (ix3 0 ⟨64 * (grp h).val + d.val, by have := (grp h).isLt; omega⟩ ⟨n, hn⟩) else 0

/-- The weights of a block, at an index. -/
theorem block_wt (k : Fin (k0_t5_loop i).trips) (r col : Fin 256) :
    k0_pay251 k0_pay2 v63 v75 v92 v98 v103 v119
      (View.readAt (Elt Ideal) arg17.view (Rect.unit (s := S4096x256) (k0_off79 i k) S256x256.size (k0_off79_inb i k)).toLoadRect X_arg17) (ix2 r col)
      = wt arg17 v63 v75 v92 v98 v103 v119 X_arg17 col (256 * k.val + r.val) := by
  have hk : k.val < 16 := by have := k.isLt; have := t5_trips i; have : (i 1).val < 16 := (i 1).isLt; omega
  rw [pay251_apply]
  unfold wt
  rw [dif_pos (show 256 * k.val + r.val < 4096 by omega)]
  unfold weight
  rw [load_apply _ _ _ _ (k0_off79_eq i k) (ix2 (⟨256 * k.val + r.val, by omega⟩ : Fin 4096) col) (fun a => ?_)]
  fin_cases a
  · rfl
  · exact (Nat.zero_add _).symm

/-- After `m` trips the carried sums are those of the weights of the first `256 m` keys, by key modulo eight. -/
theorem st5_sum (init : FVec Ideal S8x256 .f32 × FVec Ideal S64x256 .f32) (m : ℕ) (hm : m ≤ (k0_t5_loop i).trips) (s : Fin 8) (col : Fin 256) :
    (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_pay2 h arg18 v32 v36 v63 v75 v92 v95 v98 v103 v119 X_arg12 X_arg17 init m).1 (ix2 s col)
      = init.1 (ix2 s col) + ∑ j ∈ Finset.range m, ∑ u : Fin 32, wt arg17 v63 v75 v92 v98 v103 v119 X_arg17 col (256 * j + (u.val * 8 + s.val)) := by
  induction m with
  | zero => rw [Finset.sum_range_zero, add_zero]; rfl
  | succ m ih =>
    have hk : m < (k0_t5_loop i).trips := hm
    rw [st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_pay2 h arg18 v32 v36 v63 v75 v92 v95 v98 v103 v119 X_arg12 X_arg17 init ⟨m, hk⟩,
      tripR5_eq]
    dsimp only
    rw [pay252_apply, ih (by omega), Finset.sum_range_succ, add_assoc]
    congr 2
    refine Finset.sum_congr rfl fun u _ => ?_
    exact block_wt _ _ _ _ _ _ _ _ _ ⟨m, hk⟩ _ _

/-- After `m` trips the carried weighted sums of value codes are those of the first `256 m` keys. -/
theorem st5_out (init : FVec Ideal S8x256 .f32 × FVec Ideal S64x256 .f32) (m : ℕ) (hm : m ≤ (k0_t5_loop i).trips) (d : Fin 64) (col : Fin 256) :
    (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_pay2 h arg18 v32 v36 v63 v75 v92 v95 v98 v103 v119 X_arg12 X_arg17 init m).2 (ix2 d col)
      = init.2 (ix2 d col) + ∑ j ∈ Finset.range m, ∑ r : Fin 256,
          vcode arg12 h X_arg12 d (256 * j + r.val) * clip (wt arg17 v63 v75 v92 v98 v103 v119 X_arg17 col (256 * j + r.val)) := by
  induction m with
  | zero => rw [Finset.sum_range_zero, add_zero]; rfl
  | succ m ih =>
    have hk : m < (k0_t5_loop i).trips := hm
    have hk' : m < 16 := by have := t5_trips i; have : (i 1).val < 16 := (i 1).isLt; omega
    rw [st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_pay2 h arg18 v32 v36 v63 v75 v92 v95 v98 v103 v119 X_arg12 X_arg17 init ⟨m, hk⟩,
      tripR5_eq]
    dsimp only
    rw [pay253_apply, ih (by omega), Finset.sum_range_succ, add_assoc]
    congr 2
    refine Finset.sum_congr rfl fun r _ => ?_
    rw [block_wt _ _ _ _ _ _ _ _ _ ⟨m, hk⟩]
    congr 1
    unfold vcode
    rw [dif_pos (show 256 * m + r.val < 4096 by omega)]
    refine load_apply _ _ _ _ (off80_eq i h ⟨m, hk⟩) _ fun a => ?_
    fin_cases a
    · rfl
    · rfl
    · rfl

end t5

end Cert.Proof.HeadLoops

end
-- ==== Proof.HeadSpec.lean ====
/-
  One query head: what the loops over blocks leave is what `Spec` says of the head's row, key by key.
-/
module

public import proofs.«01_k».proof.Proof.HeadLoops

@[expose] public section

set_option maxRecDepth 16384

noncomputable section

namespace Cert.Proof.HeadSpec

open Cert.KernelIdeal Cert.KernelIdeal.Gen
open Idealize.ShloMosaic Idealize.ShloMosaic.TcCoe
open Cert.Proof.Scalar Cert.Proof.Spec Cert.Proof.PayHead Cert.Proof.HeadLoops

/-! ## Sums over blocks -/

/-- A sum over blocks of 256 is the sum over their union. -/
theorem sum_blocks (f : ℕ → EReal) (m : ℕ) :
    (∑ j ∈ Finset.range m, ∑ r : Fin 256, f (256 * j + r.val)) = ∑ n ∈ Finset.range (256 * m), f n := by
  induction m with
  | zero => rfl
  | succ m ih =>
    rw [Finset.sum_range_succ, ih, Nat.mul_succ, Finset.sum_range_add, ← Finset.sum_range (fun r => f (256 * m + r))]

/-- A sum over a block of 256 by residue modulo eight. -/
theorem sum_residues (g : ℕ → EReal) : (∑ s : Fin 8, ∑ u : Fin 32, g (u.val * 8 + s.val)) = ∑ r : Fin 256, g r.val := by
  rw [Finset.sum_comm, ← Fintype.sum_prod_type' (fun (u : Fin 32) (s : Fin 8) => g (u.val * 8 + s.val))]
  refine Fintype.sum_equiv (finProdFinEquiv : Fin 32 × Fin 8 ≃ Fin (32 * 8)) _ (fun r : Fin 256 => g r.val) fun x => ?_
  show g _ = g (x.2.val + 8 * x.1.val)
  congr 1; omega

/-- A sum over the first blocks is the sum over all keys, where the summand vanishes beyond them. -/
theorem sum_all (F : Fin 4096 → EReal) (f : ℕ → EReal) (N : ℕ) (hN : N ≤ 4096) (h : ∀ n : Fin 4096, n.val < N → f n.val = F n)
    (h0 : ∀ n : Fin 4096, N ≤ n.val → F n = 0) : (∑ n ∈ Finset.range N, f n) = ∑ n, F n := by
  have e : (∑ n, F n) = ∑ n ∈ Finset.range 4096, (if n < N then f n else 0) := by
    rw [Finset.sum_range]
    refine Finset.sum_congr rfl fun n _ => ?_
    split
    · next hlt => exact (h n hlt).symm
    · next hge => exact h0 n (by omega)
  rw [e, ← Finset.sum_filter]
  refine Finset.sum_congr ?_ fun _ _ => rfl
  ext n; simp only [Finset.mem_range, Finset.mem_filter]; omega

/-! ## Keys the query does not see -/

theorem floor_word : Ideal.ofBits .f32 0x0D800000#32 = (((2 : ℝ) ^ (-100 : ℤ) : ℝ) : EReal) := by
  have := ieee_field 27 (by norm_num) (by norm_num)
  rw [show BitVec.ofNat 32 27 <<< 23 = 0x0D800000#32 by decide] at this
  exact this

theorem kfloor_pos (x : Fin 64 → EReal) : 0 < kfloor x * log2e := by
  have h : (0 : EReal) < kfloor x := by
    refine lt_of_lt_of_le ?_ (le_max_right _ _)
    rw [floor_word, ← EReal.coe_zero, EReal.coe_lt_coe_iff]
    positivity
  have h2 : (0 : EReal) < log2e := by
    unfold log2e; rw [← EReal.coe_zero, EReal.coe_lt_coe_iff]
    exact inv_pos.mpr log2_pos
  exact EReal.mul_pos h h2

/-- A key after the query weighs nothing. -/
theorem kprob_after (q : ℕ) (x : Fin 64 → EReal) (kt kb) (sink : EReal) (n : Fin 4096) (h : q < n.val) :
    kprob q x kt kb sink n = 0 := by
  unfold kprob kscore
  rw [if_neg (by omega), sub_eq_add_neg, EReal.bot_add, EReal.bot_mul_of_pos (kfloor_pos x)]
  rfl

theorem clip_zero : clip 0 = 0 := by
  have e : Ideal.ofBits .f32 0x43E00000#32 = ((448 : ℝ) : EReal) := by
    show Ideal.ieee 8 23 0x43E00000#32 = _
    unfold Ideal.ieee
    rw [show (BitVec.extractLsb' (8 + 23) 1 0x43E00000#32 == 1#1) = false by decide,
      show (BitVec.extractLsb' 23 8 0x43E00000#32).toNat = 135 by decide,
      show (BitVec.extractLsb' 0 23 0x43E00000#32).toNat = 6291456 by decide]
    norm_num [zpow_neg, zpow_ofNat]
  have e' : Ideal.ofBits .f32 0xC3E00000#32 = ((-448 : ℝ) : EReal) := by
    show Ideal.ieee 8 23 0xC3E00000#32 = _
    unfold Ideal.ieee
    rw [show (BitVec.extractLsb' (8 + 23) 1 0xC3E00000#32 == 1#1) = true by decide,
      show (BitVec.extractLsb' 23 8 0xC3E00000#32).toNat = 135 by decide,
      show (BitVec.extractLsb' 0 23 0xC3E00000#32).toNat = 6291456 by decide]
    norm_num [zpow_neg, zpow_ofNat]
  unfold clip
  rw [e, e', max_eq_right, min_eq_right]
  · rw [← EReal.coe_zero, EReal.coe_le_coe_iff]; norm_num
  · rw [← EReal.coe_zero, EReal.coe_le_coe_iff]; norm_num

/-! ## The row -/

section row

variable (i : grid0.Coords) (h : Fin k0_t2_loop.trips)
  (arg12 : Memref sig .tc .vmem S1x320x4096 .fp8e4m3) (arg14 : Memref sig .tc .vmem S5x4096x64 .fp8e4m3)
  (arg15 : Memref sig .tc .vmem S5x4096x128 .f32) (arg17 : Memref sig .tc .vmem S4096x256 .f32)
  (X_arg12 : BufTy.Contents (Elt Ideal) arg12.view.ty) (X_arg14 : BufTy.Contents (Elt Ideal) arg14.view.ty)
  (X_arg15 : BufTy.Contents (Elt Ideal) arg15.view.ty)
  (v38 : Vec Ideal S1x64x256 .bf16) (v119 : EReal) (col : Fin 256)

/-- The query row of column `col`. -/
def qrow (d : Fin 64) : EReal := v38 (ix3 0 d col)
/-- The codes of the head's keys. -/
def krow (n : Fin 4096) (d : Fin 64) : EReal := arg14.view.read (Elt Ideal) X_arg14 (ix3 (grp h) n d)
/-- The eighth scales of the head's keys, as the column's lane holds them. -/
def brow (n : Fin 4096) : EReal := arg15.view.read (Elt Ideal) X_arg15 (ix3 (grp h) n (lane col))
/-- The codes of the head's values. -/
def vrow (d : Fin 64) (n : Fin 4096) : EReal :=
  arg12.view.read (Elt Ideal) X_arg12 (ix3 0 ⟨64 * (grp h).val + d.val, by have := (grp h).isLt; omega⟩ n)

/-- The query's scales. -/
abbrev qscl : FVec Ideal S1x256 .f32 := k0_pay232 (F := Ideal) (k0_pay229 v38) (k0_pay230 v38) 1#32
/-- The query's codes. -/
abbrev qcod : FVec Ideal S64x256 .fp8e4m3 := k0_pay233 (k0_pay228 v38) (k0_pay229 v38) (k0_pay230 v38) 1#32
/-- The codes of the keys of the block on the diagonal. -/
abbrev dcod : Vec Ideal S1x256x64 .fp8e4m3 := View.readAt (Elt Ideal) arg14.view (Rect.unit (s := S5x4096x64) (k0_off75 i h) S1x256x64.size (k0_off75_inb i h)).toLoadRect X_arg14
/-- Their eighth scales. -/
abbrev dscl : Vec Ideal S1x256x128 .f32 := View.readAt (Elt Ideal) arg15.view (Rect.unit (s := S5x4096x128) (k0_off76 i h) S1x256x128.size (k0_off76_inb i h)).toLoadRect X_arg15

theorem qscl_apply : (qscl v38) (ix2 0 col) = kscale (amax (qrow v38 col)) := pay232_apply v38 col

theorem raw_eq (n : Fin 4096) : raw arg14 arg15 h X_arg14 X_arg15 (fun d => (qcod v38) (ix2 d col)) n col = kraw (qrow v38 col) (krow h arg14 X_arg14) (brow h arg15 X_arg15 col) n := by
  unfold raw kraw
  simp only [pay233_apply]
  rfl

/-- The scores of the block on the diagonal. -/
theorem diag_raw (r : Fin 256) (n : Fin 4096) (hn : n.val = 256 * (i 1).val + r.val) :
    (∑ d, (dcod i h arg14 X_arg14) (ix3 0 r d) * (qcod v38) (ix2 d col)) * (dscl i h arg15 X_arg15) (ix3 0 r (lane col)) = kraw (qrow v38 col) (krow h arg14 X_arg14) (brow h arg15 X_arg15 col) n := by
  rw [← raw_eq]
  unfold raw
  congr 1
  · refine Finset.sum_congr rfl fun d _ => ?_
    congr 1
    refine load_apply _ _ _ _ (off75_eq i h) _ fun a => ?_
    fin_cases a
    · rfl
    · exact hn
    · exact (Nat.zero_add _).symm
  · refine load_apply _ _ _ _ (off76_eq i h) _ fun a => ?_
    fin_cases a
    · rfl
    · exact hn
    · exact (Nat.zero_add _).symm

theorem qi_lt : (i 1).val < 16 := (i 1).isLt

/-- The row's maximum. -/
theorem max_eq (v92 : FVec Ideal S8x256 .f32)
    (hv : ∀ (s : Fin 8) (y : EReal), v92 (ix2 s col) ≤ y ↔ ∀ n : Fin 4096, n.val < 256 * (i 1).val → n.val % 8 = s.val → kraw (qrow v38 col) (krow h arg14 X_arg14) (brow h arg15 X_arg15 col) n ≤ y) :
    k0_pay245 k0_pay2 (qscl v38) (qcod v38) v92 (dcod i h arg14 X_arg14) (dscl i h arg15 X_arg15) v119 (ix2 0 col) = kmax (256 * (i 1).val + col.val) (qrow v38 col) (krow h arg14 X_arg14) (brow h arg15 X_arg15 col) v119 := by
  have hq := qi_lt i
  rw [pay245_apply, qscl_apply]
  unfold kmax
  refine congrArg (fun t => max (t * kscale (amax (qrow v38 col))) v119) ?_
  refine eq_of_forall_ge_iff fun y => ?_
  rw [Finset.sup_le_iff, Finset.sup_le_iff]
  simp only [Finset.mem_univ, forall_true_left, max_le_iff, hv, Finset.sup_le_iff, pay243_apply]
  constructor
  · intro H n
    unfold kscore
    split
    · next hle =>
      by_cases hlt : n.val < 256 * (i 1).val
      · exact (H ⟨n.val % 8, Nat.mod_lt _ (by norm_num)⟩).1 n hlt rfl
      · have := (H ⟨n.val % 8, Nat.mod_lt _ (by norm_num)⟩).2 ⟨(n.val - 256 * (i 1).val) / 8, by omega⟩
        rw [if_pos (by simp only; omega), diag_raw _ _ _ _ _ _ _ _ _ n (by simp only; omega)] at this
        exact this
    · exact bot_le
  · intro H s
    refine ⟨fun n hlt _ => ?_, fun u => ?_⟩
    · have := H n
      unfold kscore at this
      rwa [if_pos (by omega)] at this
    · split
      · next hle =>
        have hle : u.val * 8 + s.val ≤ col.val := hle
        have := H ⟨256 * (i 1).val + (u.val * 8 + s.val), by omega⟩
        unfold kscore at this
        rw [if_pos (by simp only; omega)] at this
        rwa [diag_raw _ _ _ _ _ _ _ _ _ ⟨256 * (i 1).val + (u.val * 8 + s.val), by omega⟩ rfl]
      · exact bot_le

/-- The score buffer once the block on the diagonal is in it. -/
theorem read_scores (f : BufTy.Contents (Elt Ideal) arg17.view.ty) (L : List (View.Piece (Elt Ideal) S4096x256 .f32))
    (hL : ∀ n : Fin 4096, n.val < 256 * (i 1).val → arg17.view.read (Elt Ideal) (arg17.view.writes (Elt Ideal) f L) (ix2 n col) = kraw (qrow v38 col) (krow h arg14 X_arg14) (brow h arg15 X_arg15 col) n)
    (n : Fin 4096) (hn : n.val < 256 * ((i 1).val + 1)) :
    arg17.view.read (Elt Ideal) (arg17.view.writes (Elt Ideal) f
      (⟨Rect.unit (s := S4096x256) (k0_off77 i) S256x256.size (k0_off77_inb i), k0_pay244 k0_pay2 (qcod v38) (dcod i h arg14 X_arg14) (dscl i h arg15 X_arg15)⟩ :: L)) (ix2 n col)
      = kscore (256 * (i 1).val + col.val) (qrow v38 col) (krow h arg14 X_arg14) (brow h arg15 X_arg15 col) n := by
  unfold kscore
  by_cases hlt : n.val < 256 * (i 1).val
  · rw [View.read_writes_cons_unit_of_not_mem _ _ _ _ _ _ (k0_off77_eq i) 0 (Or.inl hlt), hL n hlt, if_pos (by omega)]
  · rw [View.read_writes_cons_unit_of_mem _ _ _ _ _ _ (ix2 (⟨n.val - 256 * (i 1).val, by omega⟩ : Fin 256) col) (k0_off77_eq i) ?_]
    · rw [pay244_apply, diag_raw _ _ _ _ _ _ _ _ _ n (by simp only; omega)]
      refine if_congr ?_ rfl rfl
      simp only; omega
    · intro a
      fin_cases a
      · show n.val = 256 * (i 1).val + (n.val - 256 * (i 1).val); omega
      · exact (Nat.zero_add _).symm

variable (v92 : FVec Ideal S8x256 .f32)
  (hv : ∀ (s : Fin 8) (y : EReal), v92 (ix2 s col) ≤ y ↔ ∀ n : Fin 4096, n.val < 256 * (i 1).val → n.val % 8 = s.val → kraw (qrow v38 col) (krow h arg14 X_arg14) (brow h arg15 X_arg15 col) n ≤ y)
  (F17 : BufTy.Contents (Elt Ideal) arg17.view.ty)
  (hF : ∀ n : Fin 4096, n.val < 256 * ((i 1).val + 1) → arg17.view.read (Elt Ideal) F17 (ix2 n col) = kscore (256 * (i 1).val + col.val) (qrow v38 col) (krow h arg14 X_arg14) (brow h arg15 X_arg15 col) n)

include hv hF

/-- The weight of a key of the blocks up to the diagonal. -/
theorem wt_eq (n : Fin 4096) (hn : n.val < 256 * ((i 1).val + 1)) :
    wt arg17 (qscl v38) (qcod v38) v92 (dcod i h arg14 X_arg14) (dscl i h arg15 X_arg15) v119 F17 col n.val = kprob (256 * (i 1).val + col.val) (qrow v38 col) (krow h arg14 X_arg14) (brow h arg15 X_arg15 col) v119 n := by
  unfold wt weight
  rw [dif_pos n.isLt, max_eq i h arg14 arg15 X_arg14 X_arg15 v38 v119 col v92 hv, qscl_apply, hF n hn]
  rfl

/-- The row's sum of weights, by residue modulo eight. -/
theorem sum_eq (l8 : FVec Ideal S8x256 .f32) (hl : ∀ s : Fin 8, l8 (ix2 s col) = 0 + ∑ j ∈ Finset.range ((i 1).val + 1), ∑ u : Fin 32,
      wt arg17 (qscl v38) (qcod v38) v92 (dcod i h arg14 X_arg14) (dscl i h arg15 X_arg15) v119 F17 col (256 * j + (u.val * 8 + s.val))) :
    (∑ s : Fin 8, l8 (ix2 s col)) = ∑ n, kprob (256 * (i 1).val + col.val) (qrow v38 col) (krow h arg14 X_arg14) (brow h arg15 X_arg15 col) v119 n := by
  have hq := qi_lt i
  simp only [hl, zero_add]
  rw [Finset.sum_comm]
  rw [Finset.sum_congr rfl fun j _ => sum_residues fun r => wt arg17 (qscl v38) (qcod v38) v92 (dcod i h arg14 X_arg14) (dscl i h arg15 X_arg15) v119 F17 col (256 * j + r),
    sum_blocks fun n => wt arg17 (qscl v38) (qcod v38) v92 (dcod i h arg14 X_arg14) (dscl i h arg15 X_arg15) v119 F17 col n]
  refine sum_all _ _ _ (by omega) (fun n hn => ?_) fun n hn => kprob_after _ _ _ _ _ n (by omega)
  exact wt_eq i h arg14 arg15 arg17 X_arg14 X_arg15 v38 v119 col v92 hv F17 hF n hn

/-- The row's weighted sum of value codes. -/
theorem out_eq (o : FVec Ideal S64x256 .f32) (d : Fin 64) (ho : o (ix2 d col) = 0 + ∑ j ∈ Finset.range ((i 1).val + 1), ∑ r : Fin 256,
      vcode arg12 h X_arg12 d (256 * j + r.val) * clip (wt arg17 (qscl v38) (qcod v38) v92 (dcod i h arg14 X_arg14) (dscl i h arg15 X_arg15) v119 F17 col (256 * j + r.val))) :
    o (ix2 d col) = ∑ n, (vrow h arg12 X_arg12) d n * clip (kprob (256 * (i 1).val + col.val) (qrow v38 col) (krow h arg14 X_arg14) (brow h arg15 X_arg15 col) v119 n) := by
  have hq := qi_lt i
  rw [ho, zero_add, sum_blocks fun n => vcode arg12 h X_arg12 d n * clip (wt arg17 (qscl v38) (qcod v38) v92 (dcod i h arg14 X_arg14) (dscl i h arg15 X_arg15) v119 F17 col n)]
  refine sum_all _ _ _ (by omega) (fun n hn => ?_) fun n hn => ?_
  · rw [wt_eq i h arg14 arg15 arg17 X_arg14 X_arg15 v38 v119 col v92 hv F17 hF n hn]
    congr 1
    unfold vcode
    rw [dif_pos n.isLt]
    rfl
  · rw [kprob_after _ _ _ _ _ n (by omega), clip_zero, mul_zero]

end row

/-! ## The head, from the loops themselves -/

section head

variable (𝒱 : Variants) (c : Dev nD) (bd : Option 𝒱.V) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole)
  (v3 : BitVec 32) (h : Fin k0_t2_loop.trips) (arg18 v32 v34 v33 v36 v95 : BitVec 32)
  (X_arg12 : BufTy.Contents (Elt Ideal) arg12.view.ty) (X_arg14 : BufTy.Contents (Elt Ideal) arg14.view.ty)
  (X_arg15 : BufTy.Contents (Elt Ideal) arg15.view.ty) (f : BufTy.Contents (Elt Ideal) arg17.view.ty)
  (v38 : Vec Ideal S1x64x256 .bf16) (v119 : EReal) (col : Fin 256)

/-- The running maxima and the stored blocks after the loop over the blocks below the diagonal. -/
def s3 := st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 (k0_pay228 v38) (k0_pay229 v38) (k0_pay230 v38) 1#32 X_arg14 X_arg15 k0_pay236 (k0_t3_loop i).trips

/-- The same after the loop that makes no trip. -/
def s4 := st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 (k0_pay228 v38) (k0_pay229 v38) (k0_pay230 v38) 1#32 X_arg14 X_arg15
  (s3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1 (k0_t4_loop i).trips

/-- The score buffer with every block up to the diagonal in it. -/
def f17 : BufTy.Contents (Elt Ideal) arg17.view.ty := arg17.view.writes (Elt Ideal) f
  (⟨Rect.unit (s := S4096x256) (k0_off77 i) S256x256.size (k0_off77_inb i), k0_pay244 k0_pay2 (qcod v38) (dcod i h arg14 X_arg14) (dscl i h arg15 X_arg15)⟩
    :: ((s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).2 ++ (s3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).2))

/-- The running sums after the loop over the blocks of weights. -/
def s5 := st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_pay2 h arg18 v32 v36 (qscl v38) (qcod v38) (s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1
  v95 (dcod i h arg14 X_arg14) (dscl i h arg15 X_arg15) v119 X_arg12 (f17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 f v38) (k0_pay249, k0_pay250) (k0_t5_loop i).trips

/-- The same after the loop that makes no trip. -/
def s6 := st_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k0_pay2 h arg18 v32 v36 (qscl v38) (qcod v38) (s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1
  v95 (dcod i h arg14 X_arg14) (dscl i h arg15 X_arg15) v119 X_arg12 (f17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 f v38)
  (s5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 v36 v95 X_arg12 X_arg14 X_arg15 f v38 v119) (k0_t6_loop i).trips

theorem s4_eq : s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38 = ((s3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1, []) := by
  unfold s4
  rw [t4_trips]
  rfl

theorem s6_eq : s6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 v36 v95 X_arg12 X_arg14 X_arg15 f v38 v119
    = s5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 v36 v95 X_arg12 X_arg14 X_arg15 f v38 v119 := by
  unfold s6
  rw [t6_trips]
  rfl

theorem s4_max (s : Fin 8) (y : EReal) : (s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1 (ix2 s col) ≤ y
    ↔ ∀ n : Fin 4096, n.val < 256 * (i 1).val → n.val % 8 = s.val → kraw (qrow v38 col) (krow h arg14 X_arg14) (brow h arg15 X_arg15 col) n ≤ y := by
  rw [s4_eq]
  unfold s3
  rw [st3_max (hm := le_rfl), pay236_apply, t3_trips]
  simp only [raw_eq, bot_le, true_and]

theorem f17_read (n : Fin 4096) (hn : n.val < 256 * ((i 1).val + 1)) :
    arg17.view.read (Elt Ideal) (f17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 f v38) (ix2 n col) = kscore (256 * (i 1).val + col.val) (qrow v38 col) (krow h arg14 X_arg14) (brow h arg15 X_arg15 col) n := by
  unfold f17
  refine read_scores i h arg14 arg15 arg17 X_arg14 X_arg15 v38 col f _ (fun n hn => ?_) n hn
  rw [s4_eq, List.nil_append]
  unfold s3
  rw [st3_read (hm := le_rfl) (hn := by rw [t3_trips]; exact hn), raw_eq]

/-- The row's maximum. -/
theorem head_max : k0_pay245 k0_pay2 (qscl v38) (qcod v38) (s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1 (dcod i h arg14 X_arg14) (dscl i h arg15 X_arg15) v119 (ix2 0 col)
    = kmax (256 * (i 1).val + col.val) (qrow v38 col) (krow h arg14 X_arg14) (brow h arg15 X_arg15 col) v119 :=
  max_eq i h arg14 arg15 X_arg14 X_arg15 v38 v119 col _ fun s y => s4_max 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38 col s y

/-- The row's sum of weights, the sink's among them. -/
theorem head_sum : k0_pay3 v119 (k0_pay245 k0_pay2 (qscl v38) (qcod v38) (s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1 (dcod i h arg14 X_arg14) (dscl i h arg15 X_arg15) v119)
      (s6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 v36 v95 X_arg12 X_arg14 X_arg15 f v38 v119).1 (ix2 0 col) = ksum (256 * (i 1).val + col.val) (qrow v38 col) (krow h arg14 X_arg14) (brow h arg15 X_arg15 col) v119 := by
  rw [pay3_apply, head_max, s6_eq]
  rw [sum_eq i h arg14 arg15 arg17 X_arg14 X_arg15 v38 v119 col _ (fun s y => s4_max 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38 col s y)
    _ (fun n hn => f17_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 f v38 col n hn)]
  · rfl
  · intro s
    unfold s5
    rw [st5_sum (hm := le_rfl), t5_trips]
    exact congrArg (· + _) (pay249_apply s col)

/-- The attention row. -/
theorem head_out (v149 : Vec Ideal S1x256 .f32) (d : Fin 64) :
    k0_pay4 v119 (k0_pay245 k0_pay2 (qscl v38) (qcod v38) (s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1 (dcod i h arg14 X_arg14) (dscl i h arg15 X_arg15) v119)
      (s6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 v36 v95 X_arg12 X_arg14 X_arg15 f v38 v119).1
      (s6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 v36 v95 X_arg12 X_arg14 X_arg15 f v38 v119).2 v149 (ix3 0 d col)
      = kout (256 * (i 1).val + col.val) (qrow v38 col) (krow h arg14 X_arg14) (brow h arg15 X_arg15 col) (vrow h arg12 X_arg12) (v149 (ix2 0 col)) v119 d := by
  rw [pay4_apply, head_sum, s6_eq]
  unfold kout
  have e := out_eq i h arg12 arg14 arg15 arg17 X_arg12 X_arg14 X_arg15 v38 v119 col _ (fun s y => s4_max 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38 col s y)
    _ (fun n hn => f17_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 f v38 col n hn)
    (s5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 v36 v95 X_arg12 X_arg14 X_arg15 f v38 v119).2 d (by
      unfold s5
      rw [st5_out (hm := le_rfl), t5_trips]
      exact congrArg (· + _) (pay250_apply d col))
  rw [e]

/-- The row's log-sum-exp. -/
theorem head_lse :
    k0_pay5 i v119 (k0_pay245 k0_pay2 (qscl v38) (qcod v38) (s4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 X_arg14 X_arg15 v38).1 (dcod i h arg14 X_arg14) (dscl i h arg15 X_arg15) v119)
      (s6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 h arg18 v32 v33 v36 v95 X_arg12 X_arg14 X_arg15 f v38 v119).1 (ix3 0 0 col)
      = klse (256 * (i 1).val + col.val) (qrow v38 col) (krow h arg14 X_arg14) (brow h arg15 X_arg15 col) v119 := by
  rw [pay5_apply, head_sum, head_max]
  rfl

end head

end Cert.Proof.HeadSpec

end
-- ==== Proof.PayKV.lean ====
/-
  The stored values of the kernel's loop over the key and value groups, element by element, at the ideal instance.
-/
module

public import proofs.«01_k».proof.Proof.PayHead

@[expose] public section

set_option maxRecDepth 16384

noncomputable section

namespace Cert.Proof.PayKV

open Cert.KernelIdeal Cert.KernelIdeal.Gen
open Idealize.ShloMosaic Idealize.ShloMosaic.TcCoe
open Cert.Proof.Scalar Cert.Proof.Spec Cert.Proof.PayHead

section keys

variable (v : Vec Ideal S1x64x256 .bf16) (r : Fin 256)

/-- The scales of a block of keys. -/
def blkScale : FVec Ideal S1x1x256 .f32 := k0_pay9 v
/-- The codes of a block of keys. -/
def blkCode : FVec Ideal S1x64x256 .fp8e4m3 := k0_pay11 (k0_pay10 v)
/-- The codes of a block of keys, a key a row. -/
def blkRows : FVec Ideal S1x256x64 .fp8e4m3 := k0_pay16 (Scalar.ofBits .f32 0x43E00000#32) (k0_pay15 (k0_pay7 v))
/-- The eighth scales of a block of keys, each across a row. -/
def blkEighth : FVec Ideal S1x256x128 .f32 := k0_pay17 (k0_pay14 (k0_pay7 v))

theorem pay8_apply : k0_pay8 v (ix2 0 r) = kbias (colMax v r) := by
  unfold k0_pay8 k0_pay7
  pointwise
  rw [fold_abs (fun d => v (ix3 0 d r)), named_log2e, word_kexpo, word_kbias]
  rfl

theorem blkScale_apply : blkScale v (ix3 0 0 r) = kscale (colMax v r) := by
  unfold blkScale k0_pay9
  pointwise
  rw [pay8_apply, word_kscale]

theorem blkCode_apply (d : Fin 64) : blkCode v (ix3 0 d r) = kcode (colMax v r) (v (ix3 0 d r)) := by
  unfold blkCode k0_pay11 k0_pay10 k0_pay7
  pointwise
  rw [pay8_apply, word_kinv]
  rfl

theorem pay13_apply : k0_pay13 (k0_pay7 v) (ix2 r 0) = kbias (colMax v r) := by
  unfold k0_pay13 k0_pay12 k0_pay7
  pointwise
  rw [fold_abs (fun d => v (ix3 0 d r)), named_log2e, word_kexpo, word_kbias]
  rfl

theorem blkRows_apply (d : Fin 64) : blkRows v (ix3 0 r d) = kcode (colMax v r) (v (ix3 0 d r)) := by
  unfold blkRows k0_pay16 k0_pay15
  pointwise
  rw [pay13_apply, word_kinv]
  unfold k0_pay12 k0_pay7
  pointwise
  rfl

theorem blkEighth_apply (l : Fin 128) : blkEighth v (ix3 0 r l) = kscale (colMax v r) * Ideal.ofBits .f32 0x3E000000#32 := by
  unfold blkEighth k0_pay17 k0_pay14
  pointwise
  rw [pay13_apply, word_kscale]

end keys

section values

/-- The running magnitudes of the values' blocks, one block more. -/
theorem pay18_apply (a : FVec Ideal S64x256 .f32) (v : Vec Ideal S1x64x256 .bf16) (d : Fin 64) (r : Fin 256) :
    k0_pay18 a v (ix2 d r) = max (a (ix2 d r)) (mag (v (ix3 0 d r))) := by
  unfold k0_pay18
  pointwise
  rfl

theorem pay6_apply (d : Fin 64) (r : Fin 256) : k0_pay6 (F := Ideal) (ix2 d r) = 0 := by
  unfold k0_pay6
  pointwise

/-- The exponent field of a value head, from the running magnitudes and the last block. -/
theorem pay201_apply (a : FVec Ideal S64x256 .f32) (v : Vec Ideal S1x64x256 .bf16) :
    k0_pay201 a v (ix2 0 0) = kbias (Finset.univ.sup fun p : Fin 64 × Fin 256 => k0_pay18 a v (ix2 p.1 p.2)) := by
  simp only [pay18_apply]
  unfold k0_pay201
  pointwise
  rw [fold_max, named_log2e, word_kexpo, word_kbias]
  rfl

variable (w : IVec S1x1 32)

theorem pay204_apply (l : Fin 128) : k0_pay204 (F := Ideal) w (ix3 0 0 l) = Ideal.ofBits .f32 (IntOp.shli .vector (w (ix2 0 0)) 23#32) := by
  unfold k0_pay204 k0_pay202
  pointwise

theorem pay205_apply (c : Fin 256) : k0_pay205 (F := Ideal) w (ix2 0 c)
    = Ideal.ofBits .f32 (IntOp.shli .vector (w (ix2 0 0)) 23#32) * Ideal.ofBits .f32 0x3B800000#32 := by
  unfold k0_pay205 k0_pay202
  pointwise

theorem pay206_apply (v : Vec Ideal S1x64x256 .bf16) (d : Fin 64) (r : Fin 256) : k0_pay206 w v (ix3 0 d r)
    = clip (v (ix3 0 d r) * Ideal.ofBits .f32 (IntOp.shli .vector (IntOp.subi (254#32) (w (ix2 0 0))) 23#32)) := by
  unfold k0_pay206 k0_pay203
  pointwise
  rfl

end values

end Cert.Proof.PayKV

end
-- ==== Proof.KVLoop.lean ====
/-
  The kernel's loop over the key and value groups: every piece it stores is a block of one function of the keys or the
  values, and the pieces of its five trips cover what they are stored in.
-/
module

public import proofs.«01_k».proof.Proof.HeadLoops
public import proofs.«01_k».proof.Proof.PayKV
public import Idealize.ShloMosaic.Lib.Pipeline.ValueKit.Geometry

@[expose] public section

set_option maxRecDepth 16384

noncomputable section

namespace Cert.Proof.KVLoop

open Cert.KernelIdeal Cert.KernelIdeal.Gen
open Idealize.ShloMosaic Idealize.ShloMosaic.TcCoe
open Cert.Proof.Scalar Cert.Proof.Spec Cert.Proof.PayHead Cert.Proof.PayKV Cert.Proof.HeadLoops

/-! ## What the loop computes -/

section values

variable (K : S1x320x4096.Idx → EReal)

/-- Row `64 g + d` of the 320 rows. -/
def row (g : Fin 5) (d : Fin 64) : Fin 320 := ⟨64 * g.val + d.val, by omega⟩

/-- The group of a row of the 320. -/
def grpOf (r : Fin 320) : Fin 5 := ⟨r.val / 64, by omega⟩

/-- The greatest magnitude of key `n` of group `g`. -/
def keyMax (g : Fin 5) (n : Fin 4096) : EReal := amax fun d => K (ix3 0 (row g d) n)
/-- The greatest magnitude of the values of group `g`. -/
def valMax (g : Fin 5) : EReal := vmax fun d n => K (ix3 0 (row g d) n)

def keyCodes (y : S1x320x4096.Idx) : EReal := kcode (keyMax K (grpOf (y 1)) (y 2)) (K y)
def keyScales (y : S1x5x4096.Idx) : EReal := kscale (keyMax K (y 1) (y 2))
def keyRows (y : S5x4096x64.Idx) : EReal := kcode (keyMax K (y 0) (y 1)) (K (ix3 0 (row (y 0) (y 2)) (y 1)))
def keyEighths (y : S5x4096x128.Idx) : EReal := kscale (keyMax K (y 0) (y 1)) * Ideal.ofBits .f32 0x3E000000#32
def valCodes (y : S1x320x4096.Idx) : EReal := kcode (valMax K (grpOf (y 1))) (K y)
def valScales (y : S1x5x128.Idx) : EReal := kscale (valMax K (y 1))
def valFactor (g : Fin 5) : EReal := kscale (valMax K g) * Ideal.ofBits .f32 0x3B800000#32

/-- Block `b` of the rows of group `g`. -/
def blockOf (g : Fin 5) (b : Fin 16) : Vec Ideal S1x64x256 .bf16 :=
  fun x => K (ix3 0 (row g (x 1)) ⟨256 * b.val + (x 2).val, by have : (x 2).val < 256 := (x 2).isLt; omega⟩)

theorem colMax_blockOf (g : Fin 5) (b : Fin 16) (r : Fin 256) :
    colMax (blockOf K g b) r = keyMax K g ⟨256 * b.val + r.val, by omega⟩ := rfl

theorem mag_nonneg (y : EReal) : 0 ≤ mag y := by
  unfold mag
  rcases le_total 0 y with h | h
  · exact le_max_of_le_left h
  · exact le_max_of_le_right (by rwa [EReal.neg_nonneg])

theorem foldl_mags (l : List (Vec Ideal S1x64x256 .bf16)) (a : FVec Ideal S64x256 .f32) (d : Fin 64) (r : Fin 256) (y : EReal) :
    l.foldl k0_pay18 a (ix2 d r) ≤ y ↔ a (ix2 d r) ≤ y ∧ ∀ v ∈ l, mag (v (ix3 0 d r)) ≤ y := by
  induction l generalizing a with
  | nil => exact ⟨fun h => ⟨h, fun _ h => absurd h List.not_mem_nil⟩, fun h => h.1⟩
  | cons v l ih => rw [List.foldl_cons, ih, pay18_apply, max_le_iff, List.forall_mem_cons, and_assoc]

/-- The first fifteen blocks of a group. -/
def blocks15 (g : Fin 5) : List (Vec Ideal S1x64x256 .bf16) :=
  [blockOf K g 0, blockOf K g 1, blockOf K g 2, blockOf K g 3, blockOf K g 4, blockOf K g 5, blockOf K g 6, blockOf K g 7,
    blockOf K g 8, blockOf K g 9, blockOf K g 10, blockOf K g 11, blockOf K g 12, blockOf K g 13, blockOf K g 14]

theorem mem_blocks15 (g : Fin 5) (b : Fin 16) (hb : b.val < 15) : blockOf K g b ∈ blocks15 K g := by
  unfold blocks15
  obtain ⟨b, hb'⟩ := b
  dsimp only at hb
  interval_cases b <;> simp

/-- The exponent field of a group of values. -/
def valWord (g : Fin 5) : IVec S1x1 32 := k0_pay201 ((blocks15 K g).foldl k0_pay18 k0_pay6) (blockOf K g 15)

theorem valWord_apply (g : Fin 5) : valWord K g (ix2 0 0) = kbias (valMax K g) := by
  unfold valWord
  rw [pay201_apply]
  congr 1
  refine eq_of_forall_ge_iff fun y => ?_
  unfold valMax vmax
  simp only [Finset.sup_le_iff, Finset.mem_univ, forall_true_left, pay18_apply, max_le_iff, foldl_mags, pay6_apply]
  constructor
  · intro H n d
    by_cases hb : n.val / 256 < 15
    · have := (H (d, ⟨n.val % 256, Nat.mod_lt _ (by norm_num)⟩)).1.2 _ (mem_blocks15 K g ⟨n.val / 256, by omega⟩ hb)
      rw [show n = ⟨256 * (n.val / 256) + n.val % 256, by omega⟩ from Fin.ext (by simp only; omega)]
      exact this
    · have := (H (d, ⟨n.val % 256, Nat.mod_lt _ (by norm_num)⟩)).2
      rw [show n = ⟨256 * 15 + n.val % 256, by omega⟩ from Fin.ext (by simp only; omega)]
      exact this
  · intro H p
    refine ⟨⟨(mag_nonneg _).trans (H 0 0), fun v hv => ?_⟩, H _ _⟩
    unfold blocks15 at hv
    simp only [List.mem_cons, List.not_mem_nil, or_false] at hv
    rcases hv with rfl | rfl | rfl | rfl | rfl | rfl | rfl | rfl | rfl | rfl | rfl | rfl | rfl | rfl | rfl <;> exact H _ _

end values

/-! ## The pieces -/

/-- A rectangle's element sits where its offset says. -/
theorem emb_eq {s : Shape} {off off' size : Fin s.rank → ℕ} (inb : ∀ a, off a + size a ≤ s.size a) (h : off = off')
    (x : (Rect.unit off size inb).shape.Idx) (y : s.Idx) (hy : ∀ a, (y a).val = off' a + (x a).val) : (Rect.unit off size inb).emb x = y := by
  subst h
  exact funext fun a => Fin.ext ((Idealize.ShloMosaic.ValueKit.rect_emb_unit_val off size inb x a).trans (hy a).symm)

/-- A load of a block of a group's rows. -/
theorem load_block (v : Memref sig .tc .vmem S1x320x4096 .bf16) (X : BufTy.Contents (Elt Ideal) v.view.ty) (g : Fin 5) (b : Fin 16)
    {off : Fin S1x320x4096.rank → ℕ} (inb : ∀ a, off a + S1x64x256.size a ≤ S1x320x4096.size a) (h : off = ![0, 64 * g.val, 256 * b.val]) :
    View.readAt (Elt Ideal) v.view (Rect.unit (s := S1x320x4096) off S1x64x256.size inb).toLoadRect X = blockOf (v.view.read (Elt Ideal) X) g b := by
  funext x
  refine load_apply _ _ _ _ h _ fun a => ?_
  fin_cases a
  · have : (x 0).val < 1 := (x 0).isLt
    show 0 = 0 + (x 0).val
    omega
  · rfl
  · rfl

section pieces

variable (K : S1x320x4096.Idx → EReal) (g : Fin 5) (b : Fin 16)

theorem inbCode : ∀ a, (![0, 64 * g.val, 256 * b.val] : Fin 3 → ℕ) a + S1x64x256.size a ≤ S1x320x4096.size a := by
  intro a; have := g.isLt; have := b.isLt; fin_cases a <;> simp <;> omega
theorem inbScale : ∀ a, (![0, g.val, 256 * b.val] : Fin 3 → ℕ) a + S1x1x256.size a ≤ S1x5x4096.size a := by
  intro a; have := g.isLt; have := b.isLt; fin_cases a <;> simp <;> omega
theorem inbRows : ∀ a, (![g.val, 256 * b.val, 0] : Fin 3 → ℕ) a + S1x256x64.size a ≤ S5x4096x64.size a := by
  intro a; have := g.isLt; have := b.isLt; fin_cases a <;> simp <;> omega
theorem inbEighth : ∀ a, (![g.val, 256 * b.val, 0] : Fin 3 → ℕ) a + S1x256x128.size a ≤ S5x4096x128.size a := by
  intro a; have := g.isLt; have := b.isLt; fin_cases a <;> simp <;> omega
theorem inbVScale : ∀ a, (![0, g.val, 0] : Fin 3 → ℕ) a + S1x1x128.size a ≤ S1x5x128.size a := by
  intro a; have := g.isLt; fin_cases a <;> simp <;> omega
theorem inbVFactor : ∀ a, (![g.val, 0] : Fin 2 → ℕ) a + S1x256.size a ≤ S8x256.size a := by
  intro a; have := g.isLt; fin_cases a <;> simp <;> omega

/-- The pieces of block `b` of group `g`, one for each buffer. -/
def pieceCode : View.Piece (Elt Ideal) S1x320x4096 .fp8e4m3 :=
  ⟨Rect.unit (s := S1x320x4096) ![0, 64 * g.val, 256 * b.val] S1x64x256.size (inbCode g b), blkCode (blockOf K g b)⟩
def pieceScale : View.Piece (Elt Ideal) S1x5x4096 .f32 :=
  ⟨Rect.unit (s := S1x5x4096) ![0, g.val, 256 * b.val] S1x1x256.size (inbScale g b), blkScale (blockOf K g b)⟩
def pieceRows : View.Piece (Elt Ideal) S5x4096x64 .fp8e4m3 :=
  ⟨Rect.unit (s := S5x4096x64) ![g.val, 256 * b.val, 0] S1x256x64.size (inbRows g b), blkRows (blockOf K g b)⟩
def pieceEighth : View.Piece (Elt Ideal) S5x4096x128 .f32 :=
  ⟨Rect.unit (s := S5x4096x128) ![g.val, 256 * b.val, 0] S1x256x128.size (inbEighth g b), blkEighth (blockOf K g b)⟩
def pieceVal : View.Piece (Elt Ideal) S1x320x4096 .fp8e4m3 :=
  ⟨Rect.unit (s := S1x320x4096) ![0, 64 * g.val, 256 * b.val] S1x64x256.size (inbCode g b), k0_pay206 (valWord K g) (blockOf K g b)⟩
def pieceVScale : View.Piece (Elt Ideal) S1x5x128 .f32 :=
  ⟨Rect.unit (s := S1x5x128) ![0, g.val, 0] S1x1x128.size (inbVScale g), k0_pay204 (F := Ideal) (valWord K g)⟩
def pieceVFactor : View.Piece (Elt Ideal) S8x256 .f32 :=
  ⟨Rect.unit (s := S8x256) ![g.val, 0] S1x256.size (inbVFactor g), k0_pay205 (F := Ideal) (valWord K g)⟩

/-! The same pieces, with their offsets and payloads written otherwise. -/

theorem pieceCode_of {off : Fin S1x320x4096.rank → ℕ} (inb : ∀ a, off a + S1x64x256.size a ≤ S1x320x4096.size a) (h : off = ![0, 64 * g.val, 256 * b.val])
    (v : Vec Ideal S1x64x256 .bf16) (hv : v = blockOf K g b) :
    (⟨Rect.unit (s := S1x320x4096) off S1x64x256.size inb, blkCode v⟩ : View.Piece (Elt Ideal) S1x320x4096 .fp8e4m3) = pieceCode K g b := by
  subst h hv; rfl

theorem pieceScale_of {off : Fin S1x5x4096.rank → ℕ} (inb : ∀ a, off a + S1x1x256.size a ≤ S1x5x4096.size a) (h : off = ![0, g.val, 256 * b.val])
    (v : FVec Ideal S1x1x256 .f32) (hv : v = blkScale (blockOf K g b)) :
    (⟨Rect.unit (s := S1x5x4096) off S1x1x256.size inb, v⟩ : View.Piece (Elt Ideal) S1x5x4096 .f32) = pieceScale K g b := by
  subst h hv; rfl

theorem pieceRows_of {off : Fin S5x4096x64.rank → ℕ} (inb : ∀ a, off a + S1x256x64.size a ≤ S5x4096x64.size a) (h : off = ![g.val, 256 * b.val, 0])
    (v : Vec Ideal S1x64x256 .bf16) (hv : v = blockOf K g b) :
    (⟨Rect.unit (s := S5x4096x64) off S1x256x64.size inb, blkRows v⟩ : View.Piece (Elt Ideal) S5x4096x64 .fp8e4m3) = pieceRows K g b := by
  subst h hv; rfl

theorem pieceEighth_of {off : Fin S5x4096x128.rank → ℕ} (inb : ∀ a, off a + S1x256x128.size a ≤ S5x4096x128.size a) (h : off = ![g.val, 256 * b.val, 0])
    (v : Vec Ideal S1x64x256 .bf16) (hv : v = blockOf K g b) :
    (⟨Rect.unit (s := S5x4096x128) off S1x256x128.size inb, blkEighth v⟩ : View.Piece (Elt Ideal) S5x4096x128 .f32) = pieceEighth K g b := by
  subst h hv; rfl

theorem pieceVal_of {off : Fin S1x320x4096.rank → ℕ} (inb : ∀ a, off a + S1x64x256.size a ≤ S1x320x4096.size a) (h : off = ![0, 64 * g.val, 256 * b.val])
    (w : IVec S1x1 32) (v : Vec Ideal S1x64x256 .bf16) (hw : w = valWord K g) (hv : v = blockOf K g b) :
    (⟨Rect.unit (s := S1x320x4096) off S1x64x256.size inb, k0_pay206 w v⟩ : View.Piece (Elt Ideal) S1x320x4096 .fp8e4m3) = pieceVal K g b := by
  subst h hw hv; rfl

theorem pieceVScale_of {off : Fin S1x5x128.rank → ℕ} (inb : ∀ a, off a + S1x1x128.size a ≤ S1x5x128.size a) (h : off = ![0, g.val, 0])
    (w : IVec S1x1 32) (hw : w = valWord K g) :
    (⟨Rect.unit (s := S1x5x128) off S1x1x128.size inb, k0_pay204 (F := Ideal) w⟩ : View.Piece (Elt Ideal) S1x5x128 .f32) = pieceVScale K g := by
  subst h hw; rfl

theorem pieceVFactor_of {off : Fin S8x256.rank → ℕ} (inb : ∀ a, off a + S1x256.size a ≤ S8x256.size a) (h : off = ![g.val, 0])
    (w : IVec S1x1 32) (hw : w = valWord K g) :
    (⟨Rect.unit (s := S8x256) off S1x256.size inb, k0_pay205 (F := Ideal) w⟩ : View.Piece (Elt Ideal) S8x256 .f32) = pieceVFactor K g := by
  subst h hw; rfl

/-- Index of a row within its group. -/
theorem grpOf_row (d : Fin 64) : grpOf (row g d) = g := Fin.ext (by show (64 * g.val + d.val) / 64 = g.val; omega)

theorem pieceCode_ok (x) : (pieceCode K g b).2 x = keyCodes K ((pieceCode K g b).1.emb x) := by
  obtain ⟨z, d, r, rfl⟩ : ∃ (z : Fin 1) (d : Fin 64) (r : Fin 256), x = ix3 z d r := ⟨x 0, x 1, x 2, (ix3_eta x).symm⟩
  obtain rfl : z = 0 := Subsingleton.elim _ _
  rw [show (pieceCode K g b).1.emb (ix3 0 d r) = ix3 0 (row g d) ⟨256 * b.val + r.val, by omega⟩ from
    emb_eq (inbCode g b) rfl _ _ fun a => by fin_cases a <;> rfl]
  refine (blkCode_apply _ r d).trans ?_
  unfold keyCodes
  rw [show grpOf ((ix3 0 (row g d) (⟨256 * b.val + r.val, by omega⟩ : Fin 4096) : S1x320x4096.Idx) 1) = g from grpOf_row g d]
  rfl

theorem pieceScale_ok (x) : (pieceScale K g b).2 x = keyScales K ((pieceScale K g b).1.emb x) := by
  obtain ⟨z, d, r, rfl⟩ : ∃ (z : Fin 1) (d : Fin 1) (r : Fin 256), x = ix3 z d r := ⟨x 0, x 1, x 2, (ix3_eta x).symm⟩
  obtain rfl : z = 0 := Subsingleton.elim _ _
  obtain rfl : d = 0 := Subsingleton.elim _ _
  rw [show (pieceScale K g b).1.emb (ix3 0 0 r) = ix3 0 g ⟨256 * b.val + r.val, by omega⟩ from
    emb_eq (inbScale g b) rfl _ _ fun a => by fin_cases a <;> rfl]
  exact blkScale_apply _ r

theorem pieceRows_ok (x) : (pieceRows K g b).2 x = keyRows K ((pieceRows K g b).1.emb x) := by
  obtain ⟨z, r, d, rfl⟩ : ∃ (z : Fin 1) (r : Fin 256) (d : Fin 64), x = ix3 z r d := ⟨x 0, x 1, x 2, (ix3_eta x).symm⟩
  obtain rfl : z = 0 := Subsingleton.elim _ _
  rw [show (pieceRows K g b).1.emb (ix3 0 r d) = ix3 g ⟨256 * b.val + r.val, by omega⟩ d from
    emb_eq (inbRows g b) rfl _ _ fun a => by fin_cases a <;> first | rfl | exact (Nat.zero_add _).symm]
  exact blkRows_apply _ r d

theorem pieceEighth_ok (x) : (pieceEighth K g b).2 x = keyEighths K ((pieceEighth K g b).1.emb x) := by
  obtain ⟨z, r, d, rfl⟩ : ∃ (z : Fin 1) (r : Fin 256) (d : Fin 128), x = ix3 z r d := ⟨x 0, x 1, x 2, (ix3_eta x).symm⟩
  obtain rfl : z = 0 := Subsingleton.elim _ _
  rw [show (pieceEighth K g b).1.emb (ix3 0 r d) = ix3 g ⟨256 * b.val + r.val, by omega⟩ d from
    emb_eq (inbEighth g b) rfl _ _ fun a => by fin_cases a <;> first | rfl | exact (Nat.zero_add _).symm]
  exact blkEighth_apply _ r d

theorem pieceVal_ok (x) : (pieceVal K g b).2 x = valCodes K ((pieceVal K g b).1.emb x) := by
  obtain ⟨z, d, r, rfl⟩ : ∃ (z : Fin 1) (d : Fin 64) (r : Fin 256), x = ix3 z d r := ⟨x 0, x 1, x 2, (ix3_eta x).symm⟩
  obtain rfl : z = 0 := Subsingleton.elim _ _
  rw [show (pieceVal K g b).1.emb (ix3 0 d r) = ix3 0 (row g d) ⟨256 * b.val + r.val, by omega⟩ from
    emb_eq (inbCode g b) rfl _ _ fun a => by fin_cases a <;> rfl]
  refine (pay206_apply _ _ d r).trans ?_
  rw [valWord_apply, word_kinv]
  unfold valCodes
  rw [show grpOf ((ix3 0 (row g d) (⟨256 * b.val + r.val, by omega⟩ : Fin 4096) : S1x320x4096.Idx) 1) = g from grpOf_row g d]
  rfl

theorem pieceVScale_ok (x) : (pieceVScale K g).2 x = valScales K ((pieceVScale K g).1.emb x) := by
  obtain ⟨z, d, r, rfl⟩ : ∃ (z : Fin 1) (d : Fin 1) (r : Fin 128), x = ix3 z d r := ⟨x 0, x 1, x 2, (ix3_eta x).symm⟩
  obtain rfl : z = 0 := Subsingleton.elim _ _
  obtain rfl : d = 0 := Subsingleton.elim _ _
  rw [show (pieceVScale K g).1.emb (ix3 0 0 r) = ix3 0 g r from
    emb_eq (inbVScale g) rfl _ _ fun a => by fin_cases a <;> first | rfl | exact (Nat.zero_add _).symm]
  refine (pay204_apply _ r).trans ?_
  rw [valWord_apply, word_kscale]
  rfl

theorem pieceVFactor_ok (x) : (pieceVFactor K g).2 x = valFactor K g := by
  obtain ⟨z, r, rfl⟩ : ∃ (z : Fin 1) (r : Fin 256), x = ix2 z r := ⟨x 0, x 1, (ix2_eta x).symm⟩
  obtain rfl : z = 0 := Subsingleton.elim _ _
  refine (pay205_apply _ r).trans ?_
  rw [valWord_apply, word_kscale]
  rfl

end pieces

/-- All sixteen blocks, the last first. -/
def sixteen {α : Type} (f : Fin 16 → α) : List α :=
  [f 15, f 14, f 13, f 12, f 11, f 10, f 9, f 8, f 7, f 6, f 5, f 4, f 3, f 2, f 1, f 0]

theorem mem_sixteen {α : Type} (f : Fin 16 → α) (p : α) : p ∈ sixteen f ↔ ∃ b, p = f b := by
  unfold sixteen
  constructor
  · intro h
    simp only [List.mem_cons, List.not_mem_nil, or_false] at h
    rcases h with h | h | h | h | h | h | h | h | h | h | h | h | h | h | h | h <;> exact ⟨_, h⟩
  · rintro ⟨b, rfl⟩
    fin_cases b <;> simp

/-- The scale of block 11, which the kernel computes in other steps. -/
theorem scale_block11 (v : Vec Ideal S1x64x256 .bf16) : k0_pay146 (F := Ideal) (k0_pay142 v) (k0_pay143 v) k0_pay144 = blkScale v := by
  unfold blkScale k0_pay146 k0_pay145 k0_pay9 k0_pay8 k0_pay143 k0_pay142 k0_pay144 k0_pay141 k0_pay7
  rfl

/-- The scale of block 6, likewise. -/
theorem scale_block6 (v : Vec Ideal S1x64x256 .bf16) : k0_pay85 (F := Ideal) (k0_pay81 v) (k0_pay82 v) k0_pay83 = blkScale v := by
  unfold blkScale k0_pay85 k0_pay84 k0_pay9 k0_pay8 k0_pay82 k0_pay81 k0_pay83 k0_pay80 k0_pay7
  rfl

/-- The scale of block 1, likewise. -/
theorem scale_block1 (v : Vec Ideal S1x64x256 .bf16) : k0_pay24 (F := Ideal) (k0_pay20 v) (k0_pay21 v) k0_pay22 = blkScale v := by
  unfold blkScale k0_pay24 k0_pay23 k0_pay9 k0_pay8 k0_pay21 k0_pay20 k0_pay22 k0_pay19 k0_pay7
  rfl

section trip

variable (𝒱 : Variants) (c : Dev nD) (bd : Option 𝒱.V) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole)
  (h1 : k0_cond1 i = 1#1) (X4 : BufTy.Contents (Elt Ideal) arg4.view.ty) (X5 : BufTy.Contents (Elt Ideal) arg5.view.ty) (k : Fin k0_t1_loop.trips)

/-- The group of trip `k`. -/
def gof (k : Fin k0_t1_loop.trips) : Fin 5 := ⟨k.val, k.isLt⟩

theorem trip10 : (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 k).1 = sixteen (pieceCode (arg4.view.read (Elt Ideal) X4) (gof k)) := by
  unfold trip_k0_t1
  exact congrArg₂ List.cons (pieceCode_of _ _ _ _ (k0_off61_eq k) _ (load_block arg4 X4 (gof k) 15 (k0_off61_inb i k h1) (k0_off61_eq k)))
    (congrArg₂ List.cons (pieceCode_of _ _ _ _ (k0_off57_eq k) _ (load_block arg4 X4 (gof k) 14 (k0_off57_inb i k h1) (k0_off57_eq k)))
    (congrArg₂ List.cons (pieceCode_of _ _ _ _ (k0_off53_eq k) _ (load_block arg4 X4 (gof k) 13 (k0_off53_inb i k h1) (k0_off53_eq k)))
    (congrArg₂ List.cons (pieceCode_of _ _ _ _ (k0_off49_eq k) _ (load_block arg4 X4 (gof k) 12 (k0_off49_inb i k h1) (k0_off49_eq k)))
    (congrArg₂ List.cons (pieceCode_of _ _ _ _ (k0_off45_eq k) _ (load_block arg4 X4 (gof k) 11 (k0_off45_inb i k h1) (k0_off45_eq k)))
    (congrArg₂ List.cons (pieceCode_of _ _ _ _ (k0_off41_eq k) _ (load_block arg4 X4 (gof k) 10 (k0_off41_inb i k h1) (k0_off41_eq k)))
    (congrArg₂ List.cons (pieceCode_of _ _ _ _ (k0_off37_eq k) _ (load_block arg4 X4 (gof k) 9 (k0_off37_inb i k h1) (k0_off37_eq k)))
    (congrArg₂ List.cons (pieceCode_of _ _ _ _ (k0_off33_eq k) _ (load_block arg4 X4 (gof k) 8 (k0_off33_inb i k h1) (k0_off33_eq k)))
    (congrArg₂ List.cons (pieceCode_of _ _ _ _ (k0_off29_eq k) _ (load_block arg4 X4 (gof k) 7 (k0_off29_inb i k h1) (k0_off29_eq k)))
    (congrArg₂ List.cons (pieceCode_of _ _ _ _ (k0_off25_eq k) _ (load_block arg4 X4 (gof k) 6 (k0_off25_inb i k h1) (k0_off25_eq k)))
    (congrArg₂ List.cons (pieceCode_of _ _ _ _ (k0_off21_eq k) _ (load_block arg4 X4 (gof k) 5 (k0_off21_inb i k h1) (k0_off21_eq k)))
    (congrArg₂ List.cons (pieceCode_of _ _ _ _ (k0_off17_eq k) _ (load_block arg4 X4 (gof k) 4 (k0_off17_inb i k h1) (k0_off17_eq k)))
    (congrArg₂ List.cons (pieceCode_of _ _ _ _ (k0_off13_eq k) _ (load_block arg4 X4 (gof k) 3 (k0_off13_inb i k h1) (k0_off13_eq k)))
    (congrArg₂ List.cons (pieceCode_of _ _ _ _ (k0_off9_eq k) _ (load_block arg4 X4 (gof k) 2 (k0_off9_inb i k h1) (k0_off9_eq k)))
    (congrArg₂ List.cons (pieceCode_of _ _ _ _ (k0_off5_eq k) _ (load_block arg4 X4 (gof k) 1 (k0_off5_inb i k h1) (k0_off5_eq k)))
    (congrArg₂ List.cons (pieceCode_of _ _ _ _ (k0_off1_eq k) _ (load_block arg4 X4 (gof k) 0 (k0_off1_inb i k h1) (k0_off1_eq k)))
    (rfl))))))))))))))))

theorem trip11 : (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 k).2.1 = sixteen (pieceScale (arg4.view.read (Elt Ideal) X4) (gof k)) := by
  unfold trip_k0_t1
  exact congrArg₂ List.cons (pieceScale_of _ _ _ _ (k0_off62_eq k) _ ((congrArg blkScale (load_block arg4 X4 (gof k) 15 (k0_off61_inb i k h1) (k0_off61_eq k)))))
    (congrArg₂ List.cons (pieceScale_of _ _ _ _ (k0_off58_eq k) _ ((congrArg blkScale (load_block arg4 X4 (gof k) 14 (k0_off57_inb i k h1) (k0_off57_eq k)))))
    (congrArg₂ List.cons (pieceScale_of _ _ _ _ (k0_off54_eq k) _ ((congrArg blkScale (load_block arg4 X4 (gof k) 13 (k0_off53_inb i k h1) (k0_off53_eq k)))))
    (congrArg₂ List.cons (pieceScale_of _ _ _ _ (k0_off50_eq k) _ ((congrArg blkScale (load_block arg4 X4 (gof k) 12 (k0_off49_inb i k h1) (k0_off49_eq k)))))
    (congrArg₂ List.cons (pieceScale_of _ _ _ _ (k0_off46_eq k) _ ((scale_block11 _).trans (congrArg blkScale (load_block arg4 X4 (gof k) 11 (k0_off45_inb i k h1) (k0_off45_eq k)))))
    (congrArg₂ List.cons (pieceScale_of _ _ _ _ (k0_off42_eq k) _ ((congrArg blkScale (load_block arg4 X4 (gof k) 10 (k0_off41_inb i k h1) (k0_off41_eq k)))))
    (congrArg₂ List.cons (pieceScale_of _ _ _ _ (k0_off38_eq k) _ ((congrArg blkScale (load_block arg4 X4 (gof k) 9 (k0_off37_inb i k h1) (k0_off37_eq k)))))
    (congrArg₂ List.cons (pieceScale_of _ _ _ _ (k0_off34_eq k) _ ((congrArg blkScale (load_block arg4 X4 (gof k) 8 (k0_off33_inb i k h1) (k0_off33_eq k)))))
    (congrArg₂ List.cons (pieceScale_of _ _ _ _ (k0_off30_eq k) _ ((congrArg blkScale (load_block arg4 X4 (gof k) 7 (k0_off29_inb i k h1) (k0_off29_eq k)))))
    (congrArg₂ List.cons (pieceScale_of _ _ _ _ (k0_off26_eq k) _ ((scale_block6 _).trans (congrArg blkScale (load_block arg4 X4 (gof k) 6 (k0_off25_inb i k h1) (k0_off25_eq k)))))
    (congrArg₂ List.cons (pieceScale_of _ _ _ _ (k0_off22_eq k) _ ((congrArg blkScale (load_block arg4 X4 (gof k) 5 (k0_off21_inb i k h1) (k0_off21_eq k)))))
    (congrArg₂ List.cons (pieceScale_of _ _ _ _ (k0_off18_eq k) _ ((congrArg blkScale (load_block arg4 X4 (gof k) 4 (k0_off17_inb i k h1) (k0_off17_eq k)))))
    (congrArg₂ List.cons (pieceScale_of _ _ _ _ (k0_off14_eq k) _ ((congrArg blkScale (load_block arg4 X4 (gof k) 3 (k0_off13_inb i k h1) (k0_off13_eq k)))))
    (congrArg₂ List.cons (pieceScale_of _ _ _ _ (k0_off10_eq k) _ ((congrArg blkScale (load_block arg4 X4 (gof k) 2 (k0_off9_inb i k h1) (k0_off9_eq k)))))
    (congrArg₂ List.cons (pieceScale_of _ _ _ _ (k0_off6_eq k) _ ((scale_block1 _).trans (congrArg blkScale (load_block arg4 X4 (gof k) 1 (k0_off5_inb i k h1) (k0_off5_eq k)))))
    (congrArg₂ List.cons (pieceScale_of _ _ _ _ (k0_off2_eq k) _ ((congrArg blkScale (load_block arg4 X4 (gof k) 0 (k0_off1_inb i k h1) (k0_off1_eq k)))))
    (rfl))))))))))))))))

theorem trip14 : (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 k).2.2.2.2.1 = sixteen (pieceRows (arg4.view.read (Elt Ideal) X4) (gof k)) := by
  unfold trip_k0_t1
  exact congrArg₂ List.cons (pieceRows_of _ _ _ _ (k0_off63_eq k) _ (load_block arg4 X4 (gof k) 15 (k0_off61_inb i k h1) (k0_off61_eq k)))
    (congrArg₂ List.cons (pieceRows_of _ _ _ _ (k0_off59_eq k) _ (load_block arg4 X4 (gof k) 14 (k0_off57_inb i k h1) (k0_off57_eq k)))
    (congrArg₂ List.cons (pieceRows_of _ _ _ _ (k0_off55_eq k) _ (load_block arg4 X4 (gof k) 13 (k0_off53_inb i k h1) (k0_off53_eq k)))
    (congrArg₂ List.cons (pieceRows_of _ _ _ _ (k0_off51_eq k) _ (load_block arg4 X4 (gof k) 12 (k0_off49_inb i k h1) (k0_off49_eq k)))
    (congrArg₂ List.cons (pieceRows_of _ _ _ _ (k0_off47_eq k) _ (load_block arg4 X4 (gof k) 11 (k0_off45_inb i k h1) (k0_off45_eq k)))
    (congrArg₂ List.cons (pieceRows_of _ _ _ _ (k0_off43_eq k) _ (load_block arg4 X4 (gof k) 10 (k0_off41_inb i k h1) (k0_off41_eq k)))
    (congrArg₂ List.cons (pieceRows_of _ _ _ _ (k0_off39_eq k) _ (load_block arg4 X4 (gof k) 9 (k0_off37_inb i k h1) (k0_off37_eq k)))
    (congrArg₂ List.cons (pieceRows_of _ _ _ _ (k0_off35_eq k) _ (load_block arg4 X4 (gof k) 8 (k0_off33_inb i k h1) (k0_off33_eq k)))
    (congrArg₂ List.cons (pieceRows_of _ _ _ _ (k0_off31_eq k) _ (load_block arg4 X4 (gof k) 7 (k0_off29_inb i k h1) (k0_off29_eq k)))
    (congrArg₂ List.cons (pieceRows_of _ _ _ _ (k0_off27_eq k) _ (load_block arg4 X4 (gof k) 6 (k0_off25_inb i k h1) (k0_off25_eq k)))
    (congrArg₂ List.cons (pieceRows_of _ _ _ _ (k0_off23_eq k) _ (load_block arg4 X4 (gof k) 5 (k0_off21_inb i k h1) (k0_off21_eq k)))
    (congrArg₂ List.cons (pieceRows_of _ _ _ _ (k0_off19_eq k) _ (load_block arg4 X4 (gof k) 4 (k0_off17_inb i k h1) (k0_off17_eq k)))
    (congrArg₂ List.cons (pieceRows_of _ _ _ _ (k0_off15_eq k) _ (load_block arg4 X4 (gof k) 3 (k0_off13_inb i k h1) (k0_off13_eq k)))
    (congrArg₂ List.cons (pieceRows_of _ _ _ _ (k0_off11_eq k) _ (load_block arg4 X4 (gof k) 2 (k0_off9_inb i k h1) (k0_off9_eq k)))
    (congrArg₂ List.cons (pieceRows_of _ _ _ _ (k0_off7_eq k) _ (load_block arg4 X4 (gof k) 1 (k0_off5_inb i k h1) (k0_off5_eq k)))
    (congrArg₂ List.cons (pieceRows_of _ _ _ _ (k0_off3_eq k) _ (load_block arg4 X4 (gof k) 0 (k0_off1_inb i k h1) (k0_off1_eq k)))
    (rfl))))))))))))))))

theorem trip15 : (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 k).2.2.2.2.2.1 = sixteen (pieceEighth (arg4.view.read (Elt Ideal) X4) (gof k)) := by
  unfold trip_k0_t1
  exact congrArg₂ List.cons (pieceEighth_of _ _ _ _ (k0_off64_eq k) _ (load_block arg4 X4 (gof k) 15 (k0_off61_inb i k h1) (k0_off61_eq k)))
    (congrArg₂ List.cons (pieceEighth_of _ _ _ _ (k0_off60_eq k) _ (load_block arg4 X4 (gof k) 14 (k0_off57_inb i k h1) (k0_off57_eq k)))
    (congrArg₂ List.cons (pieceEighth_of _ _ _ _ (k0_off56_eq k) _ (load_block arg4 X4 (gof k) 13 (k0_off53_inb i k h1) (k0_off53_eq k)))
    (congrArg₂ List.cons (pieceEighth_of _ _ _ _ (k0_off52_eq k) _ (load_block arg4 X4 (gof k) 12 (k0_off49_inb i k h1) (k0_off49_eq k)))
    (congrArg₂ List.cons (pieceEighth_of _ _ _ _ (k0_off48_eq k) _ (load_block arg4 X4 (gof k) 11 (k0_off45_inb i k h1) (k0_off45_eq k)))
    (congrArg₂ List.cons (pieceEighth_of _ _ _ _ (k0_off44_eq k) _ (load_block arg4 X4 (gof k) 10 (k0_off41_inb i k h1) (k0_off41_eq k)))
    (congrArg₂ List.cons (pieceEighth_of _ _ _ _ (k0_off40_eq k) _ (load_block arg4 X4 (gof k) 9 (k0_off37_inb i k h1) (k0_off37_eq k)))
    (congrArg₂ List.cons (pieceEighth_of _ _ _ _ (k0_off36_eq k) _ (load_block arg4 X4 (gof k) 8 (k0_off33_inb i k h1) (k0_off33_eq k)))
    (congrArg₂ List.cons (pieceEighth_of _ _ _ _ (k0_off32_eq k) _ (load_block arg4 X4 (gof k) 7 (k0_off29_inb i k h1) (k0_off29_eq k)))
    (congrArg₂ List.cons (pieceEighth_of _ _ _ _ (k0_off28_eq k) _ (load_block arg4 X4 (gof k) 6 (k0_off25_inb i k h1) (k0_off25_eq k)))
    (congrArg₂ List.cons (pieceEighth_of _ _ _ _ (k0_off24_eq k) _ (load_block arg4 X4 (gof k) 5 (k0_off21_inb i k h1) (k0_off21_eq k)))
    (congrArg₂ List.cons (pieceEighth_of _ _ _ _ (k0_off20_eq k) _ (load_block arg4 X4 (gof k) 4 (k0_off17_inb i k h1) (k0_off17_eq k)))
    (congrArg₂ List.cons (pieceEighth_of _ _ _ _ (k0_off16_eq k) _ (load_block arg4 X4 (gof k) 3 (k0_off13_inb i k h1) (k0_off13_eq k)))
    (congrArg₂ List.cons (pieceEighth_of _ _ _ _ (k0_off12_eq k) _ (load_block arg4 X4 (gof k) 2 (k0_off9_inb i k h1) (k0_off9_eq k)))
    (congrArg₂ List.cons (pieceEighth_of _ _ _ _ (k0_off8_eq k) _ (load_block arg4 X4 (gof k) 1 (k0_off5_inb i k h1) (k0_off5_eq k)))
    (congrArg₂ List.cons (pieceEighth_of _ _ _ _ (k0_off4_eq k) _ (load_block arg4 X4 (gof k) 0 (k0_off1_inb i k h1) (k0_off1_eq k)))
    (rfl))))))))))))))))

/-- The exponent field of the trip's values, as the trip computes it. -/
theorem valWord_trip : @Eq (IVec S1x1 32) (k0_pay201 ([(View.readAt (Elt Ideal) arg5.view (Rect.unit (s := S1x320x4096) (k0_off1 k) S1x64x256.size (k0_off1_inb i k h1)).toLoadRect X5),
    (View.readAt (Elt Ideal) arg5.view (Rect.unit (s := S1x320x4096) (k0_off5 k) S1x64x256.size (k0_off5_inb i k h1)).toLoadRect X5),
    (View.readAt (Elt Ideal) arg5.view (Rect.unit (s := S1x320x4096) (k0_off9 k) S1x64x256.size (k0_off9_inb i k h1)).toLoadRect X5),
    (View.readAt (Elt Ideal) arg5.view (Rect.unit (s := S1x320x4096) (k0_off13 k) S1x64x256.size (k0_off13_inb i k h1)).toLoadRect X5),
    (View.readAt (Elt Ideal) arg5.view (Rect.unit (s := S1x320x4096) (k0_off17 k) S1x64x256.size (k0_off17_inb i k h1)).toLoadRect X5),
    (View.readAt (Elt Ideal) arg5.view (Rect.unit (s := S1x320x4096) (k0_off21 k) S1x64x256.size (k0_off21_inb i k h1)).toLoadRect X5),
    (View.readAt (Elt Ideal) arg5.view (Rect.unit (s := S1x320x4096) (k0_off25 k) S1x64x256.size (k0_off25_inb i k h1)).toLoadRect X5),
    (View.readAt (Elt Ideal) arg5.view (Rect.unit (s := S1x320x4096) (k0_off29 k) S1x64x256.size (k0_off29_inb i k h1)).toLoadRect X5),
    (View.readAt (Elt Ideal) arg5.view (Rect.unit (s := S1x320x4096) (k0_off33 k) S1x64x256.size (k0_off33_inb i k h1)).toLoadRect X5),
    (View.readAt (Elt Ideal) arg5.view (Rect.unit (s := S1x320x4096) (k0_off37 k) S1x64x256.size (k0_off37_inb i k h1)).toLoadRect X5),
    (View.readAt (Elt Ideal) arg5.view (Rect.unit (s := S1x320x4096) (k0_off41 k) S1x64x256.size (k0_off41_inb i k h1)).toLoadRect X5),
    (View.readAt (Elt Ideal) arg5.view (Rect.unit (s := S1x320x4096) (k0_off45 k) S1x64x256.size (k0_off45_inb i k h1)).toLoadRect X5),
    (View.readAt (Elt Ideal) arg5.view (Rect.unit (s := S1x320x4096) (k0_off49 k) S1x64x256.size (k0_off49_inb i k h1)).toLoadRect X5),
    (View.readAt (Elt Ideal) arg5.view (Rect.unit (s := S1x320x4096) (k0_off53 k) S1x64x256.size (k0_off53_inb i k h1)).toLoadRect X5),
    (View.readAt (Elt Ideal) arg5.view (Rect.unit (s := S1x320x4096) (k0_off57 k) S1x64x256.size (k0_off57_inb i k h1)).toLoadRect X5)].foldl k0_pay18 k0_pay6) (View.readAt (Elt Ideal) arg5.view (Rect.unit (s := S1x320x4096) (k0_off61 k) S1x64x256.size (k0_off61_inb i k h1)).toLoadRect X5)) (valWord (arg5.view.read (Elt Ideal) X5) (gof k)) := by
  have hl : [(View.readAt (Elt Ideal) arg5.view (Rect.unit (s := S1x320x4096) (k0_off1 k) S1x64x256.size (k0_off1_inb i k h1)).toLoadRect X5),
    (View.readAt (Elt Ideal) arg5.view (Rect.unit (s := S1x320x4096) (k0_off5 k) S1x64x256.size (k0_off5_inb i k h1)).toLoadRect X5),
    (View.readAt (Elt Ideal) arg5.view (Rect.unit (s := S1x320x4096) (k0_off9 k) S1x64x256.size (k0_off9_inb i k h1)).toLoadRect X5),
    (View.readAt (Elt Ideal) arg5.view (Rect.unit (s := S1x320x4096) (k0_off13 k) S1x64x256.size (k0_off13_inb i k h1)).toLoadRect X5),
    (View.readAt (Elt Ideal) arg5.view (Rect.unit (s := S1x320x4096) (k0_off17 k) S1x64x256.size (k0_off17_inb i k h1)).toLoadRect X5),
    (View.readAt (Elt Ideal) arg5.view (Rect.unit (s := S1x320x4096) (k0_off21 k) S1x64x256.size (k0_off21_inb i k h1)).toLoadRect X5),
    (View.readAt (Elt Ideal) arg5.view (Rect.unit (s := S1x320x4096) (k0_off25 k) S1x64x256.size (k0_off25_inb i k h1)).toLoadRect X5),
    (View.readAt (Elt Ideal) arg5.view (Rect.unit (s := S1x320x4096) (k0_off29 k) S1x64x256.size (k0_off29_inb i k h1)).toLoadRect X5),
    (View.readAt (Elt Ideal) arg5.view (Rect.unit (s := S1x320x4096) (k0_off33 k) S1x64x256.size (k0_off33_inb i k h1)).toLoadRect X5),
    (View.readAt (Elt Ideal) arg5.view (Rect.unit (s := S1x320x4096) (k0_off37 k) S1x64x256.size (k0_off37_inb i k h1)).toLoadRect X5),
    (View.readAt (Elt Ideal) arg5.view (Rect.unit (s := S1x320x4096) (k0_off41 k) S1x64x256.size (k0_off41_inb i k h1)).toLoadRect X5),
    (View.readAt (Elt Ideal) arg5.view (Rect.unit (s := S1x320x4096) (k0_off45 k) S1x64x256.size (k0_off45_inb i k h1)).toLoadRect X5),
    (View.readAt (Elt Ideal) arg5.view (Rect.unit (s := S1x320x4096) (k0_off49 k) S1x64x256.size (k0_off49_inb i k h1)).toLoadRect X5),
    (View.readAt (Elt Ideal) arg5.view (Rect.unit (s := S1x320x4096) (k0_off53 k) S1x64x256.size (k0_off53_inb i k h1)).toLoadRect X5),
    (View.readAt (Elt Ideal) arg5.view (Rect.unit (s := S1x320x4096) (k0_off57 k) S1x64x256.size (k0_off57_inb i k h1)).toLoadRect X5)] = blocks15 (arg5.view.read (Elt Ideal) X5) (gof k) := by
    unfold blocks15
    exact congrArg₂ List.cons (load_block arg5 X5 (gof k) 0 _ (k0_off1_eq k))
      (congrArg₂ List.cons (load_block arg5 X5 (gof k) 1 _ (k0_off5_eq k))
      (congrArg₂ List.cons (load_block arg5 X5 (gof k) 2 _ (k0_off9_eq k))
      (congrArg₂ List.cons (load_block arg5 X5 (gof k) 3 _ (k0_off13_eq k))
      (congrArg₂ List.cons (load_block arg5 X5 (gof k) 4 _ (k0_off17_eq k))
      (congrArg₂ List.cons (load_block arg5 X5 (gof k) 5 _ (k0_off21_eq k))
      (congrArg₂ List.cons (load_block arg5 X5 (gof k) 6 _ (k0_off25_eq k))
      (congrArg₂ List.cons (load_block arg5 X5 (gof k) 7 _ (k0_off29_eq k))
      (congrArg₂ List.cons (load_block arg5 X5 (gof k) 8 _ (k0_off33_eq k))
      (congrArg₂ List.cons (load_block arg5 X5 (gof k) 9 _ (k0_off37_eq k))
      (congrArg₂ List.cons (load_block arg5 X5 (gof k) 10 _ (k0_off41_eq k))
      (congrArg₂ List.cons (load_block arg5 X5 (gof k) 11 _ (k0_off45_eq k))
      (congrArg₂ List.cons (load_block arg5 X5 (gof k) 12 _ (k0_off49_eq k))
      (congrArg₂ List.cons (load_block arg5 X5 (gof k) 13 _ (k0_off53_eq k))
      (congrArg₂ List.cons (load_block arg5 X5 (gof k) 14 _ (k0_off57_eq k))
      (rfl)))))))))))))))
  unfold valWord
  rw [← hl, ← load_block arg5 X5 (gof k) 15 (k0_off61_inb i k h1) (k0_off61_eq k)]

theorem trip12 : (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 k).2.2.1 = sixteen (pieceVal (arg5.view.read (Elt Ideal) X5) (gof k)) := by
  unfold trip_k0_t1
  exact congrArg₂ List.cons (pieceVal_of _ _ _ _ (k0_off61_eq k) _ _ (valWord_trip i arg5 h1 X5 k) (load_block arg5 X5 (gof k) 15 _ (k0_off61_eq k)))
    (congrArg₂ List.cons (pieceVal_of _ _ _ _ (k0_off57_eq k) _ _ (valWord_trip i arg5 h1 X5 k) (load_block arg5 X5 (gof k) 14 _ (k0_off57_eq k)))
    (congrArg₂ List.cons (pieceVal_of _ _ _ _ (k0_off53_eq k) _ _ (valWord_trip i arg5 h1 X5 k) (load_block arg5 X5 (gof k) 13 _ (k0_off53_eq k)))
    (congrArg₂ List.cons (pieceVal_of _ _ _ _ (k0_off49_eq k) _ _ (valWord_trip i arg5 h1 X5 k) (load_block arg5 X5 (gof k) 12 _ (k0_off49_eq k)))
    (congrArg₂ List.cons (pieceVal_of _ _ _ _ (k0_off45_eq k) _ _ (valWord_trip i arg5 h1 X5 k) (load_block arg5 X5 (gof k) 11 _ (k0_off45_eq k)))
    (congrArg₂ List.cons (pieceVal_of _ _ _ _ (k0_off41_eq k) _ _ (valWord_trip i arg5 h1 X5 k) (load_block arg5 X5 (gof k) 10 _ (k0_off41_eq k)))
    (congrArg₂ List.cons (pieceVal_of _ _ _ _ (k0_off37_eq k) _ _ (valWord_trip i arg5 h1 X5 k) (load_block arg5 X5 (gof k) 9 _ (k0_off37_eq k)))
    (congrArg₂ List.cons (pieceVal_of _ _ _ _ (k0_off33_eq k) _ _ (valWord_trip i arg5 h1 X5 k) (load_block arg5 X5 (gof k) 8 _ (k0_off33_eq k)))
    (congrArg₂ List.cons (pieceVal_of _ _ _ _ (k0_off29_eq k) _ _ (valWord_trip i arg5 h1 X5 k) (load_block arg5 X5 (gof k) 7 _ (k0_off29_eq k)))
    (congrArg₂ List.cons (pieceVal_of _ _ _ _ (k0_off25_eq k) _ _ (valWord_trip i arg5 h1 X5 k) (load_block arg5 X5 (gof k) 6 _ (k0_off25_eq k)))
    (congrArg₂ List.cons (pieceVal_of _ _ _ _ (k0_off21_eq k) _ _ (valWord_trip i arg5 h1 X5 k) (load_block arg5 X5 (gof k) 5 _ (k0_off21_eq k)))
    (congrArg₂ List.cons (pieceVal_of _ _ _ _ (k0_off17_eq k) _ _ (valWord_trip i arg5 h1 X5 k) (load_block arg5 X5 (gof k) 4 _ (k0_off17_eq k)))
    (congrArg₂ List.cons (pieceVal_of _ _ _ _ (k0_off13_eq k) _ _ (valWord_trip i arg5 h1 X5 k) (load_block arg5 X5 (gof k) 3 _ (k0_off13_eq k)))
    (congrArg₂ List.cons (pieceVal_of _ _ _ _ (k0_off9_eq k) _ _ (valWord_trip i arg5 h1 X5 k) (load_block arg5 X5 (gof k) 2 _ (k0_off9_eq k)))
    (congrArg₂ List.cons (pieceVal_of _ _ _ _ (k0_off5_eq k) _ _ (valWord_trip i arg5 h1 X5 k) (load_block arg5 X5 (gof k) 1 _ (k0_off5_eq k)))
    (congrArg₂ List.cons (pieceVal_of _ _ _ _ (k0_off1_eq k) _ _ (valWord_trip i arg5 h1 X5 k) (load_block arg5 X5 (gof k) 0 _ (k0_off1_eq k)))
    (rfl))))))))))))))))

theorem trip13 : (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 k).2.2.2.1 = [pieceVScale (arg5.view.read (Elt Ideal) X5) (gof k)] := by
  unfold trip_k0_t1
  exact congrArg₂ List.cons (pieceVScale_of _ _ _ (k0_off65_eq k) _ (valWord_trip i arg5 h1 X5 k)) rfl

theorem trip16 : (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 k).2.2.2.2.2.2.1 = [pieceVFactor (arg5.view.read (Elt Ideal) X5) (gof k)] := by
  unfold trip_k0_t1
  exact congrArg₂ List.cons (pieceVFactor_of _ _ _ (k0_off66_eq k) _ (valWord_trip i arg5 h1 X5 k)) rfl

/-! ## Five trips -/

/-- Membership in a unit rectangle, axis by axis. -/
theorem mem_unit {s : Shape} {off size : Fin s.rank → ℕ} (inb : ∀ a, off a + size a ≤ s.size a) (y : s.Idx)
    (h : ∀ a, off a ≤ (y a).val ∧ (y a).val < off a + size a) : y ∈ (Rect.unit off size inb).set := Rect.mem_set_unit.mpr h

/-- A piece whose elements are those of `G`. -/
def Agrees {s : Shape} {e : EltTy} (G : s.Idx → Elt Ideal e) (p : View.Piece (Elt Ideal) s e) : Prop := ∀ x : p.1.shape.Idx, p.2 x = G (p.1.emb x)

/-- What the pieces of the first `n` trips are, when those of trip `k` agree with `G` and cover the elements of group `k`. -/
def Covers {s : Shape} {e : EltTy} (G : s.Idx → Elt Ideal e) (grp : s.Idx → ℕ) (n : ℕ) (L : List (View.Piece (Elt Ideal) s e)) : Prop :=
  (∀ p ∈ L, ∀ x : p.1.shape.Idx, p.2 x = G (p.1.emb x)) ∧ ∀ y, grp y < n → ∃ p ∈ L, y ∈ p.1.set

theorem Covers.zero {s : Shape} {e : EltTy} (G : s.Idx → Elt Ideal e) (grp : s.Idx → ℕ) : Covers G grp 0 [] :=
  ⟨fun _ h => absurd h List.not_mem_nil, fun _ h => absurd h (Nat.not_lt_zero _)⟩

theorem Covers.succ {s : Shape} {e : EltTy} {G : s.Idx → Elt Ideal e} {grp : s.Idx → ℕ} {n : ℕ} {L M : List (View.Piece (Elt Ideal) s e)}
    (h : Covers G grp n L) (hM : ∀ p ∈ M, ∀ x : p.1.shape.Idx, p.2 x = G (p.1.emb x)) (hc : ∀ y, grp y = n → ∃ p ∈ M, y ∈ p.1.set) : Covers G grp (n + 1) (M ++ L) := by
  refine ⟨fun p hp => ?_, fun y hy => ?_⟩
  · rcases List.mem_append.mp hp with hp | hp
    · exact hM p hp
    · exact h.1 p hp
  · rcases Nat.lt_succ_iff_lt_or_eq.mp hy with hy | hy
    · obtain ⟨p, hp, hm⟩ := h.2 y hy
      exact ⟨p, List.mem_append_right _ hp, hm⟩
    · obtain ⟨p, hp, hm⟩ := hc y hy
      exact ⟨p, List.mem_append_left _ hp, hm⟩

/-- After all the trips, the buffer reads as `G` at every element of their groups. -/
theorem Covers.read {s : Shape} {e : EltTy} {G : s.Idx → Elt Ideal e} {grp : s.Idx → ℕ} {n : ℕ} {L : List (View.Piece (Elt Ideal) s e)}
    (h : Covers G grp n L) (v : Memref sig .tc .vmem s e) (f : BufTy.Contents (Elt Ideal) v.view.ty) (y : s.Idx) (hy : grp y < n) :
    v.view.read (Elt Ideal) (v.view.writes (Elt Ideal) f L) y = G y :=
  View.read_writes_apply_of_pieces v.view f G L h.1 y (h.2 y hy)

section five

variable (K : S1x320x4096.Idx → EReal) (g : Fin 5)

theorem sixteenCode : (∀ p ∈ sixteen (pieceCode K g), ∀ x : p.1.shape.Idx, p.2 x = keyCodes K (p.1.emb x)) ∧
    ∀ y : S1x320x4096.Idx, (y 1).val / 64 = g.val → ∃ p ∈ sixteen (pieceCode K g), y ∈ p.1.set := by
  refine ⟨fun p hp => ?_, fun y hy => ?_⟩
  · obtain ⟨b, rfl⟩ := (mem_sixteen _ _).mp hp
    exact pieceCode_ok K g b
  · have hn : (y 2).val < 4096 := (y 2).isLt
    refine ⟨pieceCode K g ⟨(y 2).val / 256, by omega⟩, (mem_sixteen _ _).mpr ⟨_, rfl⟩, mem_unit (inbCode g _) _ fun a => ?_⟩
    have h0 := (y 0).isLt
    have h1 := (y 1).isLt
    have h2 := (y 2).isLt
    simp only [Shape.size, Matrix.cons_val_zero, Matrix.cons_val_one, Matrix.cons_val] at h0 h1 h2
    fin_cases a <;> simp <;> omega

theorem sixteenScale : (∀ p ∈ sixteen (pieceScale K g), ∀ x : p.1.shape.Idx, p.2 x = keyScales K (p.1.emb x)) ∧
    ∀ y : S1x5x4096.Idx, (y 1).val = g.val → ∃ p ∈ sixteen (pieceScale K g), y ∈ p.1.set := by
  refine ⟨fun p hp => ?_, fun y hy => ?_⟩
  · obtain ⟨b, rfl⟩ := (mem_sixteen _ _).mp hp
    exact pieceScale_ok K g b
  · have hn : (y 2).val < 4096 := (y 2).isLt
    refine ⟨pieceScale K g ⟨(y 2).val / 256, by omega⟩, (mem_sixteen _ _).mpr ⟨_, rfl⟩, mem_unit (inbScale g _) _ fun a => ?_⟩
    have h0 := (y 0).isLt
    have h1 := (y 1).isLt
    have h2 := (y 2).isLt
    simp only [Shape.size, Matrix.cons_val_zero, Matrix.cons_val_one, Matrix.cons_val] at h0 h1 h2
    fin_cases a <;> simp <;> omega

theorem sixteenRows : (∀ p ∈ sixteen (pieceRows K g), ∀ x : p.1.shape.Idx, p.2 x = keyRows K (p.1.emb x)) ∧
    ∀ y : S5x4096x64.Idx, (y 0).val = g.val → ∃ p ∈ sixteen (pieceRows K g), y ∈ p.1.set := by
  refine ⟨fun p hp => ?_, fun y hy => ?_⟩
  · obtain ⟨b, rfl⟩ := (mem_sixteen _ _).mp hp
    exact pieceRows_ok K g b
  · have hn : (y 1).val < 4096 := (y 1).isLt
    refine ⟨pieceRows K g ⟨(y 1).val / 256, by omega⟩, (mem_sixteen _ _).mpr ⟨_, rfl⟩, mem_unit (inbRows g _) _ fun a => ?_⟩
    have h0 := (y 0).isLt
    have h1 := (y 1).isLt
    have h2 := (y 2).isLt
    simp only [Shape.size, Matrix.cons_val_zero, Matrix.cons_val_one, Matrix.cons_val] at h0 h1 h2
    fin_cases a <;> simp <;> omega

theorem sixteenEighth : (∀ p ∈ sixteen (pieceEighth K g), ∀ x : p.1.shape.Idx, p.2 x = keyEighths K (p.1.emb x)) ∧
    ∀ y : S5x4096x128.Idx, (y 0).val = g.val → ∃ p ∈ sixteen (pieceEighth K g), y ∈ p.1.set := by
  refine ⟨fun p hp => ?_, fun y hy => ?_⟩
  · obtain ⟨b, rfl⟩ := (mem_sixteen _ _).mp hp
    exact pieceEighth_ok K g b
  · have hn : (y 1).val < 4096 := (y 1).isLt
    refine ⟨pieceEighth K g ⟨(y 1).val / 256, by omega⟩, (mem_sixteen _ _).mpr ⟨_, rfl⟩, mem_unit (inbEighth g _) _ fun a => ?_⟩
    have h0 := (y 0).isLt
    have h1 := (y 1).isLt
    have h2 := (y 2).isLt
    simp only [Shape.size, Matrix.cons_val_zero, Matrix.cons_val_one, Matrix.cons_val] at h0 h1 h2
    fin_cases a <;> simp <;> omega

theorem sixteenVal : (∀ p ∈ sixteen (pieceVal K g), ∀ x : p.1.shape.Idx, p.2 x = valCodes K (p.1.emb x)) ∧
    ∀ y : S1x320x4096.Idx, (y 1).val / 64 = g.val → ∃ p ∈ sixteen (pieceVal K g), y ∈ p.1.set := by
  refine ⟨fun p hp => ?_, fun y hy => ?_⟩
  · obtain ⟨b, rfl⟩ := (mem_sixteen _ _).mp hp
    exact pieceVal_ok K g b
  · have hn : (y 2).val < 4096 := (y 2).isLt
    refine ⟨pieceVal K g ⟨(y 2).val / 256, by omega⟩, (mem_sixteen _ _).mpr ⟨_, rfl⟩, mem_unit (inbCode g _) _ fun a => ?_⟩
    have h0 := (y 0).isLt
    have h1 := (y 1).isLt
    have h2 := (y 2).isLt
    simp only [Shape.size, Matrix.cons_val_zero, Matrix.cons_val_one, Matrix.cons_val] at h0 h1 h2
    fin_cases a <;> simp <;> omega

theorem oneVScale : (∀ p ∈ [pieceVScale K g], ∀ x : p.1.shape.Idx, p.2 x = valScales K (p.1.emb x)) ∧
    ∀ y : S1x5x128.Idx, (y 1).val = g.val → ∃ p ∈ [pieceVScale K g], y ∈ p.1.set := by
  refine ⟨fun p hp => ?_, fun y hy => ⟨_, List.mem_singleton.mpr rfl, mem_unit (inbVScale g) _ fun a => ?_⟩⟩
  · obtain rfl := List.mem_singleton.mp hp
    exact pieceVScale_ok K g
  · have h0 := (y 0).isLt
    have h1 := (y 1).isLt
    have h2 := (y 2).isLt
    simp only [Shape.size, Matrix.cons_val_zero, Matrix.cons_val_one, Matrix.cons_val] at h0 h1 h2
    fin_cases a <;> simp <;> omega

/-- The factor of each group's values, in that group's row. -/
def valFactors (y : S8x256.Idx) : EReal := if h : (y 0).val < 5 then valFactor K ⟨(y 0).val, h⟩ else 0

theorem oneVFactor : (∀ p ∈ [pieceVFactor K g], ∀ x : p.1.shape.Idx, p.2 x = valFactors K (p.1.emb x)) ∧
    ∀ y : S8x256.Idx, (y 0).val = g.val → ∃ p ∈ [pieceVFactor K g], y ∈ p.1.set := by
  refine ⟨fun p hp x => ?_, fun y hy => ⟨_, List.mem_singleton.mpr rfl, mem_unit (inbVFactor g) _ fun a => ?_⟩⟩
  · obtain rfl := List.mem_singleton.mp hp
    refine (pieceVFactor_ok K g x).trans ?_
    have hx : (x 0).val < 1 := (x 0).isLt
    have e : ((pieceVFactor K g).1.emb x 0).val = g.val :=
      (Idealize.ShloMosaic.ValueKit.rect_emb_unit_val _ _ (inbVFactor g) x 0).trans (by show g.val + (x 0).val = g.val; omega)
    have e' : ((pieceVFactor K g).1.emb x 0).val < 5 := e ▸ g.isLt
    unfold valFactors
    rw [dif_pos e']
    exact congrArg (valFactor K) (Fin.ext e.symm)
  · have h0 := (y 0).isLt
    have h1 := (y 1).isLt
    simp only [Shape.size, Matrix.cons_val_zero, Matrix.cons_val_one, Matrix.cons_val] at h0 h1
    fin_cases a <;> simp <;> omega

end five

abbrev pb (k : ℕ) := pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 k

theorem pb10 : ∀ n ≤ 5, Covers (keyCodes (arg4.view.read (Elt Ideal) X4)) (fun y => (y 1).val / 64) n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 n).1
  | 0, _ => Covers.zero _ _
  | n + 1, hn => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 (⟨n, hn⟩ : Fin k0_t1_loop.trips)
    rw [show n + 1 = (⟨n, hn⟩ : Fin k0_t1_loop.trips).val + 1 from rfl, e]
    dsimp only
    rw [trip10]
    exact (pb10 n (by omega)).succ (sixteenCode _ _).1 (sixteenCode _ (gof ⟨n, hn⟩)).2

theorem pb11 : ∀ n ≤ 5, Covers (keyScales (arg4.view.read (Elt Ideal) X4)) (fun y => (y 1).val) n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 n).2.1
  | 0, _ => Covers.zero _ _
  | n + 1, hn => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 (⟨n, hn⟩ : Fin k0_t1_loop.trips)
    rw [show n + 1 = (⟨n, hn⟩ : Fin k0_t1_loop.trips).val + 1 from rfl, e]
    dsimp only
    rw [trip11]
    exact (pb11 n (by omega)).succ (sixteenScale _ _).1 (sixteenScale _ (gof ⟨n, hn⟩)).2

theorem pb12 : ∀ n ≤ 5, Covers (valCodes (arg5.view.read (Elt Ideal) X5)) (fun y => (y 1).val / 64) n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 n).2.2.1
  | 0, _ => Covers.zero _ _
  | n + 1, hn => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 (⟨n, hn⟩ : Fin k0_t1_loop.trips)
    rw [show n + 1 = (⟨n, hn⟩ : Fin k0_t1_loop.trips).val + 1 from rfl, e]
    dsimp only
    rw [trip12]
    exact (pb12 n (by omega)).succ (sixteenVal _ _).1 (sixteenVal _ (gof ⟨n, hn⟩)).2

theorem pb13 : ∀ n ≤ 5, Covers (valScales (arg5.view.read (Elt Ideal) X5)) (fun y => (y 1).val) n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 n).2.2.2.1
  | 0, _ => Covers.zero _ _
  | n + 1, hn => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 (⟨n, hn⟩ : Fin k0_t1_loop.trips)
    rw [show n + 1 = (⟨n, hn⟩ : Fin k0_t1_loop.trips).val + 1 from rfl, e]
    dsimp only
    rw [trip13]
    exact (pb13 n (by omega)).succ (oneVScale _ _).1 (oneVScale _ (gof ⟨n, hn⟩)).2

theorem pb14 : ∀ n ≤ 5, Covers (keyRows (arg4.view.read (Elt Ideal) X4)) (fun y => (y 0).val) n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 n).2.2.2.2.1
  | 0, _ => Covers.zero _ _
  | n + 1, hn => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 (⟨n, hn⟩ : Fin k0_t1_loop.trips)
    rw [show n + 1 = (⟨n, hn⟩ : Fin k0_t1_loop.trips).val + 1 from rfl, e]
    dsimp only
    rw [trip14]
    exact (pb14 n (by omega)).succ (sixteenRows _ _).1 (sixteenRows _ (gof ⟨n, hn⟩)).2

theorem pb15 : ∀ n ≤ 5, Covers (keyEighths (arg4.view.read (Elt Ideal) X4)) (fun y => (y 0).val) n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 n).2.2.2.2.2.1
  | 0, _ => Covers.zero _ _
  | n + 1, hn => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 (⟨n, hn⟩ : Fin k0_t1_loop.trips)
    rw [show n + 1 = (⟨n, hn⟩ : Fin k0_t1_loop.trips).val + 1 from rfl, e]
    dsimp only
    rw [trip15]
    exact (pb15 n (by omega)).succ (sixteenEighth _ _).1 (sixteenEighth _ (gof ⟨n, hn⟩)).2

theorem pb16 : ∀ n ≤ 5, Covers (valFactors (arg5.view.read (Elt Ideal) X5)) (fun y => (y 0).val) n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 n).2.2.2.2.2.2
  | 0, _ => Covers.zero _ _
  | n + 1, hn => by
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 X4 X5 (⟨n, hn⟩ : Fin k0_t1_loop.trips)
    rw [show n + 1 = (⟨n, hn⟩ : Fin k0_t1_loop.trips).val + 1 from rfl, e]
    dsimp only
    rw [trip16]
    exact (pb16 n (by omega)).succ (oneVFactor _ _).1 (oneVFactor _ (gof ⟨n, hn⟩)).2

end trip

end Cert.Proof.KVLoop

end
-- ==== Proof.HeadRuns.lean ====
/-
  The kernel's loop over the query heads: before trip `k` the rows of the heads below `k` hold what the sinks, the
  queries and the quantised keys and values determine, in each of the four results the loop writes.
-/
module

public import proofs.«01_k».proof.Proof.HeadSpec
public import proofs.«01_k».proof.Proof.KVLoop
public import proofs.«01_k».proof.Proof.Gen.KernelIdeal.Frame
public import proofs.«01_k».proof.Proof.Gen.KernelIdeal.Skeleton

@[expose] public section

set_option maxRecDepth 16384

noncomputable section

namespace Cert.Proof.HeadRuns

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Scalar Cert.Proof.Spec Cert.Proof.PayHead Cert.Proof.PayKV Cert.Proof.HeadLoops Cert.Proof.HeadSpec Cert.Proof.KVLoop

/-! ## What the loop computes -/

section values

variable (i : grid0.Coords) (S : S15.Idx → EReal) (X : S1x960x256.Idx → EReal) (KT : S5x4096x64.Idx → EReal)
  (KB : S5x4096x128.Idx → EReal) (VC : S1x320x4096.Idx → EReal) (VM : Fin 5 → Fin 256 → EReal)

/-- The head of a row of the 960. -/
def headOf (r : Fin 960) : Fin 15 := ⟨r.val / 64, by omega⟩
/-- The group whose keys and values a head attends to. -/
def kvOf (h : Fin 15) : Fin 5 := ⟨h.val / 3, by omega⟩
/-- Row `64 h + d` of the 960 rows. -/
def qrowOf (h : Fin 15) (d : Fin 64) : Fin 960 := ⟨64 * h.val + d.val, by omega⟩
/-- The place of a row of the 960 within its head. -/
def inHead (r : Fin 960) : Fin 64 := ⟨r.val % 64, Nat.mod_lt _ (by norm_num)⟩

/-- A column of a head's queries. -/
def query (h : Fin 15) (col : Fin 256) (d : Fin 64) : EReal := X (ix3 0 (qrowOf h d) col)

def headOut (y : S1x960x256.Idx) : EReal :=
  kout (256 * (i 1).val + (y 2 : Fin 256).val) (query X (headOf (y 1)) (y 2)) (fun n d => KT (ix3 (kvOf (headOf (y 1))) n d))
    (fun n => KB (ix3 (kvOf (headOf (y 1))) n (lane (y 2)))) (fun d n => VC (ix3 0 (row (kvOf (headOf (y 1))) d) n))
    (VM (kvOf (headOf (y 1))) (y 2)) (S (ix1 (headOf (y 1)))) (inHead (y 1))

def headLse (y : S1x15x256.Idx) : EReal :=
  klse (256 * (i 1).val + (y 2 : Fin 256).val) (query X (y 1) (y 2)) (fun n d => KT (ix3 (kvOf (y 1)) n d))
    (fun n => KB (ix3 (kvOf (y 1)) n (lane (y 2)))) (S (ix1 (y 1)))

def headCodes (y : S1x960x256.Idx) : EReal := kcode (amax (query X (headOf (y 1)) (y 2))) (X y)

def headScales (y : S1x15x256.Idx) : EReal := kscale (amax (query X (y 1) (y 2)))

end values

/-- The rows written so far, after one more head's rows of a result of 960 rows. -/
theorem rows_step {e : EltTy} (v : Memref sig .tc .vmem S1x960x256 e) (f : BufTy.Contents (Elt Ideal) v.view.ty) (G : S1x960x256.Idx → Elt Ideal e)
    (k : Fin k0_t2_loop.trips) (hf : ∀ y : S1x960x256.Idx, (y 1).val < 64 * k.val → v.view.read (Elt Ideal) f y = G y)
    (w : S1x64x256.Idx → Elt Ideal e) (hw : ∀ (d : Fin 64) (col : Fin 256), w (ix3 0 d col) = G (ix3 0 (qrowOf ⟨k.val, k.isLt⟩ d) col))
    (y : S1x960x256.Idx) (hy : (y 1).val < 64 * (k.val + 1)) :
    v.view.read (Elt Ideal) (v.view.writes (Elt Ideal) f [⟨Rect.unit (s := S1x960x256) (k0_off67 k) S1x64x256.size (k0_off67_inb k), w⟩]) y = G y := by
  obtain ⟨z, r, col, rfl⟩ : ∃ (z : Fin 1) (r : Fin 960) (col : Fin 256), y = ix3 z r col := ⟨y 0, y 1, y 2, (ix3_eta y).symm⟩
  obtain rfl : z = 0 := Subsingleton.elim _ _
  replace hy : r.val < 64 * (k.val + 1) := hy
  by_cases hlt : r.val < 64 * k.val
  · rw [View.read_writes_cons_unit_of_not_mem _ _ _ _ _ _ (k0_off67_eq k) 1 (Or.inl hlt)]
    exact hf _ hlt
  · have hd : r.val - 64 * k.val < 64 := by omega
    rw [View.read_writes_cons_unit_of_mem _ _ _ _ _ _ (ix3 (0 : Fin 1) ⟨r.val - 64 * k.val, hd⟩ col) (k0_off67_eq k) ?_]
    · refine (hw ⟨r.val - 64 * k.val, hd⟩ col).trans (congrArg G ?_)
      refine congrArg (fun r => ix3 0 r col) (Fin.ext ?_)
      show 64 * k.val + (r.val - 64 * k.val) = r.val
      omega
    · intro a
      fin_cases a
      · rfl
      · show r.val = 64 * k.val + (r.val - 64 * k.val)
        omega
      · exact (Nat.zero_add _).symm

/-- The same for a result of one row for each head. -/
theorem row_step {e : EltTy} (v : Memref sig .tc .vmem S1x15x256 e) (f : BufTy.Contents (Elt Ideal) v.view.ty) (G : S1x15x256.Idx → Elt Ideal e)
    (k : Fin k0_t2_loop.trips) (hf : ∀ y : S1x15x256.Idx, (y 1).val < k.val → v.view.read (Elt Ideal) f y = G y)
    (w : S1x1x256.Idx → Elt Ideal e) (hw : ∀ (col : Fin 256), w (ix3 0 0 col) = G (ix3 0 ⟨k.val, k.isLt⟩ col))
    (y : S1x15x256.Idx) (hy : (y 1).val < k.val + 1) :
    v.view.read (Elt Ideal) (v.view.writes (Elt Ideal) f [⟨Rect.unit (s := S1x15x256) (k0_off68 k) S1x1x256.size (k0_off68_inb k), w⟩]) y = G y := by
  obtain ⟨z, r, col, rfl⟩ : ∃ (z : Fin 1) (r : Fin 15) (col : Fin 256), y = ix3 z r col := ⟨y 0, y 1, y 2, (ix3_eta y).symm⟩
  obtain rfl : z = 0 := Subsingleton.elim _ _
  replace hy : r.val < k.val + 1 := hy
  by_cases hlt : r.val < k.val
  · rw [View.read_writes_cons_unit_of_not_mem _ _ _ _ _ _ (k0_off68_eq k) 1 (Or.inl hlt)]
    exact hf _ hlt
  · rw [View.read_writes_cons_unit_of_mem _ _ _ _ _ _ (ix3 (0 : Fin 1) (0 : Fin 1) col) (k0_off68_eq k) ?_]
    · refine (hw col).trans (congrArg G ?_)
      refine congrArg (fun r => ix3 0 r col) (Fin.ext ?_)
      show k.val = r.val
      omega
    · intro a
      fin_cases a
      · rfl
      · show r.val = k.val + 0
        omega
      · exact (Nat.zero_add _).symm

section loads

variable (k : Fin k0_t2_loop.trips) (arg3 : Memref sig .tc .vmem S1x960x256 .bf16) (X_arg3 : BufTy.Contents (Elt Ideal) arg3.view.ty)

/-- The head's block of queries. -/
abbrev qblock : Vec Ideal S1x64x256 .bf16 := View.readAt (Elt Ideal) arg3.view (Rect.unit (s := S1x960x256) (k0_off67 k) S1x64x256.size (k0_off67_inb k)).toLoadRect X_arg3

theorem qblock_apply (d : Fin 64) (col : Fin 256) : qblock k arg3 X_arg3 (ix3 0 d col) = arg3.view.read (Elt Ideal) X_arg3 (ix3 0 (qrowOf ⟨k.val, k.isLt⟩ d) col) :=
  load_apply _ _ _ _ (k0_off67_eq k) _ fun a => by
    fin_cases a
    · rfl
    · rfl
    · exact (Nat.zero_add _).symm

theorem qrow_eq (col : Fin 256) : qrow (qblock k arg3 X_arg3) col = query (arg3.view.read (Elt Ideal) X_arg3) ⟨k.val, k.isLt⟩ col :=
  funext fun d => qblock_apply k arg3 X_arg3 d col

/-- The head's sink. -/
abbrev sinkload (k : Fin k0_t2_loop.trips) (arg2 : Memref sig .tc .smem S15 .f32) (X_arg2 : BufTy.Contents (Elt Ideal) arg2.view.ty) : EReal :=
  View.readAt (Elt Ideal) arg2.view (Rect.unit (s := S15) (k0_off78 k) S1.size (k0_off78_inb k)).toLoadRect X_arg2 (Shape.Idx.first (s := S1) (by decide))

theorem sinkload_eq (k : Fin k0_t2_loop.trips) (arg2 : Memref sig .tc .smem S15 .f32) (X_arg2 : BufTy.Contents (Elt Ideal) arg2.view.ty) :
    sinkload k arg2 X_arg2 = arg2.view.read (Elt Ideal) X_arg2 (ix1 ⟨k.val, k.isLt⟩) :=
  load_apply _ _ _ _ (k0_off78_eq k) _ fun a => by
    fin_cases a
    rfl

theorem headOf_qrowOf (h : Fin 15) (d : Fin 64) : headOf (qrowOf h d) = h := Fin.ext (by show (64 * h.val + d.val) / 64 = h.val; omega)
theorem inHead_qrowOf (h : Fin 15) (d : Fin 64) : inHead (qrowOf h d) = d := Fin.ext (by show (64 * h.val + d.val) % 64 = d.val; omega)

theorem headOut_at (i : grid0.Coords) (S : S15.Idx → EReal) (X : S1x960x256.Idx → EReal) (KT : S5x4096x64.Idx → EReal)
    (KB : S5x4096x128.Idx → EReal) (VC : S1x320x4096.Idx → EReal) (VM : Fin 5 → Fin 256 → EReal) (h : Fin 15) (d : Fin 64) (col : Fin 256) :
    headOut i S X KT KB VC VM (ix3 0 (qrowOf h d) col) = kout (256 * (i 1).val + col.val) (query X h col) (fun n d => KT (ix3 (kvOf h) n d))
      (fun n => KB (ix3 (kvOf h) n (lane col))) (fun d n => VC (ix3 0 (row (kvOf h) d) n)) (VM (kvOf h) col) (S (ix1 h)) d := by
  unfold headOut
  rw [show headOf ((ix3 0 (qrowOf h d) col : S1x960x256.Idx) 1) = h from headOf_qrowOf h d, show inHead ((ix3 0 (qrowOf h d) col : S1x960x256.Idx) 1) = d from inHead_qrowOf h d]
  rfl

theorem headCodes_at (d : Fin 64) (col : Fin 256) : kcode (colMax (qblock k arg3 X_arg3) col) (qblock k arg3 X_arg3 (ix3 0 d col))
    = headCodes (arg3.view.read (Elt Ideal) X_arg3) (ix3 0 (qrowOf ⟨k.val, k.isLt⟩ d) col) := by
  unfold headCodes
  rw [show headOf ((ix3 0 (qrowOf ⟨k.val, k.isLt⟩ d) col : S1x960x256.Idx) 1) = ⟨k.val, k.isLt⟩ from headOf_qrowOf _ d, qblock_apply]
  exact congrArg (fun q => kcode (amax q) _) (qrow_eq k arg3 X_arg3 col)

end loads

/-- The factors of the groups' values, as the scratch buffer of them reads. -/
def factors (arg16 : Memref sig .tc .vmem S8x256 .f32) (X : BufTy.Contents (Elt Ideal) arg16.view.ty) (g : Fin 5) (col : Fin 256) : EReal :=
  arg16.view.read (Elt Ideal) X (ix2 ⟨g.val, by omega⟩ col)

theorem factors_load (arg16 : Memref sig .tc .vmem S8x256 .f32) (X : BufTy.Contents (Elt Ideal) arg16.view.ty) (k : Fin k0_t2_loop.trips) (col : Fin 256) :
    View.readAt (Elt Ideal) arg16.view (Rect.unit (s := S8x256) (k0_off83 k) S1x256.size (k0_off83_inb k)).toLoadRect X (ix2 0 col) = factors arg16 X (kvOf ⟨k.val, k.isLt⟩) col :=
  load_apply _ _ _ _ (off83_eq k) _ fun a => by
    fin_cases a
    · rfl
    · exact (Nat.zero_add _).symm

/-! ## The loop -/

local notation "𝕄" => MT nD τ sig Unit (Elt Ideal) ℕ (UR sig nD τ) ℕ

set_option maxHeartbeats 800000 in
set_option warn.classDefReducibility false in
/-- Before trip `k` the rows of the heads below `k` hold their values in the four results; the sinks, the queries, the
    quantised keys and values and their factors are as they were. -/
@[sl_loop] def loopInv_k0_t2 (c : Dev nD) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole) (v3 : BitVec 32) (X_arg2 : BufTy.Contents (Elt Ideal) arg2.view.ty) (X_arg3 : BufTy.Contents (Elt Ideal) arg3.view.ty)
    (X_arg12 : BufTy.Contents (Elt Ideal) arg12.view.ty) (X_arg14 : BufTy.Contents (Elt Ideal) arg14.view.ty) (X_arg15 : BufTy.Contents (Elt Ideal) arg15.view.ty) (X_arg16 : BufTy.Contents (Elt Ideal) arg16.view.ty) :
    LoopInvTy_k0_t2 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 where
  inv k _ := iprop((arg2.view.loc (c : Thread nD τ) ↦[arg2.view.set]{fullShare} X_arg2) ∗ (arg3.view.loc (c : Thread nD τ) ↦[arg3.view.set]{fullShare} X_arg3)
    ∗ (∃ f, (arg6.view.loc (c : Thread nD τ) ↦[arg6.view.set]{fullShare} f) ∗ ⌜∀ y : S1x960x256.Idx, (y 1).val < 64 * k → arg6.view.read (Elt Ideal) f y = headOut i (arg2.view.read (Elt Ideal) X_arg2) (arg3.view.read (Elt Ideal) X_arg3) (arg14.view.read (Elt Ideal) X_arg14) (arg15.view.read (Elt Ideal) X_arg15) (arg12.view.read (Elt Ideal) X_arg12) (factors arg16 X_arg16) y⌝)
    ∗ (∃ f, (arg7.view.loc (c : Thread nD τ) ↦[arg7.view.set]{fullShare} f) ∗ ⌜∀ y : S1x15x256.Idx, (y 1).val < k → arg7.view.read (Elt Ideal) f y = headLse i (arg2.view.read (Elt Ideal) X_arg2) (arg3.view.read (Elt Ideal) X_arg3) (arg14.view.read (Elt Ideal) X_arg14) (arg15.view.read (Elt Ideal) X_arg15) y⌝)
    ∗ (∃ f, (arg8.view.loc (c : Thread nD τ) ↦[arg8.view.set]{fullShare} f) ∗ ⌜∀ y : S1x960x256.Idx, (y 1).val < 64 * k → arg8.view.read (Elt Ideal) f y = headCodes (arg3.view.read (Elt Ideal) X_arg3) y⌝)
    ∗ (∃ f, (arg9.view.loc (c : Thread nD τ) ↦[arg9.view.set]{fullShare} f) ∗ ⌜∀ y : S1x15x256.Idx, (y 1).val < k → arg9.view.read (Elt Ideal) f y = headScales (arg3.view.read (Elt Ideal) X_arg3) y⌝)
    ∗ (∃ f, (arg17.view.loc (c : Thread nD τ) ↦[arg17.view.set]{fullShare} f))
    ∗ (arg12.view.loc (c : Thread nD τ) ↦[arg12.view.set]{fullShare} X_arg12) ∗ (arg14.view.loc (c : Thread nD τ) ↦[arg14.view.set]{fullShare} X_arg14)
    ∗ (arg15.view.loc (c : Thread nD τ) ↦[arg15.view.set]{fullShare} X_arg15) ∗ (arg16.view.loc (c : Thread nD τ) ↦[arg16.view.set]{fullShare} X_arg16))
  step k acc := by
    unfold k0_t2_body
    simp only [k0_part47_eq_skeleton, k0_part48_eq_skeleton, k0_part49_eq_skeleton]
    iintro ⟨Harg2, Harg3, ⟨%f_arg6, Harg6, %h_arg6⟩, ⟨%f_arg7, Harg7, %h_arg7⟩, ⟨%f_arg8, Harg8, %h_arg8⟩, ⟨%f_arg9, Harg9, %h_arg9⟩, ⟨%f_arg17, Harg17⟩, Harg12, Harg14, Harg15, Harg16⟩
    sl_exec
    sl_step
    isplitl [Harg2]; · iexact Harg2
    isplitl [Harg3]; · iexact Harg3
    isplitl [Harg6]
    · iexists _; isplitl [Harg6]; · iexact Harg6
      ipureintro
      refine rows_step arg6 f_arg6 _ k h_arg6 _ fun d col => ?_
      have e := head_out Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k (loopInv_k0_t2.sl.arg18 k) (loopInv_k0_t2.sl.v32 k) (loopInv_k0_t2.sl.v33 k) (loopInv_k0_t2.sl.v35 k) (loopInv_k0_t2.sl.v94 v3) X_arg12 X_arg14 X_arg15 f_arg17 (qblock k arg3 X_arg3) (sinkload k arg2 X_arg2) col
        (View.readAt (Elt Ideal) arg16.view (Rect.unit (s := S8x256) (k0_off83 k) S1x256.size (k0_off83_inb k)).toLoadRect X_arg16) d
      refine Eq.trans ?_ (e.trans ?_)
      swap
      · rw [qrow_eq, factors_load, sinkload_eq, headOut_at]
        rfl
      clear e
      unfold s6 s5 f17 s4 s3
      unfold loopInv_k0_t2.sl.r_9 loopInv_k0_t2.sl.r_8 loopInv_k0_t2.sl.r_7 loopInv_k0_t2.sl.r_6 loopInv_k0_t2.sl.r_5 loopInv_k0_t2.sl.r_4 loopInv_k0_t2.sl.r_3 loopInv_k0_t2.sl.r_2 loopInv_k0_t2.sl.r_1 loopInv_k0_t2.sl.r
      rfl
    isplitl [Harg7]
    · iexists _; isplitl [Harg7]; · iexact Harg7
      ipureintro
      refine row_step arg7 f_arg7 _ k h_arg7 _ fun col => ?_
      have e := head_lse Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 k (loopInv_k0_t2.sl.arg18 k) (loopInv_k0_t2.sl.v32 k) (loopInv_k0_t2.sl.v33 k) (loopInv_k0_t2.sl.v35 k) (loopInv_k0_t2.sl.v94 v3) X_arg12 X_arg14 X_arg15 f_arg17 (qblock k arg3 X_arg3) (sinkload k arg2 X_arg2) col
      refine Eq.trans ?_ (e.trans ?_)
      swap
      · rw [qrow_eq, sinkload_eq]
        rfl
      clear e
      unfold s6 s5 f17 s4 s3
      unfold loopInv_k0_t2.sl.r_8 loopInv_k0_t2.sl.r_7 loopInv_k0_t2.sl.r_6 loopInv_k0_t2.sl.r_5 loopInv_k0_t2.sl.r_4 loopInv_k0_t2.sl.r_3 loopInv_k0_t2.sl.r_2 loopInv_k0_t2.sl.r_1 loopInv_k0_t2.sl.r
      rfl
    isplitl [Harg8]
    · iexists _; isplitl [Harg8]; · iexact Harg8
      ipureintro
      refine rows_step arg8 f_arg8 _ k h_arg8 _ fun d col => ?_
      refine (pay235_apply (qblock k arg3 X_arg3) col d).trans ?_
      exact headCodes_at k arg3 X_arg3 d col
    isplitl [Harg9]
    · iexists _; isplitl [Harg9]; · iexact Harg9
      ipureintro
      refine row_step arg9 f_arg9 _ k h_arg9 _ fun col => ?_
      exact (pay234_apply (qblock k arg3 X_arg3) col).trans (congrArg (fun q => kscale (amax q)) (qrow_eq k arg3 X_arg3 col))
    isplitl [Harg17]; · iexists _; iexact Harg17
    isplitl [Harg12]; · iexact Harg12
    isplitl [Harg14]; · iexact Harg14
    isplitl [Harg15]; · iexact Harg15
    iexact Harg16

end Cert.Proof.HeadRuns

end
-- ==== Proof.BodyRuns.lean ====
/-
  The kernel's body on its buffers, with every result named: at a batch's first point, where it quantises the keys and
  the values, and at the batch's later points, where it finds them quantised.
-/
module

public import proofs.«01_k».proof.Proof.HeadRuns

@[expose] public section

set_option maxRecDepth 16384

noncomputable section

namespace Cert.Proof.BodyRuns

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Spec Cert.Proof.HeadLoops Cert.Proof.KVLoop Cert.Proof.HeadRuns

local notation "𝕄" => MT nD τ sig Unit (Elt Ideal) ℕ (UR sig nD τ) ℕ

/-- Every row of the 960 is below the last head's end. -/
theorem rows_all (y : S1x960x256.Idx) : (y 1).val < 64 * 15 := (y 1).isLt

theorem valFactors_row (K : S1x320x4096.Idx → EReal) (g : Fin 5) (col : Fin 256) : valFactors K (ix2 ⟨g.val, by omega⟩ col) = valFactor K g := by
  unfold valFactors
  rw [dif_pos (show ((ix2 (⟨g.val, by omega⟩ : Fin 8) col : S8x256.Idx) 0).val < 5 from g.isLt)]
  rfl

/-- The heads' results depend on the scratch buffers through what they read as. -/
theorem headOut_congr (i : grid0.Coords) (S : S15.Idx → EReal) (X : S1x960x256.Idx → EReal) {KT KT' : S5x4096x64.Idx → EReal} {KB KB' : S5x4096x128.Idx → EReal}
    {VC VC' : S1x320x4096.Idx → EReal} {VM : Fin 5 → Fin 256 → EReal} {w : Fin 5 → EReal} (h1 : KT = KT') (h2 : KB = KB') (h3 : VC = VC')
    (h4 : ∀ (g : Fin 5) (col : Fin 256), VM g col = w g) (y : S1x960x256.Idx) :
    headOut i S X KT KB VC VM y = headOut i S X KT' KB' VC' (fun g _ => w g) y := by
  rw [h1, h2, h3, show VM = fun g _ => w g from funext fun g => funext fun col => h4 g col]

theorem headLse_congr (i : grid0.Coords) (S : S15.Idx → EReal) (X : S1x960x256.Idx → EReal) {KT KT' : S5x4096x64.Idx → EReal} {KB KB' : S5x4096x128.Idx → EReal}
    (h1 : KT = KT') (h2 : KB = KB') (y : S1x15x256.Idx) : headLse i S X KT KB y = headLse i S X KT' KB' y := by
  rw [h1, h2]

set_option maxHeartbeats 4000000 in
/-- The body at a batch's first point, from any contents of what it writes. -/
theorem sound_first (c : Dev nD) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole) (hc : k0_cond1 i = 1#1) (x_arg2 : Vec Ideal S15 .f32) (x_arg3 : Vec Ideal S1x960x256 .bf16) (x_arg4 : Vec Ideal S1x320x4096 .bf16) (x_arg5 : Vec Ideal S1x320x4096 .bf16) (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare (headOut i x_arg2 x_arg3 (keyRows x_arg4) (keyEighths x_arg4) (valCodes x_arg5) (fun g _ => valFactor x_arg5 g)) ∗ owns (c : Thread nD τ) arg7 fullShare (headLse i x_arg2 x_arg3 (keyRows x_arg4) (keyEighths x_arg4)) ∗ owns (c : Thread nD τ) arg8 fullShare (headCodes x_arg3) ∗ owns (c : Thread nD τ) arg9 fullShare (headScales x_arg3) ∗ owns (c : Thread nD τ) arg10 fullShare (keyCodes x_arg4) ∗ owns (c : Thread nD τ) arg11 fullShare (keyScales x_arg4) ∗ owns (c : Thread nD τ) arg12 fullShare (valCodes x_arg5) ∗ owns (c : Thread nD τ) arg13 fullShare (valScales x_arg5) ∗ owns (c : Thread nD τ) arg14 fullShare (keyRows x_arg4) ∗ owns (c : Thread nD τ) arg15 fullShare (keyEighths x_arg4) ∗ (∃ d, ⌜∀ (g : Fin 5) (col : Fin 256), d (ix2 ⟨g.val, by omega⟩ col) = valFactor x_arg5 g⌝ ∗ owns (c : Thread nD τ) arg16 fullShare d) ∗ (∃ d, owns (c : Thread nD τ) arg17 fullShare d)) -∗ K ⟨⟩))
      ⊢ wp frame (wpE (defs₀ (F := Ideal)) Variants.none c none) Set.univ (cc0_fp8_gqa_sinks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_fp8_gqa_sinks_eq_skeleton]; unfold cc0_fp8_gqa_sinks_skel
  unfold owns
  iintro ⟨⟨%f_arg2, %hf_arg2, Harg2⟩, ⟨%f_arg3, %hf_arg3, Harg3⟩, ⟨%f_arg4, %hf_arg4, Harg4⟩, ⟨%f_arg5, %hf_arg5, Harg5⟩, ⟨%d_arg6, %f_arg6, -, Harg6⟩, ⟨%d_arg7, %f_arg7, -, Harg7⟩, ⟨%d_arg8, %f_arg8, -, Harg8⟩, ⟨%d_arg9, %f_arg9, -, Harg9⟩, ⟨%d_arg10, %f_arg10, -, Harg10⟩, ⟨%d_arg11, %f_arg11, -, Harg11⟩, ⟨%d_arg12, %f_arg12, -, Harg12⟩, ⟨%d_arg13, %f_arg13, -, Harg13⟩, ⟨%d_arg14, %f_arg14, -, Harg14⟩, ⟨%d_arg15, %f_arg15, -, Harg15⟩, ⟨%d_arg16, %f_arg16, -, Harg16⟩, ⟨%d_arg17, %f_arg17, -, Harg17⟩, Hk⟩
  subst hf_arg2 hf_arg3 hf_arg4 hf_arg5
  sl_exec
  sl_step
  iapply Hk
  isplitl [Harg2]
  · iexists f_arg2; isplitr; · ipureintro; rfl
    iexact Harg2
  isplitl [Harg3]
  · iexists f_arg3; isplitr; · ipureintro; rfl
    iexact Harg3
  isplitl [Harg4]
  · iexists f_arg4; isplitr; · ipureintro; rfl
    iexact Harg4
  isplitl [Harg5]
  · iexists f_arg5; isplitr; · ipureintro; rfl
    iexact Harg5
  isplitl [Harg6]
  · iexists _; isplitr; swap; · iexact Harg6
    ipureintro
    exact funext fun y => (hL19 y (rows_all y)).trans (headOut_congr _ _ _ (funext fun y => (pb14 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg14 _ y (y 0).isLt) (funext fun y => (pb15 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg15 _ y (y 0).isLt) (funext fun y => (pb12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg12 _ y (by have : (y 1).val < 320 := (y 1).isLt; show (y 1).val / 64 < 5; omega)) (fun g col => ((pb16 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg16 _ (ix2 ⟨g.val, by omega⟩ col) g.isLt).trans (valFactors_row _ g col)) y)
  isplitl [Harg7]
  · iexists _; isplitr; swap; · iexact Harg7
    ipureintro
    exact funext fun y => (hL21 y (y 1).isLt).trans (headLse_congr _ _ _ (funext fun y => (pb14 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg14 _ y (y 0).isLt) (funext fun y => (pb15 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg15 _ y (y 0).isLt) y)
  isplitl [Harg8]
  · iexists _; isplitr; swap; · iexact Harg8
    ipureintro
    exact funext fun y => hL23 y (rows_all y)
  isplitl [Harg9]
  · iexists _; isplitr; swap; · iexact Harg9
    ipureintro
    exact funext fun y => hL25 y (y 1).isLt
  isplitl [Harg10]
  · iexists _; isplitr; swap; · iexact Harg10
    ipureintro
    exact (funext fun y => (pb10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg10 _ y (by have : (y 1).val < 320 := (y 1).isLt; show (y 1).val / 64 < 5; omega))
  isplitl [Harg11]
  · iexists _; isplitr; swap; · iexact Harg11
    ipureintro
    exact (funext fun y => (pb11 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg11 _ y (y 1).isLt)
  isplitl [Harg12]
  · iexists _; isplitr; swap; · iexact Harg12
    ipureintro
    exact (funext fun y => (pb12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg12 _ y (by have : (y 1).val < 320 := (y 1).isLt; show (y 1).val / 64 < 5; omega))
  isplitl [Harg13]
  · iexists _; isplitr; swap; · iexact Harg13
    ipureintro
    exact (funext fun y => (pb13 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg13 _ y (y 1).isLt)
  isplitl [Harg14]
  · iexists _; isplitr; swap; · iexact Harg14
    ipureintro
    exact (funext fun y => (pb14 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg14 _ y (y 0).isLt)
  isplitl [Harg15]
  · iexists _; isplitr; swap; · iexact Harg15
    ipureintro
    exact (funext fun y => (pb15 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg15 _ y (y 0).isLt)
  isplitl [Harg16]
  · iexists _; isplitr; swap
    · iexists _; isplitr; swap; · iexact Harg16
      ipureintro; rfl
    ipureintro
    exact (fun g col => ((pb16 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f_arg4 f_arg5 5 le_rfl).read arg16 _ (ix2 ⟨g.val, by omega⟩ col) g.isLt).trans (valFactors_row _ g col))
  iexists _; iexists _; isplitr; swap; · iexact Harg17
  ipureintro; rfl

set_option maxHeartbeats 4000000 in
/-- The body at a later point of a batch, from the batch's quantised keys and values. -/
theorem sound_later (c : Dev nD) (i : grid0.Coords) (arg2 : Memref sig .tc .smem S15 .f32) (harg2 : arg2.IsWhole) (arg3 : Memref sig .tc .vmem S1x960x256 .bf16) (harg3 : arg3.IsWhole) (arg4 : Memref sig .tc .vmem S1x320x4096 .bf16) (harg4 : arg4.IsWhole) (arg5 : Memref sig .tc .vmem S1x320x4096 .bf16) (harg5 : arg5.IsWhole) (arg6 : Memref sig .tc .vmem S1x960x256 .bf16) (harg6 : arg6.IsWhole) (arg7 : Memref sig .tc .vmem S1x15x256 .f32) (harg7 : arg7.IsWhole) (arg8 : Memref sig .tc .vmem S1x960x256 .fp8e4m3) (harg8 : arg8.IsWhole) (arg9 : Memref sig .tc .vmem S1x15x256 .f32) (harg9 : arg9.IsWhole) (arg10 : Memref sig .tc .vmem S1x320x4096 .fp8e4m3) (harg10 : arg10.IsWhole) (arg11 : Memref sig .tc .vmem S1x5x4096 .f32) (harg11 : arg11.IsWhole) (arg12 : Memref sig .tc .vmem S1x320x4096 .fp8e4m3) (harg12 : arg12.IsWhole) (arg13 : Memref sig .tc .vmem S1x5x128 .f32) (harg13 : arg13.IsWhole) (arg14 : Memref sig .tc .vmem S5x4096x64 .fp8e4m3) (harg14 : arg14.IsWhole) (arg15 : Memref sig .tc .vmem S5x4096x128 .f32) (harg15 : arg15.IsWhole) (arg16 : Memref sig .tc .vmem S8x256 .f32) (harg16 : arg16.IsWhole) (arg17 : Memref sig .tc .vmem S4096x256 .f32) (harg17 : arg17.IsWhole) (hc : ¬ k0_cond1 i = 1#1) (x_arg2 : Vec Ideal S15 .f32) (x_arg3 : Vec Ideal S1x960x256 .bf16) (x_arg4 : Vec Ideal S1x320x4096 .bf16) (x_arg5 : Vec Ideal S1x320x4096 .bf16) (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare (keyCodes x_arg4) ∗ owns (c : Thread nD τ) arg11 fullShare (keyScales x_arg4) ∗ owns (c : Thread nD τ) arg12 fullShare (valCodes x_arg5) ∗ owns (c : Thread nD τ) arg13 fullShare (valScales x_arg5) ∗ owns (c : Thread nD τ) arg14 fullShare (keyRows x_arg4) ∗ owns (c : Thread nD τ) arg15 fullShare (keyEighths x_arg4) ∗ (∃ d, ⌜∀ (g : Fin 5) (col : Fin 256), d (ix2 ⟨g.val, by omega⟩ col) = valFactor x_arg5 g⌝ ∗ owns (c : Thread nD τ) arg16 fullShare d) ∗ (∃ d, owns (c : Thread nD τ) arg17 fullShare d)
        ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare (headOut i x_arg2 x_arg3 (keyRows x_arg4) (keyEighths x_arg4) (valCodes x_arg5) (fun g _ => valFactor x_arg5 g)) ∗ owns (c : Thread nD τ) arg7 fullShare (headLse i x_arg2 x_arg3 (keyRows x_arg4) (keyEighths x_arg4)) ∗ owns (c : Thread nD τ) arg8 fullShare (headCodes x_arg3) ∗ owns (c : Thread nD τ) arg9 fullShare (headScales x_arg3) ∗ owns (c : Thread nD τ) arg10 fullShare (keyCodes x_arg4) ∗ owns (c : Thread nD τ) arg11 fullShare (keyScales x_arg4) ∗ owns (c : Thread nD τ) arg12 fullShare (valCodes x_arg5) ∗ owns (c : Thread nD τ) arg13 fullShare (valScales x_arg5) ∗ owns (c : Thread nD τ) arg14 fullShare (keyRows x_arg4) ∗ owns (c : Thread nD τ) arg15 fullShare (keyEighths x_arg4) ∗ (∃ d, ⌜∀ (g : Fin 5) (col : Fin 256), d (ix2 ⟨g.val, by omega⟩ col) = valFactor x_arg5 g⌝ ∗ owns (c : Thread nD τ) arg16 fullShare d) ∗ (∃ d, owns (c : Thread nD τ) arg17 fullShare d)) -∗ K ⟨⟩))
      ⊢ wp frame (wpE (defs₀ (F := Ideal)) Variants.none c none) Set.univ (cc0_fp8_gqa_sinks i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_fp8_gqa_sinks_eq_skeleton]; unfold cc0_fp8_gqa_sinks_skel
  unfold owns
  iintro ⟨⟨%f_arg2, %hf_arg2, Harg2⟩, ⟨%f_arg3, %hf_arg3, Harg3⟩, ⟨%f_arg4, %hf_arg4, Harg4⟩, ⟨%f_arg5, %hf_arg5, Harg5⟩, ⟨%d_arg6, %f_arg6, -, Harg6⟩, ⟨%d_arg7, %f_arg7, -, Harg7⟩, ⟨%d_arg8, %f_arg8, -, Harg8⟩, ⟨%d_arg9, %f_arg9, -, Harg9⟩, ⟨%f_arg10, %hf_arg10, Harg10⟩, ⟨%f_arg11, %hf_arg11, Harg11⟩, ⟨%f_arg12, %hf_arg12, Harg12⟩, ⟨%f_arg13, %hf_arg13, Harg13⟩, ⟨%f_arg14, %hf_arg14, Harg14⟩, ⟨%f_arg15, %hf_arg15, Harg15⟩, ⟨%d_arg16, %hd_arg16, %f_arg16, %hf_arg16, Harg16⟩, ⟨%d_arg17, %f_arg17, -, Harg17⟩, Hk⟩
  subst hf_arg2 hf_arg3 hf_arg4 hf_arg5
  sl_exec
  sl_step
  iapply Hk
  isplitl [Harg2]
  · iexists f_arg2; isplitr; · ipureintro; rfl
    iexact Harg2
  isplitl [Harg3]
  · iexists f_arg3; isplitr; · ipureintro; rfl
    iexact Harg3
  isplitl [Harg4]
  · iexists f_arg4; isplitr; · ipureintro; rfl
    iexact Harg4
  isplitl [Harg5]
  · iexists f_arg5; isplitr; · ipureintro; rfl
    iexact Harg5
  isplitl [Harg6]
  · iexists _; isplitr; swap; · iexact Harg6
    ipureintro
    exact funext fun y => (hL3 y (rows_all y)).trans (headOut_congr _ _ _ hf_arg14 hf_arg15 hf_arg12 (fun g col => (congrFun hf_arg16 _).trans (hd_arg16 g col)) y)
  isplitl [Harg7]
  · iexists _; isplitr; swap; · iexact Harg7
    ipureintro
    exact funext fun y => (hL5 y (y 1).isLt).trans (headLse_congr _ _ _ hf_arg14 hf_arg15 y)
  isplitl [Harg8]
  · iexists _; isplitr; swap; · iexact Harg8
    ipureintro
    exact funext fun y => hL7 y (rows_all y)
  isplitl [Harg9]
  · iexists _; isplitr; swap; · iexact Harg9
    ipureintro
    exact funext fun y => hL9 y (y 1).isLt
  isplitl [Harg10]
  · iexists _; isplitr; swap; · iexact Harg10
    ipureintro
    exact hf_arg10
  isplitl [Harg11]
  · iexists _; isplitr; swap; · iexact Harg11
    ipureintro
    exact hf_arg11
  isplitl [Harg12]
  · iexists _; isplitr; swap; · iexact Harg12
    ipureintro
    exact hf_arg12
  isplitl [Harg13]
  · iexists _; isplitr; swap; · iexact Harg13
    ipureintro
    exact hf_arg13
  isplitl [Harg14]
  · iexists _; isplitr; swap; · iexact Harg14
    ipureintro
    exact hf_arg14
  isplitl [Harg15]
  · iexists _; isplitr; swap; · iexact Harg15
    ipureintro
    exact hf_arg15
  isplitl [Harg16]
  · iexists _; isplitr; swap
    · iexists _; isplitr; swap; · iexact Harg16
      ipureintro; rfl
    ipureintro
    exact (fun g col => (congrFun hf_arg16 _).trans (hd_arg16 g col))
  iexists _; iexists _; isplitr; swap; · iexact Harg17
  ipureintro; rfl

end Cert.Proof.BodyRuns

end
-- ==== Proof.IdealRun.lean ====
/-
  The kernel's run over the ideal values, with every result named: what each result window's buffer holds after each
  point, what the scratch buffers hold between the points of one batch, and from these what the launch leaves in memory.
-/
module

public import proofs.«01_k».proof.Proof.BodyRuns
public import Idealize.ShloMosaic.Lib.Pipeline.ValueKit
public import Idealize.ShloMosaic.Lib.Pointwise
public import Idealize.ShloMosaic.Lib.Pipeline.TableIdle

@[expose] public section

set_option maxRecDepth 16384

noncomputable section

namespace Cert.Proof.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Spec Cert.Proof.HeadLoops Cert.Proof.KVLoop Cert.Proof.HeadRuns Cert.Proof.BodyRuns

local notation "𝕄" => MT nD τ sig Unit (Elt Ideal) ℕ (UR sig nD τ) ℕ

variable (m : (ℓ : Loc nD τ sig) → Buf (Elt Ideal) ℓ) (ρ : Dev nD → PrngReg)

/-! ## Points of one batch -/

/-- A point is its batch's first exactly where the body quantises the keys and the values. -/
theorem first_iff : ∀ t : Fin cfg0.N, k0_cond1 (grid0.coords t) = 1#1 ↔ t.val % 16 = 0 := by decide +kernel

/-- The point before. -/
def prev (t : Fin (cfg0.N + 1)) : Fin cfg0.N := ⟨t.val - 1, by have h : t.val < 256 + 1 := t.isLt; show _ < 256; omega⟩

/-- The point before is of the same batch, unless the point is its batch's first. -/
theorem batch_prev : ∀ t : Fin cfg0.N, t.val % 16 ≠ 0 → grid0.coords (prev t.castSucc) 0 = grid0.coords t 0 := by decide +kernel

/-- The sinks are one block. -/
theorem index0 : ∀ t : Fin cfg0.N, win0_0.index t = ![0] := by decide +kernel
/-- The queries' block at a point is the batch's and the tile's. -/
theorem index1 : ∀ t : Fin cfg0.N, win0_1.index t = ![(grid0.coords t 0).val, 0, (grid0.coords t 1).val] := by decide +kernel
/-- The keys' block at a point is the batch's. -/
theorem index2 : ∀ t : Fin cfg0.N, win0_2.index t = ![(grid0.coords t 0).val, 0, 0] := by decide +kernel
/-- The values' block at a point is the batch's. -/
theorem index3 : ∀ t : Fin cfg0.N, win0_3.index t = ![(grid0.coords t 0).val, 0, 0] := by decide +kernel

/-- The sinks' block, read off the argument. -/
theorem sinks_apply (c : Dev nD) (t : Fin cfg0.N) (h : Fin 15) :
    iblk m c 0 t (ix1 h) = m ((c.tc : Thread nD τ).loc main_arg3) (ix1 h) := by
  blk_simp [iblk]
  rw [V_main_arg3]
  exact congrArg _ (by blk_ext [index0])

/-- The queries' block, read off the argument. -/
theorem queries_apply (c : Dev nD) (t : Fin cfg0.N) (r : Fin 960) (col : Fin 256) :
    iblk m c 1 t (ix3 0 r col) = m ((c.tc : Thread nD τ).loc main_arg0)
      (ix3 (grid0.coords t 0) ⟨256 * (grid0.coords t 1).val + col.val, by have h : (grid0.coords t 1).val < 16 := (grid0.coords t 1).isLt; omega⟩ r) := by
  blk_simp [iblk]
  entry_read
  pointwise
  exact congrArg _ (by blk_ext [index1])

/-- The keys' block, read off the argument. -/
theorem keys_apply (c : Dev nD) (t : Fin cfg0.N) (r : Fin 320) (n : Fin 4096) :
    iblk m c 2 t (ix3 0 r n) = m ((c.tc : Thread nD τ).loc main_arg1) (ix3 (grid0.coords t 0) n r) := by
  blk_simp [iblk]
  entry_read
  pointwise
  exact congrArg _ (by blk_ext [index2])

/-- The values' block, read off the argument. -/
theorem vals_apply (c : Dev nD) (t : Fin cfg0.N) (r : Fin 320) (n : Fin 4096) :
    iblk m c 3 t (ix3 0 r n) = m ((c.tc : Thread nD τ).loc main_arg2) (ix3 (grid0.coords t 0) n r) := by
  blk_simp [iblk]
  entry_read
  pointwise
  exact congrArg _ (by blk_ext [index3])

/-- An index of a block of keys or values is its row and its column. -/
theorem idx_eta (y : S1x320x4096.Idx) : y = ix3 0 (y 1) (y 2) :=
  funext fun a => by
    fin_cases a
    · exact Subsingleton.elim (α := Fin 1) _ _
    · rfl
    · rfl

/-- The keys' block depends on the batch alone. -/
theorem keys_of_batch (c : Dev nD) (s t : Fin cfg0.N) (h : grid0.coords s 0 = grid0.coords t 0) : iblk m c 2 s = iblk m c 2 t :=
  funext fun (y : S1x320x4096.Idx) => by
    rw [idx_eta y]
    exact (keys_apply m c s _ _).trans (by rw [h]; exact (keys_apply m c t _ _).symm)

/-- The values' block depends on the batch alone. -/
theorem vals_of_batch (c : Dev nD) (s t : Fin cfg0.N) (h : grid0.coords s 0 = grid0.coords t 0) : iblk m c 3 s = iblk m c 3 t :=
  funext fun (y : S1x320x4096.Idx) => by
    rw [idx_eta y]
    exact (vals_apply m c s _ _).trans (by rw [h]; exact (vals_apply m c t _ _).symm)

/-! ## The pipeline's proof data -/

/-- The scratch buffers between two points of a batch whose keys are `x` and values `y`: the keys' codes row by row, an
    eighth of the keys' scales, the factors of the values, and the scores' buffer at anything. -/
def held (c : Dev nD) (x y : Vec Ideal S1x320x4096 .bf16) : sProp 𝕄 :=
  iprop(owns (c : Thread nD τ) (Memref.whole cc0_scratch0) fullShare (keyRows x)
    ∗ owns (c : Thread nD τ) (Memref.whole cc0_scratch1) fullShare (keyEighths x)
    ∗ (∃ d, ⌜∀ (g : Fin 5) (col : Fin 256), d (ix2 ⟨g.val, by omega⟩ col) = valFactor y g⌝ ∗ owns (c : Thread nD τ) (Memref.whole cc0_scratch2) fullShare d)
    ∗ (∃ d, owns (c : Thread nD τ) (Memref.whole cc0_scratch3) fullShare d))

/-- What the scratch buffers hold before a point: anything before a batch's first point, the batch's keys and values before
    its other points. -/
def carry (c : Dev nD) (t : Fin (cfg0.N + 1)) : sProp 𝕄 :=
  if t.val % 16 = 0 then Pipeline.ΦA spec0 c
  else iprop(held c (iblk m c 2 (prev t)) (iblk m c 3 (prev t)) ∗ ∃ r, prngReg c r)

/-- The arrays as the region finds them, each input's buffer at its block after the body, and each result's at the values
    computed from those blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => headOut (grid0.coords t) (iblk m c 0 t) (iblk m c 1 t) (keyRows (iblk m c 2 t)) (keyEighths (iblk m c 2 t)) (valCodes (iblk m c 3 t)) (fun g _ => valFactor (iblk m c 3 t) g)
    | ⟨5, _⟩ => headLse (grid0.coords t) (iblk m c 0 t) (iblk m c 1 t) (keyRows (iblk m c 2 t)) (keyEighths (iblk m c 2 t))
    | ⟨6, _⟩ => headCodes (iblk m c 1 t)
    | ⟨7, _⟩ => headScales (iblk m c 1 t)
    | ⟨8, _⟩ => keyCodes (iblk m c 2 t)
    | ⟨9, _⟩ => keyScales (iblk m c 2 t)
    | ⟨10, _⟩ => valCodes (iblk m c 3 t)
    | ⟨11, _⟩ => valScales (iblk m c 3 t)
  Φ t := carry m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t =
    headOut (grid0.coords t) (iblk m c 0 t) (iblk m c 1 t) (keyRows (iblk m c 2 t)) (keyEighths (iblk m c 2 t)) (valCodes (iblk m c 3 t)) (fun g _ => valFactor (iblk m c 3 t) g) := by dsimp only [dats]
theorem after0_5 (c : Dev nD) (t : Fin cfg0.N) : (dats m 0 c).after 5 t =
    headLse (grid0.coords t) (iblk m c 0 t) (iblk m c 1 t) (keyRows (iblk m c 2 t)) (keyEighths (iblk m c 2 t)) := by dsimp only [dats]
theorem after0_6 (c : Dev nD) (t : Fin cfg0.N) : (dats m 0 c).after 6 t =
    headCodes (iblk m c 1 t) := by dsimp only [dats]
theorem after0_7 (c : Dev nD) (t : Fin cfg0.N) : (dats m 0 c).after 7 t =
    headScales (iblk m c 1 t) := by dsimp only [dats]
theorem after0_8 (c : Dev nD) (t : Fin cfg0.N) : (dats m 0 c).after 8 t =
    keyCodes (iblk m c 2 t) := by dsimp only [dats]
theorem after0_9 (c : Dev nD) (t : Fin cfg0.N) : (dats m 0 c).after 9 t =
    keyScales (iblk m c 2 t) := by dsimp only [dats]
theorem after0_10 (c : Dev nD) (t : Fin cfg0.N) : (dats m 0 c).after 10 t =
    valCodes (iblk m c 3 t) := by dsimp only [dats]
theorem after0_11 (c : Dev nD) (t : Fin cfg0.N) : (dats m 0 c).after 11 t =
    valScales (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A result window the body writes at its batch's first point alone, and that is written back after the batch's last:
    its buffer holds nothing named before the first point, and before the others what the first left in it. -/
theorem before_kept (c : Dev nD) (w : Fin cfg0.W) (hw : (cfg0.win w).isOut = true)
    (hfl : ∀ t : Fin cfg0.N, (cfg0.win w).flush t = true ↔ t.val % 16 = 15)
    (hclip : ∀ (i : cfg0.grid.Coords) a, (cfg0.win w).clip i a = none) (hidle : ∀ i, cfg0.idle w i = !(k0_cond1 i == 1#1))
    (hafter : ∀ t : Fin cfg0.N, t.val % 16 ≠ 0 → (dats m 0 c).after w (prev t.castSucc) = (dats m 0 c).after w t)
    (t : Fin cfg0.N) (ht : t.val % 16 ≠ 0) (d) : (dats m 0 c).before w t d = (dats m 0 c).after w t := by
  have hfresh : ∀ n, n ≤ cfg0.N → cfg0.fresh w n = decide (n % 16 = 0) := cfg0.fresh_tab w _ rfl fun t => by
    rw [hidle, Bool.eq_iff_iff]
    simp only [decide_eq_true_eq, Bool.or_eq_true, Bool.and_eq_true, Bool.not_eq_true', beq_eq_false_iff_ne, ne_eq, hfl]
    rw [show (k0_cond1 (cfg0.grid.coords t) = 1#1) ↔ t.val % 16 = 0 from first_iff t]
    omega
  have hf := hfresh t.val (le_of_lt t.isLt)
  rw [decide_eq_false ht] at hf
  rw [(dats m 0 c).before_out_traj w hw hclip (fun t _ _ hfr => (hafter t fun h => by
    rw [hfresh t.val (le_of_lt t.isLt), decide_eq_true h] at hfr; exact Bool.false_ne_true hfr.symm).symm) t.val t rfl d, if_neg (by rw [hf]; exact Bool.false_ne_true)]
  exact hafter t ht

/-- Such a window's buffer, left at its value, is what the body has to leave in it at any point. -/
theorem leaves_kept (c : Dev nD) (w : Fin cfg0.W) (hidle : ∀ i, cfg0.idle w i = !(k0_cond1 i == 1#1)) (t : Fin cfg0.N)
    (hb : t.val % 16 ≠ 0 → ∀ d, (dats m 0 c).before w t d = (dats m 0 c).after w t) :
    owns (c : Thread nD τ) ((cfg0.win w).stage (cfg0.slots t w)) fullShare ((dats m 0 c).after w t) ⊢ ((dats m 0 c).leavesExact w t : sProp 𝕄) := by
  unfold Dat.leavesExact
  cases hi : cfg0.idle w (cfg0.grid.coords t)
  · exact .rfl
  · cases (cfg0.win w).flush t
    · have ht : t.val % 16 ≠ 0 := fun h => by
        rw [hidle, show k0_cond1 (cfg0.grid.coords t) = 1#1 from (first_iff t).mpr h] at hi
        exact absurd hi (by decide)
      iintro H
      iexists ((dats m 0 c).after w t)
      rw [hb ht]
      iexact H
    · exact .rfl

theorem before0_8 (c : Dev nD) (t : Fin cfg0.N) (ht : t.val % 16 ≠ 0) (d) : (dats m 0 c).before 8 t d = (dats m 0 c).after 8 t :=
  before_kept m c 8 rfl flush0_8 (fun _ _ => rfl) (fun _ => rfl)
    (fun t ht => by rw [after0_8, after0_8, keys_of_batch m c _ t (batch_prev t ht)]) t ht d
theorem before0_9 (c : Dev nD) (t : Fin cfg0.N) (ht : t.val % 16 ≠ 0) (d) : (dats m 0 c).before 9 t d = (dats m 0 c).after 9 t :=
  before_kept m c 9 rfl flush0_9 (fun _ _ => rfl) (fun _ => rfl)
    (fun t ht => by rw [after0_9, after0_9, keys_of_batch m c _ t (batch_prev t ht)]) t ht d
theorem before0_10 (c : Dev nD) (t : Fin cfg0.N) (ht : t.val % 16 ≠ 0) (d) : (dats m 0 c).before 10 t d = (dats m 0 c).after 10 t :=
  before_kept m c 10 rfl flush0_10 (fun _ _ => rfl) (fun _ => rfl)
    (fun t ht => by rw [after0_10, after0_10, vals_of_batch m c _ t (batch_prev t ht)]) t ht d
theorem before0_11 (c : Dev nD) (t : Fin cfg0.N) (ht : t.val % 16 ≠ 0) (d) : (dats m 0 c).before 11 t d = (dats m 0 c).after 11 t :=
  before_kept m c 11 rfl flush0_11 (fun _ _ => rfl) (fun _ => rfl)
    (fun t ht => by rw [after0_11, after0_11, vals_of_batch m c _ t (batch_prev t ht)]) t ht d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The scratch buffers after a point hold what is carried to the next. -/
theorem carry_succ (c : Dev nD) (t : Fin cfg0.N) :
    iprop(held c (iblk m c 2 t) (iblk m c 3 t) ∗ ∃ r, prngReg c r) ⊢ carry m c t.succ := by
  unfold carry
  split
  · unfold Pipeline.ΦA held
    rw [scopedRest0_eq]
    simp only [← owns_whole]
    iintro ⟨⟨S0, S1, ⟨%d, -, S2⟩, ⟨%d3, S3⟩⟩, Hr⟩
    isplitr [Hr]
    · isplitl [S0]; · iexists _; iexact S0
      isplitl [S1]; · iexists _; iexact S1
      isplitl [S2]; · iexists _; iexact S2
      iexists _; iexact S3
    · iexact Hr
  · exact .rfl

set_option maxHeartbeats 1000000 in
/-- The body at a batch's first point. -/
theorem sound_body_first (c : Dev nD) (t : Fin cfg0.N) (ht : t.val % 16 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = carry m c t.succ from rfl, show (dats m 0 c).Φ t.castSucc = carry m c t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show carry m c t.castSucc = Pipeline.ΦA spec0 c from if_pos ht]
  unfold Pipeline.ΦA
  rw [scopedRest0_eq]
  simp only [← owns_whole]
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_first c (grid0.coords t) _ _ _ _ _ _ _ _ _ _ _ _ _ _ _ _ _ _ _ _ _ _ _ _ _ _ _ _ _ _ _ _ ((first_iff t).mpr ht) (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexists _; iexact S0
  isplitl [S1]; · iexists _; iexact S1
  isplitl [S2]; · iexists _; iexact S2
  isplitl [S3]; · iexists _; iexact S3
  iintro ⟨H0, H1, H2, H3, H4, H5, H6, H7, H8, H9, H10, H11, S0, S1, S2, S3⟩
  isplitl [S0 S1 S2 S3 Hr]
  · iapply (carry_succ m c t)
    unfold held
    isplitr [Hr]
    · isplitl [S0]; · iexact S0
      isplitl [S1]; · iexact S1
      isplitl [S2]; · iexact S2
      iexact S3
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at a batch's other points. -/
theorem sound_body_later (c : Dev nD) (t : Fin cfg0.N) (ht : t.val % 16 ≠ 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_8 m c t ht, before0_9 m c t ht, before0_10 m c t ht, before0_11 m c t ht]
  rw [show (dats m 0 c).Φ t.succ = carry m c t.succ from rfl, show (dats m 0 c).Φ t.castSucc = carry m c t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show carry m c t.castSucc = iprop(held c (iblk m c 2 t) (iblk m c 3 t) ∗ ∃ r, prngReg c r) from by
    unfold carry
    rw [if_neg (show ¬ t.castSucc.val % 16 = 0 from ht), keys_of_batch m c _ t (batch_prev t ht), vals_of_batch m c _ t (batch_prev t ht)]]
  unfold held
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_later c (grid0.coords t) _ _ _ _ _ _ _ _ _ _ _ _ _ _ _ _ _ _ _ _ _ _ _ _ _ _ _ _ _ _ _ _ (fun h => ht ((first_iff t).mp h)) (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hr]
  · iapply (carry_succ m c t)
    unfold held
    isplitr [Hr]
    · isplitl [S0]; · iexact S0
      isplitl [S1]; · iexact S1
      isplitl [S2]; · iexact S2
      iexact S3
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases ht : t.val % 16 = 0
  · exact sound_body_first m c t ht
  · exact sound_body_later m c t ht

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

end Cert.Proof.IdealRun

end
-- ==== Proof.IdealLaunch.lean ====
/-
  The launch over the ideal values: the body obligation of the named contents, and what the launch leaves in memory.
-/
module

public import proofs.«01_k».proof.Proof.IdealRun
public import Idealize.ShloMosaic.Lib.Pipeline.ValueKit
public import Idealize.ShloMosaic.Lib.Pointwise
public import Idealize.ShloMosaic.Lib.Pipeline.TableIdle

@[expose] public section

set_option maxRecDepth 16384

noncomputable section

namespace Cert.Proof.IdealLaunch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Spec Cert.Proof.HeadLoops Cert.Proof.KVLoop Cert.Proof.HeadRuns Cert.Proof.IdealRun

local notation "𝕄" => MT nD τ sig Unit (Elt Ideal) ℕ (UR sig nD τ) ℕ

variable (m : (ℓ : Loc nD τ sig) → Buf (Elt Ideal) ℓ) (ρ : Dev nD → PrngReg)

/-- The library's body obligation, its postcondition window by window. -/
theorem obligation_of {cfg : Cfg sig Λ₀} {c : Dev nD} (dat : Dat τ (Elt Ideal) Unit ℕ (UR sig nD τ) ℕ cfg c)
    (defs : Defs nD τ sig (Elt Ideal) Λ₀)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE defs Variants.none c none) Set.univ (defs .tc cfg.body (cfg.bodyArgs t (cfg.slots t))) fun _ =>
          iprop(dat.Φ t.succ ∗ dat.owesAt () t.succ ∗ bigSep Finset.univ fun w : Fin cfg.W => dat.leavesExact w t)) :
    BodyObligation dat defs Variants.none () Set.univ := h

/-- A window the body writes at every point, left at its value, is what the body has to leave in it. -/
theorem leaves_live (c : Dev nD) (w : Fin cfg0.W) (hidle : ∀ i, cfg0.idle w i = false) (t : Fin cfg0.N) :
    owns (c : Thread nD τ) ((cfg0.win w).stage (cfg0.slots t w)) fullShare ((dats m 0 c).after w t) ⊢ ((dats m 0 c).leavesExact w t : sProp 𝕄) := by
  unfold Dat.leavesExact
  rw [hidle]

/-- What the body returns, window by window. -/
def bodyLeaves (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- Fourteen entailments side by side. -/
theorem sep_mono14 {A0 A1 A2 A3 A4 A5 A6 A7 A8 A9 A10 A11 A12 A13 B2 B3 B4 B5 B6 B7 B8 B9 B10 B11 B12 B13 : sProp 𝕄}
    (h2 : A2 ⊢ B2) (h3 : A3 ⊢ B3) (h4 : A4 ⊢ B4) (h5 : A5 ⊢ B5) (h6 : A6 ⊢ B6) (h7 : A7 ⊢ B7) (h8 : A8 ⊢ B8)
    (h9 : A9 ⊢ B9) (h10 : A10 ⊢ B10) (h11 : A11 ⊢ B11) (h12 : A12 ⊢ B12) (h13 : A13 ⊢ B13) :
    iprop(A0 ∗ A1 ∗ A2 ∗ A3 ∗ A4 ∗ A5 ∗ A6 ∗ A7 ∗ A8 ∗ A9 ∗ A10 ∗ A11 ∗ A12 ∗ A13)
      ⊢ iprop(A0 ∗ A1 ∗ B2 ∗ B3 ∗ B4 ∗ B5 ∗ B6 ∗ B7 ∗ B8 ∗ B9 ∗ B10 ∗ B11 ∗ B12 ∗ B13) := by
  refine BIClass.sep_mono Entails.rfl ?_
  refine BIClass.sep_mono Entails.rfl ?_
  refine BIClass.sep_mono h2 ?_
  refine BIClass.sep_mono h3 ?_
  refine BIClass.sep_mono h4 ?_
  refine BIClass.sep_mono h5 ?_
  refine BIClass.sep_mono h6 ?_
  refine BIClass.sep_mono h7 ?_
  refine BIClass.sep_mono h8 ?_
  refine BIClass.sep_mono h9 ?_
  refine BIClass.sep_mono h10 ?_
  refine BIClass.sep_mono h11 ?_
  refine BIClass.sep_mono h12 ?_
  exact h13

theorem leaves0_0 (c : Dev nD) (t : Fin cfg0.N) :
    owns (c : Thread nD τ) (st0_0 t) fullShare ((dats m 0 c).after 0 t) ⊢ ((dats m 0 c).leavesExact 0 t : sProp 𝕄) :=
  leaves_live m c 0 (fun _ => rfl) t
theorem leaves0_1 (c : Dev nD) (t : Fin cfg0.N) :
    owns (c : Thread nD τ) (st0_1 t) fullShare ((dats m 0 c).after 1 t) ⊢ ((dats m 0 c).leavesExact 1 t : sProp 𝕄) :=
  leaves_live m c 1 (fun _ => rfl) t
theorem leaves0_2 (c : Dev nD) (t : Fin cfg0.N) :
    owns (c : Thread nD τ) (st0_2 t) fullShare ((dats m 0 c).after 2 t) ⊢ ((dats m 0 c).leavesExact 2 t : sProp 𝕄) :=
  leaves_live m c 2 (fun _ => rfl) t
theorem leaves0_3 (c : Dev nD) (t : Fin cfg0.N) :
    owns (c : Thread nD τ) (st0_3 t) fullShare ((dats m 0 c).after 3 t) ⊢ ((dats m 0 c).leavesExact 3 t : sProp 𝕄) :=
  leaves_live m c 3 (fun _ => rfl) t
theorem leaves0_4 (c : Dev nD) (t : Fin cfg0.N) :
    owns (c : Thread nD τ) (st0_4 t) fullShare ((dats m 0 c).after 4 t) ⊢ ((dats m 0 c).leavesExact 4 t : sProp 𝕄) :=
  leaves_live m c 4 (fun _ => rfl) t
theorem leaves0_5 (c : Dev nD) (t : Fin cfg0.N) :
    owns (c : Thread nD τ) (st0_5 t) fullShare ((dats m 0 c).after 5 t) ⊢ ((dats m 0 c).leavesExact 5 t : sProp 𝕄) :=
  leaves_live m c 5 (fun _ => rfl) t
theorem leaves0_6 (c : Dev nD) (t : Fin cfg0.N) :
    owns (c : Thread nD τ) (st0_6 t) fullShare ((dats m 0 c).after 6 t) ⊢ ((dats m 0 c).leavesExact 6 t : sProp 𝕄) :=
  leaves_live m c 6 (fun _ => rfl) t
theorem leaves0_7 (c : Dev nD) (t : Fin cfg0.N) :
    owns (c : Thread nD τ) (st0_7 t) fullShare ((dats m 0 c).after 7 t) ⊢ ((dats m 0 c).leavesExact 7 t : sProp 𝕄) :=
  leaves_live m c 7 (fun _ => rfl) t
theorem leaves0_8 (c : Dev nD) (t : Fin cfg0.N) :
    owns (c : Thread nD τ) (st0_8 t) fullShare ((dats m 0 c).after 8 t) ⊢ ((dats m 0 c).leavesExact 8 t : sProp 𝕄) :=
  leaves_kept m c 8 (fun _ => rfl) t (before0_8 m c t)
theorem leaves0_9 (c : Dev nD) (t : Fin cfg0.N) :
    owns (c : Thread nD τ) (st0_9 t) fullShare ((dats m 0 c).after 9 t) ⊢ ((dats m 0 c).leavesExact 9 t : sProp 𝕄) :=
  leaves_kept m c 9 (fun _ => rfl) t (before0_9 m c t)
theorem leaves0_10 (c : Dev nD) (t : Fin cfg0.N) :
    owns (c : Thread nD τ) (st0_10 t) fullShare ((dats m 0 c).after 10 t) ⊢ ((dats m 0 c).leavesExact 10 t : sProp 𝕄) :=
  leaves_kept m c 10 (fun _ => rfl) t (before0_10 m c t)
theorem leaves0_11 (c : Dev nD) (t : Fin cfg0.N) :
    owns (c : Thread nD τ) (st0_11 t) fullShare ((dats m 0 c).after 11 t) ⊢ ((dats m 0 c).leavesExact 11 t : sProp 𝕄) :=
  leaves_kept m c 11 (fun _ => rfl) t (before0_11 m c t)

/-- What the body leaves is what it has to leave. -/
theorem bodyPost_leaves (c : Dev nD) (t : Fin cfg0.N) : bodyPost m c t ⊢ bodyLeaves m c t := by
  unfold bodyPost bodyLeaves
  exact sep_mono14 (leaves0_0 m c t) (leaves0_1 m c t) (leaves0_2 m c t) (leaves0_3 m c t) (leaves0_4 m c t) (leaves0_5 m c t) (leaves0_6 m c t) (leaves0_7 m c t) (leaves0_8 m c t) (leaves0_9 m c t) (leaves0_10 m c t) (leaves0_11 m c t)

/-- The body obligation, at every point. -/
theorem body_obligation (c : Dev nD) :
    BodyObligation (dats m 0 c) (defs₀ (F := Ideal)) Variants.none () Set.univ := obligation_of _ _ fun t => by
  rw [bigSep_W0, bigSep_W0, defs₀_row]
  exact triple_restated (sound_body m c t) rfl .rfl fun _ => bodyPost_leaves m c t

/-! ## The run -/

/-- Before the first point the scratch buffers hold anything, -/
theorem carry_zero (c : Dev nD) : Pipeline.ΦA spec0 c ⊢ (dats m 0 c).Φ 0 := by
  rw [show (dats m 0 c).Φ 0 = carry m c 0 from rfl]
  unfold carry
  rw [if_pos (show (0 : Fin (cfg0.N + 1)).val % 16 = 0 from rfl)]

/-- and after the last it does not matter what they hold. -/
theorem carry_last (c : Dev nD) : (dats m 0 c).Φ (Fin.last cfg0.N) ⊢ Pipeline.ΦA spec0 c := by
  rw [show (dats m 0 c).Φ (Fin.last cfg0.N) = carry m c (Fin.last cfg0.N) from rfl]
  unfold carry
  rw [if_pos (show (Fin.last cfg0.N).val % 16 = 0 from rfl)]

set_option backward.isDefEq.respectTransparency.types false in
set_option maxHeartbeats 800000 in
/-- The launch: every execution terminates, each array holds what the points left in it, and every semaphore counter is
    zero. -/
theorem run_main_values : θ_run defs (onTc (τ := τ) (main (F := Ideal))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carry_zero m c) (hout := fun c => carry_last m c)

end Cert.Proof.IdealLaunch

end
-- ==== Proof.Algebra.lean ====
/-
  The rows of attention of the reference, and that they are the kernel's: its base-two exponential of rescaled scores, with
  the maximum shifted by eight logarithms of two, is 256 times the exponential of the shifted scores.
-/
module

public import proofs.«01_k».proof.Proof.Spec
public import proofs.«01_k».proof.Proof.HeadSpec

@[expose] public section

set_option maxRecDepth 16384

noncomputable section

namespace Cert.Proof.Algebra

open Idealize.ShloMosaic Cert.Proof.Scalar Cert.Proof.Spec

/-- The code of an element with the reference's inverse scale for the maximum `a`. -/
def rcode (a y : EReal) : EReal := clip (y * rinv a)

section head

variable (q : ℕ) (qc : Fin 64 → EReal) (qs : EReal) (kt : Fin 4096 → Fin 64 → EReal) (kb : Fin 4096 → EReal)
  (vc : Fin 64 → Fin 4096 → EReal) (vs sink : EReal)

/-- The score of key `n`, `-∞` where the query does not see it. -/
def rscore (n : Fin 4096) : EReal := if n.val ≤ q then (∑ d, qc d * kt n d) * qs * kb n else ⊥

/-- The row's maximum, the sink counted. -/
def rmax : EReal := max (Finset.univ.sup (rscore q qc qs kt kb)) sink

/-- The weight of key `n`. -/
def rprob (n : Fin 4096) : EReal := Ideal.exp (rscore q qc qs kt kb n - rmax q qc qs kt kb sink)

/-- The row's sum of weights, the sink's among them. -/
def rsum : EReal := (∑ n, rprob q qc qs kt kb sink n) + Ideal.exp (sink - rmax q qc qs kt kb sink)

/-- Component `d` of the attention row. -/
def rout (d : Fin 64) : EReal :=
  Ideal.div ((∑ n, clip (rprob q qc qs kt kb sink n * Ideal.ofBits .f32 0x43800000#32) * vc d n)
    * (Ideal.div (vs * Ideal.ofBits .f32 0x3B800000#32) (Ideal.ofBits .f32 0x3B800000#32) * Ideal.ofBits .f32 0x3B800000#32))
    (rsum q qc qs kt kb sink)

/-- The row's log-sum-exp less the log of the number of keys it sees. -/
def rlse : EReal :=
  rmax q qc qs kt kb sink + Ideal.log (rsum q qc qs kt kb sink) - Ideal.log (((q + 1 : ℕ) : ℝ) : EReal)

end head

/-! ## Real values -/

/-- Being a real number. -/
def Real' (y : EReal) : Prop := ∃ r : ℝ, y = (r : EReal)

theorem real_of_lt {y : EReal} (h0 : ⊥ < y) (h1 : y < ⊤) : Real' y := by
  induction y with
  | bot => exact absurd h0 (lt_irrefl _)
  | top => exact absurd h1 (lt_irrefl _)
  | coe r => exact ⟨r, rfl⟩

theorem real_mul {y z : EReal} (hy : Real' y) (hz : Real' z) : Real' (y * z) := by
  obtain ⟨a, rfl⟩ := hy
  obtain ⟨b, rfl⟩ := hz
  exact ⟨a * b, (EReal.coe_mul a b).symm⟩

theorem sum_coe {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem real_sum {ι : Type} (s : Finset ι) (f : ι → EReal) (h : ∀ i, Real' (f i)) : Real' (∑ i ∈ s, f i) := by
  choose g hg using h
  exact ⟨∑ i ∈ s, g i, by rw [← sum_coe]; exact Finset.sum_congr rfl fun i _ => hg i⟩

theorem word_256 : Ideal.ofBits .f32 0x43800000#32 = ((256 : ℝ) : EReal) := by
  have := ieee_field 135 (by norm_num) (by norm_num)
  rw [show BitVec.ofNat 32 135 <<< 23 = 0x43800000#32 by decide] at this
  exact this.trans (congrArg _ (by norm_num))

theorem word_inv256 : Ideal.ofBits .f32 0x3B800000#32 = ((1 / 256 : ℝ) : EReal) := by
  have := ieee_field 119 (by norm_num) (by norm_num)
  rw [show BitVec.ofNat 32 119 <<< 23 = 0x3B800000#32 by decide] at this
  exact this.trans (congrArg _ (by norm_num [zpow_neg]))

theorem word_eighth : Ideal.ofBits .f32 0x3E000000#32 = ((1 / 8 : ℝ) : EReal) := by
  have := ieee_field 124 (by norm_num) (by norm_num)
  rw [show BitVec.ofNat 32 124 <<< 23 = 0x3E000000#32 by decide] at this
  exact this.trans (congrArg _ (by norm_num [zpow_neg]))

theorem word_448 : Real' (Ideal.ofBits .f32 0x43E00000#32) := by
  show Real' (Ideal.ieee 8 23 0x43E00000#32)
  unfold Ideal.ieee
  rw [show (BitVec.extractLsb' (8 + 23) 1 0x43E00000#32 == 1#1) = false by decide,
    show (BitVec.extractLsb' 23 8 0x43E00000#32).toNat = 135 by decide,
    show (BitVec.extractLsb' 0 23 0x43E00000#32).toNat = 6291456 by decide]
  exact ⟨_, rfl⟩

theorem word_neg448 : Real' (Ideal.ofBits .f32 0xC3E00000#32) := by
  show Real' (Ideal.ieee 8 23 0xC3E00000#32)
  unfold Ideal.ieee
  rw [show (BitVec.extractLsb' (8 + 23) 1 0xC3E00000#32 == 1#1) = true by decide,
    show (BitVec.extractLsb' 23 8 0xC3E00000#32).toNat = 135 by decide,
    show (BitVec.extractLsb' 0 23 0xC3E00000#32).toNat = 6291456 by decide]
  exact ⟨_, rfl⟩

theorem clip_real (y : EReal) : Real' (clip y) := by
  obtain ⟨a, ha⟩ := word_448
  obtain ⟨b, hb⟩ := word_neg448
  unfold clip
  rw [ha, hb]
  exact real_of_lt (lt_min (EReal.bot_lt_coe a) (lt_max_of_lt_left (EReal.bot_lt_coe b))) (min_lt_of_left_lt (EReal.coe_lt_top a))

/-- The supremum of scaled values is the scaled supremum. -/
theorem sup_mul {ι : Type} (s : Finset ι) (f : ι → EReal) (r : ℝ) (hr : 0 < r) : (s.sup fun i => f i * (r : EReal)) = s.sup f * (r : EReal) := by
  refine (Finset.apply_sup_eq_sup_comp_of_linearOrder (fun y : EReal => y * (r : EReal)) ?_ ?_).symm
  · intro a b h
    exact mul_le_mul_of_nonneg_right h (EReal.coe_nonneg.mpr hr.le)
  · exact EReal.bot_mul_coe_of_pos hr

/-- A supremum of numbers below `+∞` is below it. -/
theorem sup_lt_top {ι : Type} (s : Finset ι) (f : ι → EReal) (h : ∀ i, f i < ⊤) : s.sup f < ⊤ :=
  (Finset.sup_lt_iff (by exact bot_lt_top)).mpr fun i _ => h i

/-- Two to a power of a difference over a logarithm of two. -/
theorem two_rpow (t s m : ℝ) (hs : 0 < s) :
    Real.rpow 2 ((t - (m * s⁻¹ - 8 * Real.log 2 * s⁻¹)) * (s * (Real.log 2)⁻¹)) = Real.exp (t * s - m) * 256 := by
  have hl := log2_pos
  have e : (t - (m * s⁻¹ - 8 * Real.log 2 * s⁻¹)) * (s * (Real.log 2)⁻¹) = (t * s - m) * (Real.log 2)⁻¹ + 8 := by
    field_simp
    ring
  rw [e, Real.rpow_eq_pow, Real.rpow_add (by norm_num), Real.rpow_def_of_pos (by norm_num)]
  congr 1
  · congr 1
    field_simp
  · norm_num

/-! ## The two rows -/

section same

variable (q : ℕ) (x : Fin 64 → EReal) (kt : Fin 4096 → Fin 64 → EReal) (kb : Fin 4096 → EReal)
  (vc : Fin 64 → Fin 4096 → EReal) (vs sink : EReal)
  (n : ℤ) (hp : Pow (amax x) n) (hn : -100 ≤ n)

/-- The query's codes and scale as the reference has them. -/
abbrev rq (d : Fin 64) : EReal := rcode (amax x) (x d)

include hp in
theorem code_same (y : EReal) : kcode (amax x) y = rcode (amax x) y := by
  unfold kcode rcode
  rw [hp.2.2.1, hp.2.2.2]

include hp in
theorem score_same (i : Fin 4096) : rscore q (rq x) (rscale (amax x)) kt kb i = kscore q x kt kb i * (((2 : ℝ) ^ n : ℝ) : EReal) := by
  unfold rscore kscore
  split
  · rw [hp.2.1]
    unfold kraw
    rw [mul_right_comm]
    refine congrArg (· * kb i * _) (Finset.sum_congr rfl fun d _ => ?_)
    rw [mul_comm, code_same x n hp]
  · exact (EReal.bot_mul_coe_of_pos (by positivity)).symm

include hp in
theorem max_same : rmax q (rq x) (rscale (amax x)) kt kb sink = kmax q x kt kb sink := by
  unfold rmax kmax
  rw [show rscore q (rq x) (rscale (amax x)) kt kb = fun i => kscore q x kt kb i * (((2 : ℝ) ^ n : ℝ) : EReal) from
    funext (score_same q x kt kb n hp), sup_mul _ _ _ (by positivity), hp.1]

variable (hkt : ∀ i d, Real' (kt i d)) (hkb : ∀ i, Real' (kb i)) (hsink : sink < ⊤)

include hkt hkb in
theorem raw_real (i : Fin 4096) : Real' (kraw x kt kb i) :=
  real_mul (real_sum _ _ fun d => real_mul (hkt i d) (clip_real _)) (hkb i)

include hkt hkb hp hsink in
theorem max_real : Real' (kmax q x kt kb sink) := by
  have h0 : Real' (kscore q x kt kb 0) := by
    unfold kscore
    rw [if_pos (show (0 : Fin 4096).val ≤ q from Nat.zero_le q)]
    exact raw_real x kt kb hkt hkb 0
  rw [← max_same q x kt kb sink n hp]
  refine real_of_lt (lt_max_of_lt_left (lt_of_lt_of_le ?_ (Finset.le_sup (Finset.mem_univ (0 : Fin 4096))))) (max_lt (sup_lt_top _ _ fun i => ?_) hsink)
  · rw [score_same q x kt kb n hp]
    obtain ⟨a, ha⟩ := h0
    rw [ha, ← EReal.coe_mul]
    exact EReal.bot_lt_coe _
  · rw [score_same q x kt kb n hp]
    unfold kscore
    split
    · obtain ⟨a, ha⟩ := raw_real x kt kb hkt hkb i
      rw [ha, ← EReal.coe_mul]
      exact EReal.coe_lt_top _
    · rw [EReal.bot_mul_coe_of_pos (by positivity)]
      exact bot_lt_top

include hp hn in
theorem floor_same : kfloor x = (((2 : ℝ) ^ n : ℝ) : EReal) := by
  unfold kfloor
  rw [hp.1, HeadSpec.floor_word, max_eq_left]
  exact EReal.coe_le_coe_iff.mpr (zpow_le_zpow_right₀ (by norm_num) hn)

theorem div_coe (a b : ℝ) (hb : 0 < b) : Ideal.div (a : EReal) (b : EReal) = ((a * b⁻¹ : ℝ) : EReal) := by
  unfold Ideal.div
  rw [if_neg (fun h => hb.ne' (EReal.coe_eq_zero.mp h)), ← EReal.coe_inv, ← EReal.coe_mul]

include hp hn hkt hkb hsink in
/-- Each weight of the kernel is 256 times the reference's, and both are real, where the sink is below `+∞`. -/
theorem prob_same_of_lt (i : Fin 4096) : kprob q x kt kb sink i = rprob q (rq x) (rscale (amax x)) kt kb sink i * ((256 : ℝ) : EReal)
    ∧ Real' (rprob q (rq x) (rscale (amax x)) kt kb sink i) := by
  obtain ⟨m, hm⟩ := max_real q x kt kb sink n hp hkt hkb hsink
  have hs : (0 : ℝ) < 2 ^ n := by positivity
  unfold kprob rprob kshift
  rw [score_same q x kt kb n hp, max_same q x kt kb sink n hp, hm, floor_same x n hp hn, div_coe _ _ hs, div_coe _ _ hs]
  unfold log2e kscore
  split
  · obtain ⟨t, ht⟩ := raw_real x kt kb hkt hkb i
    rw [ht, ← EReal.coe_mul, ← EReal.coe_mul, ← EReal.coe_sub, ← EReal.coe_sub, ← EReal.coe_sub, ← EReal.coe_mul]
    refine ⟨?_, _, rfl⟩
    show ((Real.rpow 2 _ : ℝ) : EReal) = ((Real.exp _ : ℝ) : EReal) * _
    rw [two_rpow _ _ _ hs, EReal.coe_mul]
  · rw [EReal.bot_mul_coe_of_pos hs, EReal.bot_sub, ← EReal.coe_mul, EReal.bot_sub,
      EReal.bot_mul_coe_of_pos (mul_pos hs (inv_pos.mpr log2_pos))]
    refine ⟨?_, 0, rfl⟩
    show (0 : EReal) = 0 * _
    rw [zero_mul]

include hp hn in
/-- At a sink of `+∞` every weight is zero, the kernel's and the reference's. -/
theorem prob_top (i : Fin 4096) (hki : Real' (kraw x kt kb i)) : kprob q x kt kb ⊤ i = 0 ∧ rprob q (rq x) (rscale (amax x)) kt kb ⊤ i = 0 := by
  have hs : (0 : ℝ) < 2 ^ n := by positivity
  have hm : kmax q x kt kb ⊤ = ⊤ := max_top_right _
  have hd : Ideal.div ⊤ (((2 : ℝ) ^ n : ℝ) : EReal) = ⊤ := by
    unfold Ideal.div
    rw [if_neg (fun h => hs.ne' (EReal.coe_eq_zero.mp h)), ← EReal.coe_inv]
    exact EReal.top_mul_coe_of_pos (inv_pos.mpr hs)
  have hk : ∃ y : EReal, kscore q x kt kb i = y ∧ y - ⊤ = ⊥ ∧ y * (((2 : ℝ) ^ n : ℝ) : EReal) - ⊤ = ⊥ := by
    refine ⟨_, rfl, ?_⟩
    unfold kscore
    split
    · obtain ⟨t, ht⟩ := hki
      rw [ht, ← EReal.coe_mul]
      exact ⟨rfl, rfl⟩
    · rw [EReal.bot_mul_coe_of_pos hs]
      exact ⟨EReal.bot_sub _, EReal.bot_sub _⟩
  obtain ⟨y, hy, h1, h2⟩ := hk
  unfold kprob rprob kshift
  rw [score_same q x kt kb n hp, max_same q x kt kb ⊤ n hp, hm, floor_same x n hp hn, hd, div_coe _ _ hs, hy, h2, EReal.top_sub_coe, h1]
  unfold log2e
  rw [← EReal.coe_mul, EReal.bot_mul_coe_of_pos (mul_pos hs (inv_pos.mpr log2_pos))]
  exact ⟨rfl, rfl⟩

include hp hn hkt hkb in
/-- Each weight of the kernel is 256 times the reference's, and both are real. -/
theorem prob_same (i : Fin 4096) : kprob q x kt kb sink i = rprob q (rq x) (rscale (amax x)) kt kb sink i * ((256 : ℝ) : EReal)
    ∧ Real' (rprob q (rq x) (rscale (amax x)) kt kb sink i) := by
  by_cases h : sink < ⊤
  · exact prob_same_of_lt q x kt kb sink n hp hn hkt hkb h i
  · obtain rfl : sink = ⊤ := not_lt_top_iff.mp h
    obtain ⟨h1, h2⟩ := prob_top q x kt kb n hp hn i (raw_real x kt kb hkt hkb i)
    rw [h1, h2, zero_mul]
    exact ⟨rfl, 0, rfl⟩

include hp hn hkt hkb in
theorem sum_same : ksum q x kt kb sink = rsum q (rq x) (rscale (amax x)) kt kb sink := by
  unfold ksum rsum
  rw [max_same q x kt kb sink n hp, word_inv256]
  refine congrArg (· + _) ?_
  choose p hpr using fun i => (prob_same q x kt kb sink n hp hn hkt hkb i).2
  rw [Finset.sum_congr rfl fun i _ => (prob_same q x kt kb sink n hp hn hkt hkb i).1]
  simp only [hpr, ← EReal.coe_mul, sum_coe]
  rw [← Finset.sum_mul]
  refine congrArg _ ?_
  ring

include hp hn hkt hkb in
/-- The log-sum-exp is the same. -/
theorem lse_same : klse q x kt kb sink = rlse q (rq x) (rscale (amax x)) kt kb sink := by
  unfold klse rlse
  rw [sum_same q x kt kb sink n hp hn hkt hkb, max_same q x kt kb sink n hp]

include hp hn hkt hkb in
/-- The attention row is the same. -/
theorem out_same (hvs : Real' vs) (d : Fin 64) :
    kout q x kt kb vc (vs * Ideal.ofBits .f32 0x3B800000#32) sink d = rout q (rq x) (rscale (amax x)) kt kb vc vs sink d := by
  unfold kout rout
  rw [sum_same q x kt kb sink n hp hn hkt hkb]
  obtain ⟨v, rfl⟩ := hvs
  rw [word_inv256, ← EReal.coe_mul, div_coe _ _ (by norm_num), ← EReal.coe_mul, word_256]
  refine congrArg (fun z => Ideal.div z _) (congrArg₂ (· * ·) (Finset.sum_congr rfl fun i _ => ?_) ?_)
  · rw [mul_comm, (prob_same q x kt kb sink n hp hn hkt hkb i).1]
  · refine congrArg _ ?_
    ring

end same

end Cert.Proof.Algebra

end
-- ==== Proof.Rows.lean ====
/-
  The results as functions of the four argument arrays: the kernel's formulas and the reference's, element by element, and
  that they are the same where the magnitudes are tame.
-/
module

public import proofs.«01_k».proof.Proof.HeadRuns
public import proofs.«01_k».proof.Proof.Algebra

@[expose] public section

set_option maxRecDepth 16384

noncomputable section

namespace Cert.Proof.Rows

open Idealize.ShloMosaic Idealize.ShloMosaic.TcCoe
open Cert.Proof.Scalar Cert.Proof.Spec Cert.Proof.Algebra Cert.Proof.KVLoop Cert.Proof.HeadRuns

abbrev SX : Shape := ⟨3, ![16, 4096, 960]⟩
abbrev SK : Shape := ⟨3, ![16, 4096, 320]⟩
abbrev SS : Shape := ⟨1, ![15]⟩

variable (X : SX.Idx → EReal) (K V : SK.Idx → EReal) (S : SS.Idx → EReal)

/-- Head `h` of the query at place `s` of batch `b`. -/
def xrow (b : Fin 16) (s : Fin 4096) (h : Fin 15) (d : Fin 64) : EReal := X (ix3 b s (qrowOf h d))
/-- Group `g` of the key at place `n` of batch `b`. -/
def krow (b : Fin 16) (g : Fin 5) (n : Fin 4096) (d : Fin 64) : EReal := K (ix3 b n (row g d))
/-- Group `g` of the values of batch `b`. -/
def vcol (b : Fin 16) (g : Fin 5) (d : Fin 64) (n : Fin 4096) : EReal := V (ix3 b n (row g d))

/-- Component `d` of a row of 320 within its group. -/
def inGrp (r : Fin 320) : Fin 64 := ⟨r.val % 64, Nat.mod_lt _ (by norm_num)⟩

/-- A row of 320 is its component of its group. -/
theorem row_back (r : Fin 320) : row (grpOf r) (inGrp r) = r := Fin.ext (by dsimp only [row, grpOf, inGrp]; omega)
/-- A row of 960 is its component of its head. -/
theorem qrow_back (r : Fin 960) : qrowOf (headOf r) (inHead r) = r := Fin.ext (by dsimp only [qrowOf, headOf, inHead]; omega)
/-- The group of a component's row is the component's. -/
theorem grp_row (g : Fin 5) (d : Fin 64) : grpOf (row g d) = g := Fin.ext (by dsimp only [row, grpOf]; omega)

/-- An index of three coordinates is given by them. -/
theorem idx3_eta {n k l : ℕ} (y : (⟨3, ![n, k, l]⟩ : Shape).Idx) : y = ix3 (y 0) (y 1) (y 2) :=
  funext fun a => by fin_cases a <;> rfl

/-- A function of three coordinates at an index that is given by them. -/
theorem at_idx {n k l : ℕ} (f : Fin n → Fin k → Fin l → EReal) (z : (⟨3, ![n, k, l]⟩ : Shape).Idx) {a b c} (e : z = ix3 a b c) :
    f a b c = f (z 0) (z 1) (z 2) := by subst e; rfl

/-! The kernel's results. -/

def kE4 (b : Fin 16) (r : Fin 960) (s : Fin 4096) : EReal :=
  kout s.val (xrow X b s (headOf r))
    (fun n d => kcode (amax (krow K b (kvOf (headOf r)) n)) (krow K b (kvOf (headOf r)) n d))
    (fun n => kscale (amax (krow K b (kvOf (headOf r)) n)) * Ideal.ofBits .f32 0x3E000000#32)
    (fun d n => kcode (vmax (vcol V b (kvOf (headOf r)))) (vcol V b (kvOf (headOf r)) d n))
    (kscale (vmax (vcol V b (kvOf (headOf r)))) * Ideal.ofBits .f32 0x3B800000#32) (S (ix1 (headOf r))) (inHead r)

def kE5 (b : Fin 16) (h : Fin 15) (s : Fin 4096) : EReal :=
  klse s.val (xrow X b s h)
    (fun n d => kcode (amax (krow K b (kvOf h) n)) (krow K b (kvOf h) n d))
    (fun n => kscale (amax (krow K b (kvOf h) n)) * Ideal.ofBits .f32 0x3E000000#32) (S (ix1 h))

def kE6 (b : Fin 16) (r : Fin 960) (s : Fin 4096) : EReal := kcode (amax (xrow X b s (headOf r))) (xrow X b s (headOf r) (inHead r))

def kE7 (b : Fin 16) (h : Fin 15) (s : Fin 4096) : EReal := kscale (amax (xrow X b s h))

def kE8 (b : Fin 16) (r : Fin 320) (s : Fin 4096) : EReal := kcode (amax (krow K b (grpOf r) s)) (krow K b (grpOf r) s (inGrp r))

def kE9 (b : Fin 16) (g : Fin 5) (s : Fin 4096) : EReal := kscale (amax (krow K b g s))

def kE10 (b : Fin 16) (r : Fin 320) (s : Fin 4096) : EReal := kcode (vmax (vcol V b (grpOf r))) (vcol V b (grpOf r) (inGrp r) s)

def kE11 (b : Fin 16) (g : Fin 5) (_l : Fin 128) : EReal := kscale (vmax (vcol V b g))

/-! The reference's results. -/

def rE4 (b : Fin 16) (r : Fin 960) (s : Fin 4096) : EReal :=
  rout s.val (rq (xrow X b s (headOf r))) (rscale (amax (xrow X b s (headOf r))))
    (fun n d => rcode (amax (krow K b (kvOf (headOf r)) n)) (krow K b (kvOf (headOf r)) n d))
    (fun n => rscale (amax (krow K b (kvOf (headOf r)) n)) * Ideal.ofBits .f32 0x3E000000#32)
    (fun d n => rcode (vmax (vcol V b (kvOf (headOf r)))) (vcol V b (kvOf (headOf r)) d n))
    (rscale (vmax (vcol V b (kvOf (headOf r))))) (S (ix1 (headOf r))) (inHead r)

def rE5 (b : Fin 16) (h : Fin 15) (s : Fin 4096) : EReal :=
  rlse s.val (rq (xrow X b s h)) (rscale (amax (xrow X b s h)))
    (fun n d => rcode (amax (krow K b (kvOf h) n)) (krow K b (kvOf h) n d))
    (fun n => rscale (amax (krow K b (kvOf h) n)) * Ideal.ofBits .f32 0x3E000000#32) (S (ix1 h))

def rE6 (b : Fin 16) (r : Fin 960) (s : Fin 4096) : EReal := rcode (amax (xrow X b s (headOf r))) (xrow X b s (headOf r) (inHead r))

def rE7 (b : Fin 16) (h : Fin 15) (s : Fin 4096) : EReal := rscale (amax (xrow X b s h))

def rE8 (b : Fin 16) (r : Fin 320) (s : Fin 4096) : EReal := rcode (amax (krow K b (grpOf r) s)) (krow K b (grpOf r) s (inGrp r))

def rE9 (b : Fin 16) (g : Fin 5) (s : Fin 4096) : EReal := rscale (amax (krow K b g s))

def rE10 (b : Fin 16) (r : Fin 320) (s : Fin 4096) : EReal := rcode (vmax (vcol V b (grpOf r))) (vcol V b (grpOf r) (inGrp r) s)

def rE11 (b : Fin 16) (g : Fin 5) (_l : Fin 128) : EReal := rscale (vmax (vcol V b g))

section same

variable (hX : ∀ b s h, ∃ n, Pow (amax (xrow X b s h)) n ∧ -100 ≤ n) (hK : ∀ b g n, ∃ k, Pow (amax (krow K b g n)) k)
  (hV : ∀ b g, ∃ k, Pow (vmax (vcol V b g)) k)

theorem code_eq {a : EReal} {k : ℤ} (h : Pow a k) : kcode a = rcode a := by
  funext y
  unfold kcode rcode
  rw [h.2.2.1, h.2.2.2]

theorem scale_eq {a : EReal} {k : ℤ} (h : Pow a k) : kscale a = rscale a := h.1.trans h.2.1.symm

include hX in
theorem same6 (b : Fin 16) (r : Fin 960) (s : Fin 4096) : kE6 X b r s = rE6 X b r s := by
  obtain ⟨n, hn, -⟩ := hX b s (headOf r)
  unfold kE6 rE6
  rw [code_eq hn]

include hX in
theorem same7 (b : Fin 16) (h : Fin 15) (s : Fin 4096) : kE7 X b h s = rE7 X b h s := by
  obtain ⟨n, hn, -⟩ := hX b s h
  exact scale_eq hn

include hK in
theorem same8 (b : Fin 16) (r : Fin 320) (s : Fin 4096) : kE8 K b r s = rE8 K b r s := by
  obtain ⟨n, hn⟩ := hK b (grpOf r) s
  unfold kE8 rE8
  rw [code_eq hn]

include hK in
theorem same9 (b : Fin 16) (g : Fin 5) (s : Fin 4096) : kE9 K b g s = rE9 K b g s := by
  obtain ⟨n, hn⟩ := hK b g s
  exact scale_eq hn

include hV in
theorem same10 (b : Fin 16) (r : Fin 320) (s : Fin 4096) : kE10 V b r s = rE10 V b r s := by
  obtain ⟨n, hn⟩ := hV b (grpOf r)
  unfold kE10 rE10
  rw [code_eq hn]

include hV in
theorem same11 (b : Fin 16) (g : Fin 5) (_l : Fin 128) : kE11 V b g _l = rE11 V b g _l := by
  obtain ⟨n, hn⟩ := hV b g
  exact scale_eq hn

include hK in
theorem keys_eq (b : Fin 16) (g : Fin 5) : (fun n d => kcode (amax (krow K b g n)) (krow K b g n d)) = fun n d => rcode (amax (krow K b g n)) (krow K b g n d) := by
  funext n d
  obtain ⟨k, hk⟩ := hK b g n
  rw [code_eq hk]

include hK in
theorem scales_eq (b : Fin 16) (g : Fin 5) : (fun n => kscale (amax (krow K b g n)) * Ideal.ofBits .f32 0x3E000000#32)
    = fun n => rscale (amax (krow K b g n)) * Ideal.ofBits .f32 0x3E000000#32 := by
  funext n
  obtain ⟨k, hk⟩ := hK b g n
  rw [scale_eq hk]

include hK in
theorem scales_real (b : Fin 16) (g : Fin 5) (n : Fin 4096) : Real' (rscale (amax (krow K b g n)) * Ideal.ofBits .f32 0x3E000000#32) := by
  obtain ⟨k, hk⟩ := hK b g n
  exact real_mul ⟨_, hk.2.1⟩ ⟨_, word_eighth⟩

include hX hK in
theorem same5 (b : Fin 16) (h : Fin 15) (s : Fin 4096) : kE5 X K S b h s = rE5 X K S b h s := by
  obtain ⟨n, hn, h100⟩ := hX b s h
  unfold kE5 rE5
  rw [keys_eq K hK, scales_eq K hK]
  exact lse_same _ _ _ _ _ n hn h100 (fun _ _ => clip_real _) (fun i => scales_real K hK _ _ i)

include hX hK hV in
theorem same4 (b : Fin 16) (r : Fin 960) (s : Fin 4096) : kE4 X K V S b r s = rE4 X K V S b r s := by
  obtain ⟨n, hn, h100⟩ := hX b s (headOf r)
  obtain ⟨k, hk⟩ := hV b (kvOf (headOf r))
  unfold kE4 rE4
  rw [keys_eq K hK, scales_eq K hK, code_eq hk, scale_eq hk]
  exact out_same _ _ _ _ _ _ _ n hn h100 (fun _ _ => clip_real _) (fun i => scales_real K hK _ _ i) ⟨_, hk.2.1⟩ _

end same

end Cert.Proof.Rows

end
-- ==== Proof.KernelArrays.lean ====
/-
  The kernel's eight result arrays after a run, element by element, as functions of its arguments.
-/
module

public import proofs.«01_k».proof.Proof.IdealRun
public import proofs.«01_k».proof.Proof.Rows

@[expose] public section

set_option maxRecDepth 16384

noncomputable section

namespace Cert.Proof.KernelArrays

open Cert.KernelIdeal Cert.KernelIdeal.Gen
open Idealize.ShloMosaic Idealize.ShloMosaic.TcCoe Idealize.ShloMosaic.Tactic
open Idealize.ShloMosaic.Pipeline (Dat Cfg Window)
open Cert.Proof.Scalar Cert.Proof.Spec Cert.Proof.PayHead Cert.Proof.HeadLoops Cert.Proof.KVLoop Cert.Proof.HeadRuns Cert.Proof.IdealRun Cert.Proof.Rows

variable (m : (ℓ : Loc nD τ sig) → Buf (Elt Ideal) ℓ)

/-- The queries a run begins with. -/
abbrev aX (c : Dev nD) : SX.Idx → EReal := m ((c.tc : Thread nD τ).loc main_arg0)
/-- The keys a run begins with. -/
abbrev aK (c : Dev nD) : SK.Idx → EReal := m ((c.tc : Thread nD τ).loc main_arg1)
/-- The values a run begins with. -/
abbrev aV (c : Dev nD) : SK.Idx → EReal := m ((c.tc : Thread nD τ).loc main_arg2)
/-- The sinks a run begins with. -/
abbrev aS (c : Dev nD) : SS.Idx → EReal := m ((c.tc : Thread nD τ).loc main_arg3)

/-- The place of a tile's column in the sequence. -/
def place (t : Fin cfg0.N) (col : Fin 256) : Fin 4096 :=
  ⟨256 * (grid0.coords t 1).val + col.val, by have h : (grid0.coords t 1).val < 16 := (grid0.coords t 1).isLt; omega⟩

/-- The batch of a point. -/
def bat (t : Fin cfg0.N) : Fin 16 := grid0.coords t 0

/-! ## What the blocks hold, of the arguments -/

theorem query_eq (c : Dev nD) (t : Fin cfg0.N) (h : Fin 15) (col : Fin 256) :
    query (iblk m c 1 t) h col = xrow (aX m c) (bat t) (place t col) h :=
  funext fun d => queries_apply m c t (qrowOf h d) col

theorem keyMax_eq (c : Dev nD) (t : Fin cfg0.N) (g : Fin 5) (n : Fin 4096) :
    keyMax (iblk m c 2 t) g n = amax (krow (aK m c) (bat t) g n) :=
  congrArg amax (funext fun d => keys_apply m c t (row g d) n)

theorem valMax_eq (c : Dev nD) (t : Fin cfg0.N) (g : Fin 5) :
    valMax (iblk m c 3 t) g = vmax (vcol (aV m c) (bat t) g) :=
  congrArg vmax (funext fun d => funext fun n => vals_apply m c t (row g d) n)

theorem keyRows_eq (c : Dev nD) (t : Fin cfg0.N) (g : Fin 5) (n : Fin 4096) (d : Fin 64) :
    keyRows (iblk m c 2 t) (ix3 g n d) = kcode (amax (krow (aK m c) (bat t) g n)) (krow (aK m c) (bat t) g n d) :=
  congrArg₂ kcode (keyMax_eq m c t g n) (keys_apply m c t (row g d) n)

theorem keyEighths_eq (c : Dev nD) (t : Fin cfg0.N) (g : Fin 5) (n : Fin 4096) (l : Fin 128) :
    keyEighths (iblk m c 2 t) (ix3 g n l) = kscale (amax (krow (aK m c) (bat t) g n)) * Ideal.ofBits .f32 0x3E000000#32 :=
  congrArg (fun z => kscale z * Ideal.ofBits .f32 0x3E000000#32) (keyMax_eq m c t g n)

theorem valCodes_eq (c : Dev nD) (t : Fin cfg0.N) (r : Fin 320) (n : Fin 4096) :
    valCodes (iblk m c 3 t) (ix3 0 r n)
      = kcode (vmax (vcol (aV m c) (bat t) (grpOf r))) (aV m c (ix3 (bat t) n r)) :=
  congrArg₂ kcode (valMax_eq m c t (grpOf r)) (vals_apply m c t r n)

theorem kout_congr (s : ℕ) (d : Fin 64) {q q' x x' kt kt' vc vc' vm vm' sk sk'} (h0 : q = q') (h1 : x = x') (h2 : kt = kt') (h3 : vc = vc') (h4 : vm = vm')
    (h5 : sk = sk') : kout s q x kt vc vm sk d = kout s q' x' kt' vc' vm' sk' d := by subst h0 h1 h2 h3 h4 h5; rfl

theorem klse_congr (s : ℕ) {q q' x x' kt kt' sk sk'} (h0 : q = q') (h1 : x = x') (h2 : kt = kt') (h5 : sk = sk') :
    klse s q x kt sk = klse s q' x' kt' sk' := by subst h0 h1 h2 h5; rfl

/-! ## What a point leaves, of the arguments -/

theorem out_at (c : Dev nD) (t : Fin cfg0.N) (r : Fin 960) (col : Fin 256) :
    headOut (grid0.coords t) (iblk m c 0 t) (iblk m c 1 t) (keyRows (iblk m c 2 t)) (keyEighths (iblk m c 2 t)) (valCodes (iblk m c 3 t))
        (fun g _ => valFactor (iblk m c 3 t) g) (ix3 0 r col)
      = kE4 (aX m c) (aK m c) (aV m c) (aS m c) (bat t) r (place t col) := by
  have hq := query_eq m c t (headOf r) col
  have hk : (fun n d => keyRows (iblk m c 2 t) (ix3 (kvOf (headOf r)) n d)) = _ := funext fun n => funext fun d => keyRows_eq m c t (kvOf (headOf r)) n d
  have he : (fun n => keyEighths (iblk m c 2 t) (ix3 (kvOf (headOf r)) n (lane col))) = _ := funext fun n => keyEighths_eq m c t (kvOf (headOf r)) n (lane col)
  have hv : (fun d n => valCodes (iblk m c 3 t) (ix3 0 (row (kvOf (headOf r)) d) n)) = fun d n => _ :=
    funext fun d => funext fun n => (valCodes_eq m c t (row (kvOf (headOf r)) d) n).trans (congrArg (fun g => kcode (vmax (vcol (aV m c) (bat t) g)) _) (grp_row _ d))
  have hf : valFactor (iblk m c 3 t) (kvOf (headOf r)) = _ := congrArg (fun z => kscale z * Ideal.ofBits .f32 0x3B800000#32) (valMax_eq m c t (kvOf (headOf r)))
  have hs := sinks_apply m c t (headOf r)
  exact kout_congr _ _ hq hk he hv hf hs

theorem lse_at (c : Dev nD) (t : Fin cfg0.N) (h : Fin 15) (col : Fin 256) :
    headLse (grid0.coords t) (iblk m c 0 t) (iblk m c 1 t) (keyRows (iblk m c 2 t)) (keyEighths (iblk m c 2 t)) (ix3 0 h col)
      = kE5 (aX m c) (aK m c) (aS m c) (bat t) h (place t col) :=
  klse_congr _ (query_eq m c t h col) (funext fun n => funext fun d => keyRows_eq m c t (kvOf h) n d)
    (funext fun n => keyEighths_eq m c t (kvOf h) n (lane col)) (sinks_apply m c t h)

theorem codes_at (c : Dev nD) (t : Fin cfg0.N) (r : Fin 960) (col : Fin 256) :
    headCodes (iblk m c 1 t) (ix3 0 r col) = kE6 (aX m c) (bat t) r (place t col) :=
  congrArg₂ kcode (congrArg amax (query_eq m c t (headOf r) col))
    ((queries_apply m c t r col).trans (congrArg (fun z => aX m c (ix3 (bat t) (place t col) z)) (qrow_back r).symm))

theorem scales_at (c : Dev nD) (t : Fin cfg0.N) (h : Fin 15) (col : Fin 256) :
    headScales (iblk m c 1 t) (ix3 0 h col) = kE7 (aX m c) (bat t) h (place t col) :=
  congrArg (fun z => kscale (amax z)) (query_eq m c t h col)

theorem keyCodes_at (c : Dev nD) (t : Fin cfg0.N) (r : Fin 320) (n : Fin 4096) :
    keyCodes (iblk m c 2 t) (ix3 0 r n) = kE8 (aK m c) (bat t) r n :=
  congrArg₂ kcode (keyMax_eq m c t (grpOf r) n)
    ((keys_apply m c t r n).trans (congrArg (fun z => aK m c (ix3 (bat t) n z)) (row_back r).symm))

theorem keyScales_at (c : Dev nD) (t : Fin cfg0.N) (g : Fin 5) (n : Fin 4096) :
    keyScales (iblk m c 2 t) (ix3 0 g n) = kE9 (aK m c) (bat t) g n :=
  congrArg kscale (keyMax_eq m c t g n)

theorem valCodes_at (c : Dev nD) (t : Fin cfg0.N) (r : Fin 320) (n : Fin 4096) :
    valCodes (iblk m c 3 t) (ix3 0 r n) = kE10 (aV m c) (bat t) r n :=
  (valCodes_eq m c t r n).trans (congrArg (fun z => kcode (vmax (vcol (aV m c) (bat t) (grpOf r))) (aV m c (ix3 (bat t) n z))) (row_back r).symm)

theorem valScales_at (c : Dev nD) (t : Fin cfg0.N) (g : Fin 5) (l : Fin 128) :
    valScales (iblk m c 3 t) (ix3 0 g l) = kE11 (aV m c) (bat t) g l :=
  congrArg kscale (valMax_eq m c t g)

/-! ## The arrays -/

theorem index4 : ∀ t : Fin cfg0.N, win0_4.index t = ![(grid0.coords t 0).val, 0, (grid0.coords t 1).val] := by decide +kernel
theorem index5 : ∀ t : Fin cfg0.N, win0_5.index t = ![(grid0.coords t 0).val, 0, (grid0.coords t 1).val] := by decide +kernel
theorem index6 : ∀ t : Fin cfg0.N, win0_6.index t = ![(grid0.coords t 0).val, 0, (grid0.coords t 1).val] := by decide +kernel
theorem index7 : ∀ t : Fin cfg0.N, win0_7.index t = ![(grid0.coords t 0).val, 0, (grid0.coords t 1).val] := by decide +kernel
theorem index8 : ∀ t : Fin cfg0.N, win0_8.index t = ![(grid0.coords t 0).val, 0, 0] := by decide +kernel
theorem index9 : ∀ t : Fin cfg0.N, win0_9.index t = ![(grid0.coords t 0).val, 0, 0] := by decide +kernel
theorem index10 : ∀ t : Fin cfg0.N, win0_10.index t = ![(grid0.coords t 0).val, 0, 0] := by decide +kernel
theorem index11 : ∀ t : Fin cfg0.N, win0_11.index t = ![(grid0.coords t 0).val, 0, 0] := by decide +kernel

end Cert.Proof.KernelArrays

end
-- ==== Proof.KernelFinal.lean ====
/-
  The kernel's eight result arrays after a run, as functions of its arguments.
-/
module

public import proofs.«01_k».proof.Proof.KernelArrays

@[expose] public section

set_option maxRecDepth 16384

noncomputable section

namespace Cert.Proof.KernelFinal

open Cert.KernelIdeal Cert.KernelIdeal.Gen
open Idealize.ShloMosaic Idealize.ShloMosaic.TcCoe Idealize.ShloMosaic.Tactic
open Idealize.ShloMosaic.Pipeline (Dat Cfg Window)
open Cert.Proof.Scalar Cert.Proof.Spec Cert.Proof.PayHead Cert.Proof.HeadLoops Cert.Proof.KVLoop Cert.Proof.HeadRuns Cert.Proof.IdealRun Cert.Proof.Rows Cert.Proof.KernelArrays

variable (m : (ℓ : Loc nD τ sig) → Buf (Elt Ideal) ℓ)

theorem blk_eta {n k : ℕ} (y : (⟨3, ![1, n, k]⟩ : Shape).Idx) : y = ix3 0 (y 1) (y 2) :=
  funext fun a => by
    fin_cases a
    · exact Subsingleton.elim (α := Fin 1) _ _
    · rfl
    · rfl

theorem array4 (c : Dev nD) : (dats m 0 c).arrAt 4 cfg0.N = fun (y : S16x960x4096.Idx) => kE4 (aX m c) (aK m c) (aV m c) (aS m c) (y 0) (y 1) (y 2) := by
  refine (dats m 0 c).arrAt_eq_of_covers 4 _ (by decide +kernel) fun t hf (y : S1x960x256.Idx) => ?_
  have e0 : ((win0_4.blk t).view.emb y : S16x960x4096.Idx) = ix3 (bat t) (y 1) (place t (y 2)) := by blk_ext [index4, bat, place]
  blk_simp
  rw [after0_4]
  exact (congrArg (headOut (grid0.coords t) (iblk m c 0 t) (iblk m c 1 t) (keyRows (iblk m c 2 t)) (keyEighths (iblk m c 2 t)) (valCodes (iblk m c 3 t)) (fun g _ => valFactor (iblk m c 3 t) g)) (blk_eta y)).trans ((out_at m c t (y 1) (y 2)).trans (at_idx (kE4 (aX m c) (aK m c) (aV m c) (aS m c)) ((win0_4.blk t).view.emb y : S16x960x4096.Idx) e0))

theorem array5 (c : Dev nD) : (dats m 0 c).arrAt 5 cfg0.N = fun (y : S16x15x4096.Idx) => kE5 (aX m c) (aK m c) (aS m c) (y 0) (y 1) (y 2) := by
  refine (dats m 0 c).arrAt_eq_of_covers 5 _ (by decide +kernel) fun t hf (y : S1x15x256.Idx) => ?_
  have e0 : ((win0_5.blk t).view.emb y : S16x15x4096.Idx) = ix3 (bat t) (y 1) (place t (y 2)) := by blk_ext [index5, bat, place]
  blk_simp
  rw [after0_5]
  exact (congrArg (headLse (grid0.coords t) (iblk m c 0 t) (iblk m c 1 t) (keyRows (iblk m c 2 t)) (keyEighths (iblk m c 2 t))) (blk_eta y)).trans ((lse_at m c t (y 1) (y 2)).trans (at_idx (kE5 (aX m c) (aK m c) (aS m c)) ((win0_5.blk t).view.emb y : S16x15x4096.Idx) e0))

theorem array6 (c : Dev nD) : (dats m 0 c).arrAt 6 cfg0.N = fun (y : S16x960x4096.Idx) => kE6 (aX m c) (y 0) (y 1) (y 2) := by
  refine (dats m 0 c).arrAt_eq_of_covers 6 _ (by decide +kernel) fun t hf (y : S1x960x256.Idx) => ?_
  have e0 : ((win0_6.blk t).view.emb y : S16x960x4096.Idx) = ix3 (bat t) (y 1) (place t (y 2)) := by blk_ext [index6, bat, place]
  blk_simp
  rw [after0_6]
  exact (congrArg (headCodes (iblk m c 1 t)) (blk_eta y)).trans ((codes_at m c t (y 1) (y 2)).trans (at_idx (kE6 (aX m c)) ((win0_6.blk t).view.emb y : S16x960x4096.Idx) e0))

theorem array7 (c : Dev nD) : (dats m 0 c).arrAt 7 cfg0.N = fun (y : S16x15x4096.Idx) => kE7 (aX m c) (y 0) (y 1) (y 2) := by
  refine (dats m 0 c).arrAt_eq_of_covers 7 _ (by decide +kernel) fun t hf (y : S1x15x256.Idx) => ?_
  have e0 : ((win0_7.blk t).view.emb y : S16x15x4096.Idx) = ix3 (bat t) (y 1) (place t (y 2)) := by blk_ext [index7, bat, place]
  blk_simp
  rw [after0_7]
  exact (congrArg (headScales (iblk m c 1 t)) (blk_eta y)).trans ((scales_at m c t (y 1) (y 2)).trans (at_idx (kE7 (aX m c)) ((win0_7.blk t).view.emb y : S16x15x4096.Idx) e0))

theorem array8 (c : Dev nD) : (dats m 0 c).arrAt 8 cfg0.N = fun (y : S16x320x4096.Idx) => kE8 (aK m c) (y 0) (y 1) (y 2) := by
  refine (dats m 0 c).arrAt_eq_of_covers 8 _ (by decide +kernel) fun t hf (y : S1x320x4096.Idx) => ?_
  have e0 : ((win0_8.blk t).view.emb y : S16x320x4096.Idx) = ix3 (bat t) (y 1) (y 2) := by blk_ext [index8, bat, place]
  blk_simp
  rw [after0_8]
  exact (congrArg (keyCodes (iblk m c 2 t)) (blk_eta y)).trans ((keyCodes_at m c t (y 1) (y 2)).trans (at_idx (kE8 (aK m c)) ((win0_8.blk t).view.emb y : S16x320x4096.Idx) e0))

theorem array9 (c : Dev nD) : (dats m 0 c).arrAt 9 cfg0.N = fun (y : S16x5x4096.Idx) => kE9 (aK m c) (y 0) (y 1) (y 2) := by
  refine (dats m 0 c).arrAt_eq_of_covers 9 _ (by decide +kernel) fun t hf (y : S1x5x4096.Idx) => ?_
  have e0 : ((win0_9.blk t).view.emb y : S16x5x4096.Idx) = ix3 (bat t) (y 1) (y 2) := by blk_ext [index9, bat, place]
  blk_simp
  rw [after0_9]
  exact (congrArg (keyScales (iblk m c 2 t)) (blk_eta y)).trans ((keyScales_at m c t (y 1) (y 2)).trans (at_idx (kE9 (aK m c)) ((win0_9.blk t).view.emb y : S16x5x4096.Idx) e0))

theorem array10 (c : Dev nD) : (dats m 0 c).arrAt 10 cfg0.N = fun (y : S16x320x4096.Idx) => kE10 (aV m c) (y 0) (y 1) (y 2) := by
  refine (dats m 0 c).arrAt_eq_of_covers 10 _ (by decide +kernel) fun t hf (y : S1x320x4096.Idx) => ?_
  have e0 : ((win0_10.blk t).view.emb y : S16x320x4096.Idx) = ix3 (bat t) (y 1) (y 2) := by blk_ext [index10, bat, place]
  blk_simp
  rw [after0_10]
  exact (congrArg (valCodes (iblk m c 3 t)) (blk_eta y)).trans ((valCodes_at m c t (y 1) (y 2)).trans (at_idx (kE10 (aV m c)) ((win0_10.blk t).view.emb y : S16x320x4096.Idx) e0))

theorem array11 (c : Dev nD) : (dats m 0 c).arrAt 11 cfg0.N = fun (y : S16x5x128.Idx) => kE11 (aV m c) (y 0) (y 1) (y 2) := by
  refine (dats m 0 c).arrAt_eq_of_covers 11 _ (by decide +kernel) fun t hf (y : S1x5x128.Idx) => ?_
  have e0 : ((win0_11.blk t).view.emb y : S16x5x128.Idx) = ix3 (bat t) (y 1) (y 2) := by blk_ext [index11, bat, place]
  blk_simp
  rw [after0_11]
  exact (congrArg (valScales (iblk m c 3 t)) (blk_eta y)).trans ((valScales_at m c t (y 1) (y 2)).trans (at_idx (kE11 (aV m c)) ((win0_11.blk t).view.emb y : S16x5x128.Idx) e0))

end Cert.Proof.KernelFinal

end
-- ==== Proof.RefValues.lean ====
/-
  What each array the reference computes on the way holds at an index, over any arrays before it: one lemma per array.
-/
module

public import proofs.«01_k».proof.Proof.Gen.ReferenceIdeal.Frame
public import proofs.«01_k».proof.Proof.Spec
public import proofs.«01_k».proof.Proof.PayHead
public import Idealize.ShloMosaic.Lib.Pointwise

@[expose] public section

set_option maxRecDepth 16384

noncomputable section

namespace Cert.Proof.RefValues

open Cert.ReferenceIdeal Cert.ReferenceIdeal.Gen
open Idealize.ShloMosaic Idealize.ShloMosaic.TcCoe
open Cert.Proof.Scalar Cert.Proof.Spec

theorem named_log2e : (Named.named κ "log2e" 0x3FB8AA3B#32 : Ideal .f32) = log2e :=
  IdealRules.named_const.ideal_named_scalar _ _ _ _ rfl

/-- The exponents of an array of maxima, as the reference computes them. -/
def exps (s : Shape) (q : FVec Ideal s .f32) : FVec Ideal s .f32 :=
  select (cmpf .oeq q (broadcast s (Scalar.ofBits .f32 0x00000000#32))) (broadcast s (Scalar.ofBits .f32 0x00000000#32))
    (addf (floor (mulf (log (mulf q (broadcast s (Scalar.ofBits .f32 0x3B124925#32)))) (broadcast s (Named.named κ "log2e" 0x3FB8AA3B#32))))
      (broadcast s (Scalar.ofBits .f32 0x3F800000#32)))

theorem exps_apply (s : Shape) (q : FVec Ideal s .f32) (j : s.Idx) : exps s q j = rexp (q j) := by
  unfold exps
  pointwise
  rw [named_log2e]
  unfold rexp lg c448
  rfl

theorem sup_q (f : FVec Ideal S16x4096x5x3x64 .f32) (b : Fin 16) (s : Fin 4096) (g : Fin 5) (r : Fin 3) :
   multiReduction .maximumf [4] S16x4096x5x3 f 0xFF800000#32 reduces_S16x4096x5x3x64_S16x4096x5x3 (.inl rfl) rfl (ix4 b s g r)
     = Finset.univ.sup fun d : Fin 64 => f (ix5 b s g r d) := by
  refine (multiReduction_maximumf_eq_fold _ _ _ _ _ _).trans ?_
  refine (Shape.Reduces.fold_fiber_r5_a4 _ _ _ _ _).trans (PayHead.fold_max _ _)

variable (v0 : Vec Ideal S16x4096x960 .bf16)
theorem pay3_apply (b : Fin 16) (s : Fin 4096) (g : Fin 5) (r : Fin 3) (d : Fin 64) :
    k0_pay3 v0 (ix5 b s g r d) = v0 (ix3 b s ⟨g.val * 192 + r.val * 64 + d.val, by omega⟩) := by
  unfold k0_pay3
  pointwise

theorem pay4_apply (b : Fin 16) (s : Fin 4096) (g : Fin 5) (r : Fin 3) :
    k0_pay4 v0 (ix4 b s g r) = rexp (amax fun d => k0_pay3 v0 (ix5 b s g r d)) :=
  (exps_apply S16x4096x5x3 _ (ix4 b s g r)).trans (congrArg rexp (sup_q (absf (k0_pay3 v0)) b s g r))

theorem codes_q (x : FVec Ideal S16x4096x5x3x64 .f32) (e : FVec Ideal S16x4096x5x3 .f32) (b : Fin 16) (s : Fin 4096) (g : Fin 5) (r : Fin 3) (d : Fin 64) :
    truncf .fp8e4m3 (minimumf (broadcast S16x4096x5x3x64 (Scalar.ofBits .f32 0x43E00000#32)) (maximumf (broadcast S16x4096x5x3x64 (Scalar.ofBits .f32 0xC3E00000#32))
        (mulf x (broadcastTo S16x4096x5x3x64 (shapeCast S16x4096x5x3x1 (exp2 (subf (broadcast S16x4096x5x3 (Scalar.ofBits (F := Ideal) .f32 0x00000000#32)) e))
          shapeCasts_S16x4096x5x3_S16x4096x5x3x1) broadcasts_S16x4096x5x3x1_S16x4096x5x3x64)))) bitsLt_fp8e4m3_f32 (ix5 b s g r d)
      = clip (x (ix5 b s g r d) * Ideal.exp2 (0 - e (ix4 b s g r))) := by
  pointwise
  rfl

theorem pay6_apply (b : Fin 16) (s : Fin 4096) (g : Fin 5) (r : Fin 3) (d : Fin 64) :
    k0_pay6 v0 (ix5 b s g r d) = clip (k0_pay3 v0 (ix5 b s g r d) * Ideal.exp2 (0 - k0_pay4 v0 (ix4 b s g r))) :=
  codes_q (k0_pay3 v0) (k0_pay4 v0) b s g r d

variable (v29 : Vec Ideal S16x4096x320 .bf16)
theorem pay7_apply (b : Fin 16) (s : Fin 4096) (g : Fin 5) (d : Fin 64) :
    k0_pay7 v29 (ix4 b s g d) = v29 (ix3 b s ⟨g.val * 64 + d.val, by omega⟩) := by
  unfold k0_pay7
  pointwise

theorem sup_k (f : FVec Ideal S16x4096x5x64 .f32) (b : Fin 16) (s : Fin 4096) (g : Fin 5) :
   multiReduction .maximumf [3] S16x4096x5 f 0xFF800000#32 reduces_S16x4096x5x64_S16x4096x5 (.inl rfl) rfl (ix3 b s g)
     = Finset.univ.sup fun d : Fin 64 => f (ix4 b s g d) := by
  refine (multiReduction_maximumf_eq_fold _ _ _ _ _ _).trans ?_
  exact (Shape.Reduces.fold_fiber_r4_a3 _ _ _ _ _).trans (PayHead.fold_max _ _)

theorem fiber_r4_a13 {n0 n1 n2 n3 : Nat} {t : Shape} (h : (⟨4, ![n0, n1, n2, n3]⟩ : Shape).Reduces [1, 3] t) (p : Fin n0) (q : Fin n2) (j : t.Idx)
    (h0 : ∀ h0, (j ⟨0, h0⟩).val = p.val) (h1 : ∀ h1, (j ⟨1, h1⟩).val = q.val) (i : (⟨4, ![n0, n1, n2, n3]⟩ : Shape).Idx) :
    h.drop i = j ↔ ∃ k : Fin n1 × Fin n3, ix4 p k.1 q k.2 = i := by
  have hr : t.rank = 2 := h.1
  constructor
  · intro e
    refine ⟨(i 1, i 3), ?_⟩
    funext a; apply Fin.ext
    match a with
    | ⟨0, _⟩ => exact ((congrArg Fin.val (congrFun e ⟨0, by omega⟩)).trans (h0 _)).symm
    | ⟨1, _⟩ => rfl
    | ⟨2, _⟩ => exact ((congrArg Fin.val (congrFun e ⟨1, by omega⟩)).trans (h1 _)).symm
    | ⟨3, _⟩ => rfl
  · rintro ⟨k, rfl⟩
    funext b
    apply Fin.ext
    match b with
    | ⟨0, _⟩ => exact (h0 _).symm
    | ⟨1, _⟩ => exact (h1 _).symm
    | ⟨_ + 2, hb⟩ => exact absurd hb (by omega)

theorem sup_v (f : FVec Ideal S16x4096x5x64 .f32) (b : Fin 16) (g : Fin 5) :
   multiReduction .maximumf [1, 3] S16x5 f 0xFF800000#32 reduces_S16x4096x5x64_S16x5 (.inl rfl) rfl (ix2 b g)
     = Finset.univ.sup fun p : Fin 4096 × Fin 64 => f (ix4 b p.1 g p.2) := by
  refine (multiReduction_maximumf_eq_fold _ _ _ _ _ _).trans ?_
  refine (Finset.fold_filter_eq_fold_of_fiber _ _ (fun p : Fin 4096 × Fin 64 => ix4 b p.1 g p.2) ?_
    (fiber_r4_a13 _ b g _ (fun _ => rfl) (fun _ => rfl)) _ _).trans (PayHead.fold_max _ _)
  intro p q e
  exact Prod.ext (congrFun e 1) (congrFun e 3)

theorem pay8_apply (b : Fin 16) (s : Fin 4096) (g : Fin 5) :
    k0_pay8 v29 (ix3 b s g) = amax fun d => k0_pay7 v29 (ix4 b s g d) := sup_k (absf (k0_pay7 v29)) b s g

theorem pay11_apply (b : Fin 16) (s : Fin 4096) (g : Fin 5) :
    k0_pay11 (k0_pay8 v29) (k0_pay9 v29) k0_pay10 (ix3 b s g) = rexp (amax fun d => k0_pay7 v29 (ix4 b s g d)) :=
  (exps_apply S16x4096x5 (k0_pay8 v29) (ix3 b s g)).trans (congrArg rexp (pay8_apply v29 b s g))

theorem pay13_apply (v31 : FVec Ideal S16x4096x5x64 .f32) (v33 v39 v40 : FVec Ideal S16x4096x5 .f32) (b : Fin 16) (s : Fin 4096) (g : Fin 5) (d : Fin 64) :
    k0_pay13 v31 v33 v39 v40 (ix4 b s g d) = clip (v31 (ix4 b s g d) * Ideal.exp2 (0 - k0_pay11 v33 v39 v40 (ix3 b s g))) := by
  unfold k0_pay13
  pointwise
  rfl

theorem pay14_apply (b : Fin 16) (s : Fin 4096) (g : Fin 5) (d : Fin 64) :
    k0_pay14 v29 (ix4 b s g d) = v29 (ix3 b s ⟨g.val * 64 + d.val, by omega⟩) := by
  unfold k0_pay14
  pointwise

theorem pay15_apply (b : Fin 16) (g : Fin 5) :
    k0_pay15 v29 (ix2 b g) = rexp (vmax fun d n => k0_pay14 v29 (ix4 b n g d)) :=
  (exps_apply S16x5 _ (ix2 b g)).trans (congrArg rexp ((sup_v (absf (k0_pay14 v29)) b g).trans (Finset.sup_product_left ..)))

theorem codes_v (x : FVec Ideal S16x4096x5x64 .f32) (e : FVec Ideal S16x5 .f32) (b : Fin 16) (s : Fin 4096) (g : Fin 5) (d : Fin 64) :
    maximumf (broadcast S16x4096x5x64 (Scalar.ofBits .f32 0xC3E00000#32))
        (mulf x (broadcastTo S16x4096x5x64 (shapeCast S16x1x5x1 (exp2 (subf (broadcast S16x5 (Scalar.ofBits (F := Ideal) .f32 0x00000000#32)) e))
          shapeCasts_S16x5_S16x1x5x1) broadcasts_S16x1x5x1_S16x4096x5x64)) (ix4 b s g d)
      = max (Ideal.ofBits .f32 0xC3E00000#32) (x (ix4 b s g d) * Ideal.exp2 (0 - e (ix2 b g))) := by
  pointwise
  rfl

theorem pay17_apply (b : Fin 16) (s : Fin 4096) (g : Fin 5) (d : Fin 64) :
    k0_pay17 v29 (ix4 b s g d) = max (Ideal.ofBits .f32 0xC3E00000#32) (k0_pay14 v29 (ix4 b s g d) * Ideal.exp2 (0 - k0_pay15 v29 (ix2 b g))) :=
  codes_v (k0_pay14 v29) (k0_pay15 v29) b s g d

theorem pay18_apply (c : EReal) (v83 : FVec Ideal S16x4096x5x64 .f32) (b : Fin 16) (s : Fin 4096) (g : Fin 5) (d : Fin 64) :
    k0_pay18 c v83 (ix4 b s g d) = min c (v83 (ix4 b s g d)) := by
  unfold k0_pay18
  pointwise

theorem pay19_apply (v87 : Vec Ideal S15 .f32) (g : Fin 5) (r : Fin 3) :
    k0_pay19 v87 (ix4 0 g 0 r) = v87 (ix1 ⟨g.val * 3 + r.val, by omega⟩) := by
  unfold k0_pay19
  pointwise

theorem pay20_apply (v75 : FVec Ideal S16x5 .f32) (b : Fin 16) (g : Fin 5) :
    k0_pay20 v75 (ix5 b g 0 0 0) = v75 (ix2 b g) * Ideal.ofBits .f32 0x3B800000#32 := by
  unfold k0_pay20
  pointwise

variable (v17 : FVec Ideal S16x4096x5x3 .f32) (v28 : FVec Ideal S16x4096x5x3x64 .fp8e4m3) (v46 : FVec Ideal S16x4096x5 .f32) (v57 : FVec Ideal S16x4096x5x64 .fp8e4m3) (v87 : Vec Ideal S15 .f32)

theorem sle_iff (n s : Fin 4096) : IntOp.cmpi .sle (BitVec.ofNat 32 n.val) (BitVec.ofNat 32 s.val) = BitVec.ofBool (decide (n.val ≤ s.val)) := by
  have e : ∀ n : ℕ, n < 4096 → (BitVec.ofNat 32 n).toInt = n := fun n h => by
    rw [BitVec.toInt_eq_toNat_of_lt] <;> rw [BitVec.toNat_ofNat, Nat.mod_eq_of_lt (by omega)]
    omega
  have : (BitVec.ofNat 32 n.val).sle (BitVec.ofNat 32 s.val) = decide (n.val ≤ s.val) := by
    rw [BitVec.sle_eq_decide, e _ n.isLt, e _ s.isLt]
    exact decide_eq_decide.mpr Nat.cast_le
  show BitVec.ofBool _ = _
  rw [← this]

theorem pay21_apply (b : Fin 16) (g : Fin 5) (s : Fin 4096) (r : Fin 3) (n : Fin 4096) :
    k0_pay21 v17 v28 v46 v57 (ix5 b g s r n) = if n.val ≤ s.val then
      (∑ d : Fin 64, v28 (ix5 b s g r d) * v57 (ix4 b n g d)) * v17 (ix4 b s g r) * (v46 (ix3 b n g) * Ideal.ofBits .f32 0x3E000000#32) else ⊥ := by
  unfold k0_pay21
  pointwise
  rw [sle_iff, PayHead.neg_inf]
  by_cases hn : n.val ≤ s.val
  · rw [decide_eq_true hn, if_pos hn]; rfl
  · rw [decide_eq_false hn, if_neg hn]; rfl

theorem sup_s (f : FVec Ideal S16x5x4096x3x4096 .f32) (b : Fin 16) (g : Fin 5) (s : Fin 4096) (r : Fin 3) :
   multiReduction .maximumf [4] S16x5x4096x3 f 0xFF800000#32 reduces_S16x5x4096x3x4096_S16x5x4096x3 (.inl rfl) rfl (ix4 b g s r)
     = Finset.univ.sup fun n : Fin 4096 => f (ix5 b g s r n) := by
  refine (multiReduction_maximumf_eq_fold _ _ _ _ _ _).trans ?_
  exact (Shape.Reduces.fold_fiber_r5_a4 _ _ _ _ _).trans (PayHead.fold_max _ _)

theorem sum_s (f : FVec Ideal S16x5x4096x3x4096 .f32) (b : Fin 16) (g : Fin 5) (s : Fin 4096) (r : Fin 3) :
   multiReduction .add [4] S16x5x4096x3 f 0x00000000#32 reduces_S16x5x4096x3x4096_S16x5x4096x3 (.inl rfl) rfl (ix4 b g s r)
     = ∑ n : Fin 4096, f (ix5 b g s r n) :=
  (multiReduction_add_apply _ _ _ _ _ _).trans (Ideal.reduceAdd_r5_a4 _ _ _)

theorem max_row (q : FVec Ideal S16x5x4096x3 .f32) (w : FVec Ideal S1x5x1x3 .f32) (b : Fin 16) (g : Fin 5) (s : Fin 4096) (r : Fin 3) :
    maximumf q (broadcastTo S16x5x4096x3 w broadcasts_S1x5x1x3_S16x5x4096x3) (ix4 b g s r)
      = max (q (ix4 b g s r)) (w (ix4 0 g 0 r)) := by
  pointwise

theorem pay22_apply (b : Fin 16) (g : Fin 5) (s : Fin 4096) (r : Fin 3) :
    k0_pay22 v17 v28 v46 v57 v87 (ix4 b g s r)
      = max (Finset.univ.sup fun n => k0_pay21 v17 v28 v46 v57 (ix5 b g s r n)) (k0_pay19 v87 (ix4 0 g 0 r)) :=
  (max_row _ (k0_pay19 v87) b g s r).trans (congrArg (fun z => max z (k0_pay19 v87 (ix4 0 g 0 r))) (sup_s (k0_pay21 v17 v28 v46 v57) b g s r))

theorem exp_row (sc : FVec Ideal S16x5x4096x3x4096 .f32) (mx : FVec Ideal S16x5x4096x3 .f32) (b : Fin 16) (g : Fin 5) (s : Fin 4096) (r : Fin 3) (n : Fin 4096) :
    exp (subf sc (broadcastTo S16x5x4096x3x4096 (shapeCast S16x5x4096x3x1 mx shapeCasts_S16x5x4096x3_S16x5x4096x3x1) broadcasts_S16x5x4096x3x1_S16x5x4096x3x4096)) (ix5 b g s r n)
      = Ideal.exp (sc (ix5 b g s r n) - mx (ix4 b g s r)) := by
  pointwise

theorem pay23_apply (b : Fin 16) (g : Fin 5) (s : Fin 4096) (r : Fin 3) (n : Fin 4096) :
    k0_pay23 v17 v28 v46 v57 v87 (ix5 b g s r n)
      = Ideal.exp (k0_pay21 v17 v28 v46 v57 (ix5 b g s r n) - k0_pay22 v17 v28 v46 v57 v87 (ix4 b g s r)) :=
  exp_row (k0_pay21 v17 v28 v46 v57) (k0_pay22 v17 v28 v46 v57 v87) b g s r n

theorem add_row (q m : FVec Ideal S16x5x4096x3 .f32) (w : FVec Ideal S1x5x1x3 .f32) (b : Fin 16) (g : Fin 5) (s : Fin 4096) (r : Fin 3) :
    addf q (exp (subf (broadcastTo S16x5x4096x3 w broadcasts_S1x5x1x3_S16x5x4096x3) m)) (ix4 b g s r)
      = q (ix4 b g s r) + Ideal.exp (w (ix4 0 g 0 r) - m (ix4 b g s r)) := by
  pointwise

theorem pay24_apply (b : Fin 16) (g : Fin 5) (s : Fin 4096) (r : Fin 3) :
    k0_pay24 v17 v28 v46 v57 v87 (ix4 b g s r)
      = (∑ n, k0_pay23 v17 v28 v46 v57 v87 (ix5 b g s r n)) + Ideal.exp (k0_pay19 v87 (ix4 0 g 0 r) - k0_pay22 v17 v28 v46 v57 v87 (ix4 b g s r)) :=
  (add_row _ (k0_pay22 v17 v28 v46 v57 v87) (k0_pay19 v87) b g s r).trans
    (congrArg (fun z => z + Ideal.exp (k0_pay19 v87 (ix4 0 g 0 r) - k0_pay22 v17 v28 v46 v57 v87 (ix4 b g s r))) (sum_s (k0_pay23 v17 v28 v46 v57 v87) b g s r))

theorem dot_row (p : FVec Ideal S16x5x4096x3x4096 .f32) (v : FVec Ideal S16x4096x5x64 .fp8e4m3) (b : Fin 16) (g : Fin 5) (s : Fin 4096) (r : Fin 3) (d : Fin 64) :
    matmul dot_S16x5x4096x3x4096_S16x4096x5x64_S16x5x4096x3x64_4_1_23_3_01_02 none
      (truncf .fp8e4m3 (minimumf (broadcast S16x5x4096x3x4096 (Scalar.ofBits .f32 0x43E00000#32)) (maximumf (broadcast S16x5x4096x3x4096 (Scalar.ofBits .f32 0xC3E00000#32))
        (mulf p (broadcast S16x5x4096x3x4096 (Scalar.ofBits .f32 0x43800000#32))))) bitsLt_fp8e4m3_f32) v (constant (F := Ideal) S16x5x4096x3x64 .f32 0x00000000#32) (ix5 b g s r d)
      = ∑ n, clip (p (ix5 b g s r n) * Ideal.ofBits .f32 0x43800000#32) * v (ix4 b n g d) := by
  pointwise
  rfl

theorem pay25_apply (c : EReal) (v83 : FVec Ideal S16x4096x5x64 .f32) (b : Fin 16) (g : Fin 5) (s : Fin 4096) (r : Fin 3) (d : Fin 64) :
    k0_pay25 v17 v28 v46 v57 c v83 v87 (ix5 b g s r d)
      = ∑ n, clip (k0_pay23 v17 v28 v46 v57 v87 (ix5 b g s r n) * Ideal.ofBits .f32 0x43800000#32) * k0_pay18 c v83 (ix4 b n g d) :=
  dot_row (k0_pay23 v17 v28 v46 v57 v87) (k0_pay18 c v83) b g s r d

theorem pay26_apply (v95 : FVec Ideal S16x5x1x1x1 .f32) (v123 : FVec Ideal S16x5x4096x3 .f32) (v131 : FVec Ideal S16x5x4096x3x64 .f32) (c : EReal)
    (b : Fin 16) (g : Fin 5) (r : Fin 3) (d : Fin 64) (s : Fin 4096) :
    k0_pay26 v95 v123 v131 c (ix3 b ⟨g.val * 192 + r.val * 64 + d.val, by omega⟩ s)
      = Ideal.div (v131 (ix5 b g s r d) * (Ideal.div (v95 (ix5 b g 0 0 0)) c * Ideal.ofBits .f32 0x3B800000#32)) (v123 (ix4 b g s r)) := by
  unfold k0_pay26
  pointwise

theorem count_word : ∀ s : Fin 4096, (IntOp.addi (BitVec.ofNat 32 s.val) 1#32).toInt = ((s.val + 1 : ℕ) : ℤ) := by decide +kernel

theorem pay27_apply (v114 v123 : FVec Ideal S16x5x4096x3 .f32) (b : Fin 16) (g : Fin 5) (r : Fin 3) (s : Fin 4096) :
    k0_pay27 v114 v123 (ix3 b ⟨g.val * 3 + r.val, by omega⟩ s)
      = v114 (ix4 b g s r) + Ideal.log (v123 (ix4 b g s r)) - Ideal.log (((s.val + 1 : ℕ) : ℝ) : EReal) := by
  unfold k0_pay27
  pointwise
  have : (FloatOps.sitofp (F := Ideal) .f32 (IntOp.addi (BitVec.ofNat 32 s.val) 1#32)) = (((s.val + 1 : ℕ) : ℝ) : EReal) := by
    show (((IntOp.addi (BitVec.ofNat 32 s.val) 1#32).toInt : ℝ) : EReal) = _
    rw [count_word s]
    norm_cast
  rw [this]

theorem pay28_apply (b : Fin 16) (g : Fin 5) (r : Fin 3) (d : Fin 64) (s : Fin 4096) :
    k0_pay28 v28 (ix3 b ⟨g.val * 192 + r.val * 64 + d.val, by omega⟩ s) = v28 (ix5 b s g r d) := by
  unfold k0_pay28
  pointwise

theorem pay29_apply (b : Fin 16) (g : Fin 5) (r : Fin 3) (s : Fin 4096) :
    k0_pay29 v17 (ix3 b ⟨g.val * 3 + r.val, by omega⟩ s) = v17 (ix4 b s g r) := by
  unfold k0_pay29
  pointwise

theorem pay30_apply (b : Fin 16) (g : Fin 5) (d : Fin 64) (s : Fin 4096) :
    k0_pay30 v57 (ix3 b ⟨g.val * 64 + d.val, by omega⟩ s) = v57 (ix4 b s g d) := by
  unfold k0_pay30
  pointwise

theorem pay31_apply (b : Fin 16) (g : Fin 5) (s : Fin 4096) :
    k0_pay31 v46 (ix3 b g s) = v46 (ix3 b s g) := by
  unfold k0_pay31
  pointwise

theorem pay1_apply (v86 : FVec Ideal S16x4096x5x64 .fp8e4m3) (b : Fin 16) (g : Fin 5) (d : Fin 64) (s : Fin 4096) :
    k0_pay1 v86 (ix3 b ⟨g.val * 64 + d.val, by omega⟩ s) = v86 (ix4 b s g d) := by
  unfold k0_pay1
  pointwise

theorem pay2_apply (v75 : FVec Ideal S16x5 .f32) (b : Fin 16) (g : Fin 5) (l : Fin 128) :
    k0_pay2 v75 (ix3 b g l) = v75 (ix2 b g) := by
  unfold k0_pay2
  pointwise

end Cert.Proof.RefValues
end
-- ==== Proof.RefRows.lean ====
/-
  The reference's results at an index, as the formulas of its rows.
-/
module

public import proofs.«01_k».proof.Proof.RefValues
public import proofs.«01_k».proof.Proof.Rows

@[expose] public section

set_option maxRecDepth 16384

noncomputable section

namespace Cert.Proof.RefRows

open Cert.ReferenceIdeal Cert.ReferenceIdeal.Gen
open Idealize.ShloMosaic Idealize.ShloMosaic.TcCoe
open Cert.Proof.Scalar Cert.Proof.Spec Cert.Proof.Algebra Cert.Proof.KVLoop Cert.Proof.HeadRuns Cert.Proof.RefValues Cert.Proof.Rows

/-! ## A row, over any arrays that hold its parts -/

section row

variable {v17 : FVec Ideal S16x4096x5x3 .f32} {v28 : FVec Ideal S16x4096x5x3x64 .fp8e4m3} {v46 : FVec Ideal S16x4096x5 .f32}
  {v57 : FVec Ideal S16x4096x5x64 .fp8e4m3} {v87 : Vec Ideal S15 .f32} {b : Fin 16} {g : Fin 5} {s : Fin 4096} {r : Fin 3}
  {qc : Fin 64 → EReal} {qs : EReal} {kt : Fin 4096 → Fin 64 → EReal} {kb : Fin 4096 → EReal} {sink : EReal}
  (h17 : v17 (ix4 b s g r) = qs) (h28 : ∀ d, v28 (ix5 b s g r d) = qc d) (h46 : ∀ n, v46 (ix3 b n g) * Ideal.ofBits .f32 0x3E000000#32 = kb n)
  (h57 : ∀ n d, v57 (ix4 b n g d) = kt n d) (h87 : k0_pay19 v87 (ix4 0 g 0 r) = sink)

include h17 h28 h46 h57

/-- The score of a key. -/
theorem score_row (n : Fin 4096) : k0_pay21 v17 v28 v46 v57 (ix5 b g s r n) = rscore s.val qc qs kt kb n := by
  rw [pay21_apply, h17, h46, Finset.sum_congr rfl fun d _ => congrArg₂ (· * ·) (h28 d) (h57 n d)]
  rfl

include h87

/-- The row's maximum. -/
theorem max_row : k0_pay22 v17 v28 v46 v57 v87 (ix4 b g s r) = rmax s.val qc qs kt kb sink := by
  rw [pay22_apply, h87, Finset.sup_congr rfl fun n _ => score_row h17 h28 h46 h57 n]
  rfl

/-- The weight of a key. -/
theorem prob_row (n : Fin 4096) : k0_pay23 v17 v28 v46 v57 v87 (ix5 b g s r n) = rprob s.val qc qs kt kb sink n := by
  rw [pay23_apply, max_row h17 h28 h46 h57 h87, score_row h17 h28 h46 h57]
  rfl

/-- The row's sum of weights. -/
theorem sum_row : k0_pay24 v17 v28 v46 v57 v87 (ix4 b g s r) = rsum s.val qc qs kt kb sink := by
  rw [pay24_apply, max_row h17 h28 h46 h57 h87, h87, Finset.sum_congr rfl fun n _ => prob_row h17 h28 h46 h57 h87 n]
  rfl

/-- The row's weighted sum of values, before its scale. -/
theorem dot_row {c : EReal} {v83 : FVec Ideal S16x4096x5x64 .f32} {vc : Fin 64 → Fin 4096 → EReal} (hv : ∀ n d, k0_pay18 c v83 (ix4 b n g d) = vc d n) (d : Fin 64) :
    k0_pay25 v17 v28 v46 v57 c v83 v87 (ix5 b g s r d)
      = ∑ n, clip (rprob s.val qc qs kt kb sink n * Ideal.ofBits .f32 0x43800000#32) * vc d n := by
  rw [pay25_apply, Finset.sum_congr rfl fun n _ => congrArg₂ (· * ·) (congrArg (fun z => clip (z * Ideal.ofBits .f32 0x43800000#32)) (prob_row h17 h28 h46 h57 h87 n)) (hv n d)]

/-- The row's result. -/
theorem out_row {v75 : FVec Ideal S16x5 .f32} {c : EReal} {v83 : FVec Ideal S16x4096x5x64 .f32} {vc : Fin 64 → Fin 4096 → EReal} {vs : EReal}
    (hv : ∀ n d, k0_pay18 c v83 (ix4 b n g d) = vc d n) (hs : v75 (ix2 b g) = vs) (d : Fin 64) :
    k0_pay26 (k0_pay20 v75) (k0_pay24 v17 v28 v46 v57 v87) (k0_pay25 v17 v28 v46 v57 c v83 v87) (Ideal.ofBits .f32 0x3B800000#32)
        (ix3 b ⟨g.val * 192 + r.val * 64 + d.val, by omega⟩ s)
      = rout s.val qc qs kt kb vc vs sink d := by
  rw [pay26_apply, pay20_apply, hs, sum_row h17 h28 h46 h57 h87, dot_row h17 h28 h46 h57 h87 hv]
  rfl

/-- The row's log-sum-exp. -/
theorem lse_row :
    k0_pay27 (k0_pay22 v17 v28 v46 v57 v87) (k0_pay24 v17 v28 v46 v57 v87) (ix3 b ⟨g.val * 3 + r.val, by omega⟩ s)
      = rlse s.val qc qs kt kb sink := by
  rw [pay27_apply, sum_row h17 h28 h46 h57 h87, max_row h17 h28 h46 h57 h87]
  rfl

end row

/-! ## The parts, of the arguments -/

section parts

variable (X : Vec Ideal S16x4096x960 .bf16) (K V : Vec Ideal S16x4096x320 .bf16) (S : Vec Ideal S15 .f32)

/-- Two to each element of an array, at an index. -/
theorem exp2_at (s : Shape) (x : FVec Ideal s .f32) (i : s.Idx) {e : EReal} (h : x i = e) : exp2 x i = Ideal.exp2 e := congrArg Ideal.exp2 h

/-- The head of the `r`th of the three that share group `g`. -/
def hd (g : Fin 5) (r : Fin 3) : Fin 15 := ⟨g.val * 3 + r.val, by omega⟩

theorem query_part (b : Fin 16) (s : Fin 4096) (g : Fin 5) (r : Fin 3) (d : Fin 64) :
    k0_pay3 X (ix5 b s g r d) = xrow X b s (hd g r) d :=
  (pay3_apply X b s g r d).trans (congrArg (fun z => X (ix3 b s z)) (Fin.ext (by show g.val * 192 + r.val * 64 + d.val = 64 * (g.val * 3 + r.val) + d.val; omega)))

theorem key_part (b : Fin 16) (n : Fin 4096) (g : Fin 5) (d : Fin 64) : k0_pay7 K (ix4 b n g d) = krow K b g n d :=
  (pay7_apply K b n g d).trans (congrArg (fun z => K (ix3 b n z)) (Fin.ext (by show g.val * 64 + d.val = 64 * g.val + d.val; omega)))

theorem val_part (b : Fin 16) (n : Fin 4096) (g : Fin 5) (d : Fin 64) : k0_pay14 V (ix4 b n g d) = vcol V b g d n :=
  (pay14_apply V b n g d).trans (congrArg (fun z => V (ix3 b n z)) (Fin.ext (by show g.val * 64 + d.val = 64 * g.val + d.val; omega)))

theorem query_exp (b : Fin 16) (s : Fin 4096) (g : Fin 5) (r : Fin 3) : k0_pay4 X (ix4 b s g r) = rexp (amax (xrow X b s (hd g r))) :=
  (pay4_apply X b s g r).trans (congrArg (fun z => rexp (amax z)) (funext fun d => query_part X b s g r d))

theorem key_exp (b : Fin 16) (n : Fin 4096) (g : Fin 5) : k0_pay11 (k0_pay8 K) (k0_pay9 K) k0_pay10 (ix3 b n g) = rexp (amax (krow K b g n)) :=
  (pay11_apply K b n g).trans (congrArg (fun z => rexp (amax z)) (funext fun d => key_part K b n g d))

theorem val_exp (b : Fin 16) (g : Fin 5) : k0_pay15 V (ix2 b g) = rexp (vmax (vcol V b g)) :=
  (pay15_apply V b g).trans (congrArg (fun z => rexp (vmax z)) (funext fun d => funext fun n => val_part V b n g d))

theorem query_scale (b : Fin 16) (s : Fin 4096) (g : Fin 5) (r : Fin 3) : k0_pay5 X (ix4 b s g r) = rscale (amax (xrow X b s (hd g r))) :=
  exp2_at S16x4096x5x3 (k0_pay4 X) (ix4 b s g r) (query_exp X b s g r)

theorem key_scale (b : Fin 16) (n : Fin 4096) (g : Fin 5) : k0_pay12 (k0_pay8 K) (k0_pay9 K) k0_pay10 (ix3 b n g) = rscale (amax (krow K b g n)) :=
  exp2_at S16x4096x5 (k0_pay11 (k0_pay8 K) (k0_pay9 K) k0_pay10) (ix3 b n g) (key_exp K b n g)

theorem val_scale (b : Fin 16) (g : Fin 5) : k0_pay16 V (ix2 b g) = rscale (vmax (vcol V b g)) :=
  exp2_at S16x5 (k0_pay15 V) (ix2 b g) (val_exp V b g)

theorem query_code (b : Fin 16) (s : Fin 4096) (g : Fin 5) (r : Fin 3) (d : Fin 64) :
    k0_pay6 X (ix5 b s g r d) = rq (xrow X b s (hd g r)) d :=
  (pay6_apply X b s g r d).trans (congrArg₂ (fun y e => clip (y * Ideal.exp2 (0 - e))) (query_part X b s g r d) (query_exp X b s g r))

theorem key_code (b : Fin 16) (n : Fin 4096) (g : Fin 5) (d : Fin 64) :
    k0_pay13 (k0_pay7 K) (k0_pay8 K) (k0_pay9 K) k0_pay10 (ix4 b n g d) = rcode (amax (krow K b g n)) (krow K b g n d) :=
  (pay13_apply (k0_pay7 K) (k0_pay8 K) (k0_pay9 K) k0_pay10 b n g d).trans
    (congrArg₂ (fun y e => clip (y * Ideal.exp2 (0 - e))) (key_part K b n g d) (key_exp K b n g))

theorem val_code (b : Fin 16) (n : Fin 4096) (g : Fin 5) (d : Fin 64) :
    k0_pay18 (Ideal.ofBits .f32 0x43E00000#32) (k0_pay17 V) (ix4 b n g d) = rcode (vmax (vcol V b g)) (vcol V b g d n) :=
  (pay18_apply (Ideal.ofBits .f32 0x43E00000#32) (k0_pay17 V) b n g d).trans (congrArg (min (Ideal.ofBits .f32 0x43E00000#32))
    ((pay17_apply V b n g d).trans (congrArg₂ (fun y e => max (Ideal.ofBits .f32 0xC3E00000#32) (y * Ideal.exp2 (0 - e))) (val_part V b n g d) (val_exp V b g))))

theorem sink_part (g : Fin 5) (r : Fin 3) : k0_pay19 S (ix4 0 g 0 r) = S (ix1 (hd g r)) := pay19_apply S g r

end parts

/-! ## The results -/

section results

variable (X : Vec Ideal S16x4096x960 .bf16) (K V : Vec Ideal S16x4096x320 .bf16) (S : Vec Ideal S15 .f32)

theorem kv_hd (g : Fin 5) (r : Fin 3) : kvOf (hd g r) = g := Fin.ext (by show (g.val * 3 + r.val) / 3 = g.val; omega)

/-- A head is one of the three of its group. -/
theorem hd_split (h : Fin 15) : ∃ g r, h = hd g r :=
  ⟨⟨h.val / 3, by omega⟩, ⟨h.val % 3, by omega⟩, Fin.ext (by show h.val = h.val / 3 * 3 + h.val % 3; omega)⟩

theorem res4 (b : Fin 16) (h : Fin 15) (d : Fin 64) (s : Fin 4096) :
    k0_pay26 (k0_pay20 (k0_pay16 V)) (k0_pay24 (k0_pay5 X) (k0_pay6 X) (k0_pay12 (k0_pay8 K) (k0_pay9 K) k0_pay10) (k0_pay13 (k0_pay7 K) (k0_pay8 K) (k0_pay9 K) k0_pay10) S)
        (k0_pay25 (k0_pay5 X) (k0_pay6 X) (k0_pay12 (k0_pay8 K) (k0_pay9 K) k0_pay10) (k0_pay13 (k0_pay7 K) (k0_pay8 K) (k0_pay9 K) k0_pay10) (Ideal.ofBits .f32 0x43E00000#32) (k0_pay17 V) S)
        (Ideal.ofBits .f32 0x3B800000#32) (ix3 b (qrowOf h d) s)
      = rout s.val (rq (xrow X b s h)) (rscale (amax (xrow X b s h)))
        (fun n d => rcode (amax (krow K b (kvOf h) n)) (krow K b (kvOf h) n d)) (fun n => rscale (amax (krow K b (kvOf h) n)) * Ideal.ofBits .f32 0x3E000000#32)
        (fun d n => rcode (vmax (vcol V b (kvOf h))) (vcol V b (kvOf h) d n)) (rscale (vmax (vcol V b (kvOf h)))) (S (ix1 h)) d := by
  obtain ⟨g, r, rfl⟩ := hd_split h
  rw [kv_hd, show qrowOf (hd g r) d = ⟨g.val * 192 + r.val * 64 + d.val, by omega⟩ from Fin.ext (by show 64 * (g.val * 3 + r.val) + d.val = g.val * 192 + r.val * 64 + d.val; omega)]
  exact out_row (query_scale X b s g r) (query_code X b s g r) (fun n => congrArg (· * Ideal.ofBits .f32 0x3E000000#32) (key_scale K b n g)) (fun n d => key_code K b n g d) (sink_part S g r)
    (fun n d => val_code V b n g d) (val_scale V b g) d

theorem res5 (b : Fin 16) (h : Fin 15) (s : Fin 4096) :
    k0_pay27 (k0_pay22 (k0_pay5 X) (k0_pay6 X) (k0_pay12 (k0_pay8 K) (k0_pay9 K) k0_pay10) (k0_pay13 (k0_pay7 K) (k0_pay8 K) (k0_pay9 K) k0_pay10) S)
        (k0_pay24 (k0_pay5 X) (k0_pay6 X) (k0_pay12 (k0_pay8 K) (k0_pay9 K) k0_pay10) (k0_pay13 (k0_pay7 K) (k0_pay8 K) (k0_pay9 K) k0_pay10) S) (ix3 b h s)
      = rE5 X K S b h s := by
  obtain ⟨g, r, rfl⟩ := hd_split h
  unfold rE5
  rw [kv_hd]
  exact lse_row (query_scale X b s g r) (query_code X b s g r) (fun n => congrArg (· * Ideal.ofBits .f32 0x3E000000#32) (key_scale K b n g)) (fun n d => key_code K b n g d) (sink_part S g r)

theorem res6 (b : Fin 16) (h : Fin 15) (d : Fin 64) (s : Fin 4096) :
    k0_pay28 (k0_pay6 X) (ix3 b (qrowOf h d) s) = rq (xrow X b s h) d := by
  obtain ⟨g, r, rfl⟩ := hd_split h
  rw [show qrowOf (hd g r) d = ⟨g.val * 192 + r.val * 64 + d.val, by omega⟩ from Fin.ext (by show 64 * (g.val * 3 + r.val) + d.val = g.val * 192 + r.val * 64 + d.val; omega)]
  exact (pay28_apply (k0_pay6 X) b g r d s).trans (query_code X b s g r d)

theorem res7 (b : Fin 16) (h : Fin 15) (s : Fin 4096) : k0_pay29 (k0_pay5 X) (ix3 b h s) = rE7 X b h s := by
  obtain ⟨g, r, rfl⟩ := hd_split h
  exact (pay29_apply (k0_pay5 X) b g r s).trans (query_scale X b s g r)

theorem row_form (g : Fin 5) (d : Fin 64) : row g d = ⟨g.val * 64 + d.val, by omega⟩ := Fin.ext (by show 64 * g.val + d.val = g.val * 64 + d.val; omega)

theorem res8 (b : Fin 16) (g : Fin 5) (d : Fin 64) (s : Fin 4096) :
    k0_pay30 (k0_pay13 (k0_pay7 K) (k0_pay8 K) (k0_pay9 K) k0_pay10) (ix3 b (row g d) s) = rcode (amax (krow K b g s)) (krow K b g s d) := by
  rw [row_form]
  exact (pay30_apply (k0_pay13 (k0_pay7 K) (k0_pay8 K) (k0_pay9 K) k0_pay10) b g d s).trans (key_code K b s g d)

theorem res9 (b : Fin 16) (g : Fin 5) (s : Fin 4096) :
    k0_pay31 (k0_pay12 (k0_pay8 K) (k0_pay9 K) k0_pay10) (ix3 b g s) = rE9 K b g s :=
  (pay31_apply (k0_pay12 (k0_pay8 K) (k0_pay9 K) k0_pay10) b g s).trans (key_scale K b s g)

theorem res10 (b : Fin 16) (g : Fin 5) (d : Fin 64) (s : Fin 4096) :
    k0_pay1 (k0_pay18 (Ideal.ofBits .f32 0x43E00000#32) (k0_pay17 V)) (ix3 b (row g d) s) = rcode (vmax (vcol V b g)) (vcol V b g d s) := by
  rw [row_form]
  exact (pay1_apply (k0_pay18 (Ideal.ofBits .f32 0x43E00000#32) (k0_pay17 V)) b g d s).trans (val_code V b s g d)

theorem res11 (b : Fin 16) (g : Fin 5) (l : Fin 128) : k0_pay2 (k0_pay16 V) (ix3 b g l) = rE11 V b g l :=
  (pay2_apply (k0_pay16 V) b g l).trans (val_scale V b g)

end results

end Cert.Proof.RefRows

end
-- ==== Proof.RefFinal.lean ====
/-
  The reference's eight result arrays after a run, as functions of its arguments.
-/
module

public import proofs.«01_k».proof.Proof.RefRows
public import Idealize.ShloMosaic.Lib.Pipeline.ValueKit

@[expose] public section

set_option maxRecDepth 16384

noncomputable section

namespace Cert.Proof.RefFinal

open Cert.ReferenceIdeal Cert.ReferenceIdeal.Gen
open Idealize.ShloMosaic Idealize.ShloMosaic.TcCoe Idealize.ShloMosaic.Tactic
open Idealize.ShloMosaic.Pipeline (Dat Cfg Window)
open Cert.Proof.Scalar Cert.Proof.Spec Cert.Proof.Algebra Cert.Proof.KVLoop Cert.Proof.HeadRuns Cert.Proof.Rows Cert.Proof.RefRows

variable (m : (ℓ : Loc nD τ sig) → Buf (Elt Ideal) ℓ)

/-- The queries a run begins with. -/
abbrev aX (c : Dev nD) : SX.Idx → EReal := m ((c.tc : Thread nD τ).loc main_arg0)
/-- The keys a run begins with. -/
abbrev aK (c : Dev nD) : SK.Idx → EReal := m ((c.tc : Thread nD τ).loc main_arg1)
/-- The values a run begins with. -/
abbrev aV (c : Dev nD) : SK.Idx → EReal := m ((c.tc : Thread nD τ).loc main_arg2)
/-- The sinks a run begins with. -/
abbrev aS (c : Dev nD) : SS.Idx → EReal := m ((c.tc : Thread nD τ).loc main_arg3)

/-! ## The blocks are the arrays -/

theorem index0 : ∀ t : Fin cfg0.N, win0_0.index t = ![0, 0, 0] := by decide +kernel
theorem index1 : ∀ t : Fin cfg0.N, win0_1.index t = ![0, 0, 0] := by decide +kernel
theorem index2 : ∀ t : Fin cfg0.N, win0_2.index t = ![0, 0, 0] := by decide +kernel
theorem index3 : ∀ t : Fin cfg0.N, win0_3.index t = ![0] := by decide +kernel
theorem index4 : ∀ t : Fin cfg0.N, win0_4.index t = ![0, 0, 0] := by decide +kernel
theorem index5 : ∀ t : Fin cfg0.N, win0_5.index t = ![0, 0, 0] := by decide +kernel
theorem index6 : ∀ t : Fin cfg0.N, win0_6.index t = ![0, 0, 0] := by decide +kernel
theorem index7 : ∀ t : Fin cfg0.N, win0_7.index t = ![0, 0, 0] := by decide +kernel
theorem index8 : ∀ t : Fin cfg0.N, win0_8.index t = ![0, 0, 0] := by decide +kernel
theorem index9 : ∀ t : Fin cfg0.N, win0_9.index t = ![0, 0, 0] := by decide +kernel
theorem index10 : ∀ t : Fin cfg0.N, win0_10.index t = ![0, 0, 0] := by decide +kernel
theorem index11 : ∀ t : Fin cfg0.N, win0_11.index t = ![0, 0, 0] := by decide +kernel

/-- The block of argument 0 is the argument. -/
theorem block0 (c : Dev nD) (t : Fin cfg0.N) : iblk m c 0 t = aX m c := by
  funext y
  blk_simp [iblk]
  rw [V_main_arg0]
  exact congrArg _ (by blk_ext [index0])

/-- The block of argument 1 is the argument. -/
theorem block1 (c : Dev nD) (t : Fin cfg0.N) : iblk m c 1 t = aK m c := by
  funext y
  blk_simp [iblk]
  rw [V_main_arg1]
  exact congrArg _ (by blk_ext [index1])

/-- The block of argument 2 is the argument. -/
theorem block2 (c : Dev nD) (t : Fin cfg0.N) : iblk m c 2 t = aV m c := by
  funext y
  blk_simp [iblk]
  rw [V_main_arg2]
  exact congrArg _ (by blk_ext [index2])

/-- The block of argument 3 is the argument. -/
theorem block3 (c : Dev nD) (t : Fin cfg0.N) : iblk m c 3 t = aS m c := by
  funext y
  blk_simp [iblk]
  rw [V_main_arg3]
  exact congrArg _ (by blk_ext [index3])

/-! ## What the body leaves -/

section left

variable (X : Vec Ideal S16x4096x960 .bf16) (K V : Vec Ideal S16x4096x320 .bf16) (S : Vec Ideal S15 .f32)

/-- What window 4 is left holding, element by element. -/
theorem left4 (y : S16x960x4096.Idx) : out0_4 X K V S y = rE4 X K V S (y 0) (y 1) (y 2) := by
  have h : out0_4 X K V S = k0_pay26 (k0_pay20 (k0_pay16 V)) (k0_pay24 (k0_pay5 X) (k0_pay6 X) (k0_pay12 (k0_pay8 K) (k0_pay9 K) k0_pay10) (k0_pay13 (k0_pay7 K) (k0_pay8 K) (k0_pay9 K) k0_pay10) S) (k0_pay25 (k0_pay5 X) (k0_pay6 X) (k0_pay12 (k0_pay8 K) (k0_pay9 K) k0_pay10) (k0_pay13 (k0_pay7 K) (k0_pay8 K) (k0_pay9 K) k0_pay10) (Ideal.ofBits .f32 0x43E00000#32) (k0_pay17 V) S) (Ideal.ofBits .f32 0x3B800000#32) := by
    unfold_out out0_4
    frame_out
    rfl
  rw [h]
  exact (congrArg (k0_pay26 (k0_pay20 (k0_pay16 V)) (k0_pay24 (k0_pay5 X) (k0_pay6 X) (k0_pay12 (k0_pay8 K) (k0_pay9 K) k0_pay10) (k0_pay13 (k0_pay7 K) (k0_pay8 K) (k0_pay9 K) k0_pay10) S) (k0_pay25 (k0_pay5 X) (k0_pay6 X) (k0_pay12 (k0_pay8 K) (k0_pay9 K) k0_pay10) (k0_pay13 (k0_pay7 K) (k0_pay8 K) (k0_pay9 K) k0_pay10) (Ideal.ofBits .f32 0x43E00000#32) (k0_pay17 V) S) (Ideal.ofBits .f32 0x3B800000#32)) ((idx3_eta y).trans (congrArg (fun z => (ix3 (y 0) z (y 2) : S16x960x4096.Idx)) (qrow_back (y 1)).symm))).trans (res4 X K V S (y 0) (headOf (y 1)) (inHead (y 1)) (y 2))

/-- What window 5 is left holding, element by element. -/
theorem left5 (y : S16x15x4096.Idx) : out0_5 X K V S y = rE5 X K S (y 0) (y 1) (y 2) := by
  have h : out0_5 X K V S = k0_pay27 (k0_pay22 (k0_pay5 X) (k0_pay6 X) (k0_pay12 (k0_pay8 K) (k0_pay9 K) k0_pay10) (k0_pay13 (k0_pay7 K) (k0_pay8 K) (k0_pay9 K) k0_pay10) S) (k0_pay24 (k0_pay5 X) (k0_pay6 X) (k0_pay12 (k0_pay8 K) (k0_pay9 K) k0_pay10) (k0_pay13 (k0_pay7 K) (k0_pay8 K) (k0_pay9 K) k0_pay10) S) := by
    unfold_out out0_5
    frame_out
  rw [h]
  exact (congrArg (k0_pay27 (k0_pay22 (k0_pay5 X) (k0_pay6 X) (k0_pay12 (k0_pay8 K) (k0_pay9 K) k0_pay10) (k0_pay13 (k0_pay7 K) (k0_pay8 K) (k0_pay9 K) k0_pay10) S) (k0_pay24 (k0_pay5 X) (k0_pay6 X) (k0_pay12 (k0_pay8 K) (k0_pay9 K) k0_pay10) (k0_pay13 (k0_pay7 K) (k0_pay8 K) (k0_pay9 K) k0_pay10) S)) (idx3_eta y)).trans (res5 X K S (y 0) (y 1) (y 2))

/-- What window 6 is left holding, element by element. -/
theorem left6 (y : S16x960x4096.Idx) : out0_6 X K V S y = rE6 X (y 0) (y 1) (y 2) := by
  have h : out0_6 X K V S = k0_pay28 (k0_pay6 X) := by
    unfold_out out0_6
    frame_out
  rw [h]
  exact (congrArg (k0_pay28 (k0_pay6 X)) ((idx3_eta y).trans (congrArg (fun z => (ix3 (y 0) z (y 2) : S16x960x4096.Idx)) (qrow_back (y 1)).symm))).trans (res6 X (y 0) (headOf (y 1)) (inHead (y 1)) (y 2))

/-- What window 7 is left holding, element by element. -/
theorem left7 (y : S16x15x4096.Idx) : out0_7 X K V S y = rE7 X (y 0) (y 1) (y 2) := by
  have h : out0_7 X K V S = k0_pay29 (k0_pay5 X) := by
    unfold_out out0_7
    frame_out
  rw [h]
  exact (congrArg (k0_pay29 (k0_pay5 X)) (idx3_eta y)).trans (res7 X (y 0) (y 1) (y 2))

/-- What window 8 is left holding, element by element. -/
theorem left8 (y : S16x320x4096.Idx) : out0_8 X K V S y = rE8 K (y 0) (y 1) (y 2) := by
  have h : out0_8 X K V S = k0_pay30 (k0_pay13 (k0_pay7 K) (k0_pay8 K) (k0_pay9 K) k0_pay10) := by
    unfold_out out0_8
    frame_out
  rw [h]
  exact (congrArg (k0_pay30 (k0_pay13 (k0_pay7 K) (k0_pay8 K) (k0_pay9 K) k0_pay10)) ((idx3_eta y).trans (congrArg (fun z => (ix3 (y 0) z (y 2) : S16x320x4096.Idx)) (row_back (y 1)).symm))).trans (res8 K (y 0) (grpOf (y 1)) (inGrp (y 1)) (y 2))

/-- What window 9 is left holding, element by element. -/
theorem left9 (y : S16x5x4096.Idx) : out0_9 X K V S y = rE9 K (y 0) (y 1) (y 2) := by
  have h : out0_9 X K V S = k0_pay31 (k0_pay12 (k0_pay8 K) (k0_pay9 K) k0_pay10) := by
    unfold_out out0_9
    frame_out
  rw [h]
  exact (congrArg (k0_pay31 (k0_pay12 (k0_pay8 K) (k0_pay9 K) k0_pay10)) (idx3_eta y)).trans (res9 K (y 0) (y 1) (y 2))

/-- What window 10 is left holding, element by element. -/
theorem left10 (y : S16x320x4096.Idx) : out0_10 X K V S y = rE10 V (y 0) (y 1) (y 2) := by
  have h : out0_10 X K V S = k0_pay1 (k0_pay18 (Ideal.ofBits .f32 0x43E00000#32) (k0_pay17 V)) := by
    unfold_out out0_10
    frame_out
    rfl
  rw [h]
  exact (congrArg (k0_pay1 (k0_pay18 (Ideal.ofBits .f32 0x43E00000#32) (k0_pay17 V))) ((idx3_eta y).trans (congrArg (fun z => (ix3 (y 0) z (y 2) : S16x320x4096.Idx)) (row_back (y 1)).symm))).trans (res10 V (y 0) (grpOf (y 1)) (inGrp (y 1)) (y 2))

/-- What window 11 is left holding, element by element. -/
theorem left11 (y : S16x5x128.Idx) : out0_11 X K V S y = rE11 V (y 0) (y 1) (y 2) := by
  have h : out0_11 X K V S = k0_pay2 (k0_pay16 V) := by
    unfold_out out0_11
    frame_out
  rw [h]
  exact (congrArg (k0_pay2 (k0_pay16 V)) (idx3_eta y)).trans (res11 V (y 0) (y 1) (y 2))

end left

/-! ## The arrays -/

theorem array4 (c : Dev nD) : (dats m 0 c).arrAt 4 cfg0.N = fun (y : S16x960x4096.Idx) => rE4 (aX m c) (aK m c) (aV m c) (aS m c) (y 0) (y 1) (y 2) := by
  refine (dats m 0 c).arrAt_eq_of_covers 4 _ (by decide +kernel) fun t hf (y : S16x960x4096.Idx) => ?_
  have e0 : ((win0_4.blk t).view.emb y : S16x960x4096.Idx) = ix3 (y 0) (y 1) (y 2) := by blk_ext [index4]
  blk_simp
  rw [after0_4, block0, block1, block2, block3]
  exact (left4 (aX m c) (aK m c) (aV m c) (aS m c) y).trans (at_idx (rE4 (aX m c) (aK m c) (aV m c) (aS m c)) ((win0_4.blk t).view.emb y : S16x960x4096.Idx) e0)

theorem array5 (c : Dev nD) : (dats m 0 c).arrAt 5 cfg0.N = fun (y : S16x15x4096.Idx) => rE5 (aX m c) (aK m c) (aS m c) (y 0) (y 1) (y 2) := by
  refine (dats m 0 c).arrAt_eq_of_covers 5 _ (by decide +kernel) fun t hf (y : S16x15x4096.Idx) => ?_
  have e0 : ((win0_5.blk t).view.emb y : S16x15x4096.Idx) = ix3 (y 0) (y 1) (y 2) := by blk_ext [index5]
  blk_simp
  rw [after0_5, block0, block1, block2, block3]
  exact (left5 (aX m c) (aK m c) (aV m c) (aS m c) y).trans (at_idx (rE5 (aX m c) (aK m c) (aS m c)) ((win0_5.blk t).view.emb y : S16x15x4096.Idx) e0)

theorem array6 (c : Dev nD) : (dats m 0 c).arrAt 6 cfg0.N = fun (y : S16x960x4096.Idx) => rE6 (aX m c) (y 0) (y 1) (y 2) := by
  refine (dats m 0 c).arrAt_eq_of_covers 6 _ (by decide +kernel) fun t hf (y : S16x960x4096.Idx) => ?_
  have e0 : ((win0_6.blk t).view.emb y : S16x960x4096.Idx) = ix3 (y 0) (y 1) (y 2) := by blk_ext [index6]
  blk_simp
  rw [after0_6, block0, block1, block2, block3]
  exact (left6 (aX m c) (aK m c) (aV m c) (aS m c) y).trans (at_idx (rE6 (aX m c)) ((win0_6.blk t).view.emb y : S16x960x4096.Idx) e0)

theorem array7 (c : Dev nD) : (dats m 0 c).arrAt 7 cfg0.N = fun (y : S16x15x4096.Idx) => rE7 (aX m c) (y 0) (y 1) (y 2) := by
  refine (dats m 0 c).arrAt_eq_of_covers 7 _ (by decide +kernel) fun t hf (y : S16x15x4096.Idx) => ?_
  have e0 : ((win0_7.blk t).view.emb y : S16x15x4096.Idx) = ix3 (y 0) (y 1) (y 2) := by blk_ext [index7]
  blk_simp
  rw [after0_7, block0, block1, block2, block3]
  exact (left7 (aX m c) (aK m c) (aV m c) (aS m c) y).trans (at_idx (rE7 (aX m c)) ((win0_7.blk t).view.emb y : S16x15x4096.Idx) e0)

theorem array8 (c : Dev nD) : (dats m 0 c).arrAt 8 cfg0.N = fun (y : S16x320x4096.Idx) => rE8 (aK m c) (y 0) (y 1) (y 2) := by
  refine (dats m 0 c).arrAt_eq_of_covers 8 _ (by decide +kernel) fun t hf (y : S16x320x4096.Idx) => ?_
  have e0 : ((win0_8.blk t).view.emb y : S16x320x4096.Idx) = ix3 (y 0) (y 1) (y 2) := by blk_ext [index8]
  blk_simp
  rw [after0_8, block0, block1, block2, block3]
  exact (left8 (aX m c) (aK m c) (aV m c) (aS m c) y).trans (at_idx (rE8 (aK m c)) ((win0_8.blk t).view.emb y : S16x320x4096.Idx) e0)

theorem array9 (c : Dev nD) : (dats m 0 c).arrAt 9 cfg0.N = fun (y : S16x5x4096.Idx) => rE9 (aK m c) (y 0) (y 1) (y 2) := by
  refine (dats m 0 c).arrAt_eq_of_covers 9 _ (by decide +kernel) fun t hf (y : S16x5x4096.Idx) => ?_
  have e0 : ((win0_9.blk t).view.emb y : S16x5x4096.Idx) = ix3 (y 0) (y 1) (y 2) := by blk_ext [index9]
  blk_simp
  rw [after0_9, block0, block1, block2, block3]
  exact (left9 (aX m c) (aK m c) (aV m c) (aS m c) y).trans (at_idx (rE9 (aK m c)) ((win0_9.blk t).view.emb y : S16x5x4096.Idx) e0)

theorem array10 (c : Dev nD) : (dats m 0 c).arrAt 10 cfg0.N = fun (y : S16x320x4096.Idx) => rE10 (aV m c) (y 0) (y 1) (y 2) := by
  refine (dats m 0 c).arrAt_eq_of_covers 10 _ (by decide +kernel) fun t hf (y : S16x320x4096.Idx) => ?_
  have e0 : ((win0_10.blk t).view.emb y : S16x320x4096.Idx) = ix3 (y 0) (y 1) (y 2) := by blk_ext [index10]
  blk_simp
  rw [after0_10, block0, block1, block2, block3]
  exact (left10 (aX m c) (aK m c) (aV m c) (aS m c) y).trans (at_idx (rE10 (aV m c)) ((win0_10.blk t).view.emb y : S16x320x4096.Idx) e0)

theorem array11 (c : Dev nD) : (dats m 0 c).arrAt 11 cfg0.N = fun (y : S16x5x128.Idx) => rE11 (aV m c) (y 0) (y 1) (y 2) := by
  refine (dats m 0 c).arrAt_eq_of_covers 11 _ (by decide +kernel) fun t hf (y : S16x5x128.Idx) => ?_
  have e0 : ((win0_11.blk t).view.emb y : S16x5x128.Idx) = ix3 (y 0) (y 1) (y 2) := by blk_ext [index11]
  blk_simp
  rw [after0_11, block0, block1, block2, block3]
  exact (left11 (aX m c) (aK m c) (aV m c) (aS m c) y).trans (at_idx (rE11 (aV m c)) ((win0_11.blk t).view.emb y : S16x5x128.Idx) e0)

end Cert.Proof.RefFinal

end
-- ==== Proof.TameArgs.lean ====
/-
  What the precondition says of the arguments, element by element, and of the greatest magnitudes of their rows.
-/
module

public import proofs.«01_k».proof.Proof.Rows
public import proofs.«01_k».proof.Pre_tame

@[expose] public section

set_option maxRecDepth 16384

noncomputable section

namespace Cert.Proof.TameArgs

open Idealize.ShloMosaic Idealize.ShloMosaic.TcCoe Idealize.ShloMosaic.Tactic
open Cert.Proof.Scalar Cert.Proof.Spec Cert.Proof.KVLoop Cert.Proof.HeadRuns Cert.Proof.Rows
open Cert.Pre_tame

/-- A test of a magnitude against two words, read back. -/
theorem of_test {lo hi a : EReal}
    (h : IntOp.ori (BitVec.ofBool (decide (a = 0))) (IntOp.andi (BitVec.ofBool (decide (lo ≤ a))) (BitVec.ofBool (decide (a ≤ hi)))) = 1#1) :
    a = 0 ∨ (lo ≤ a ∧ a ≤ hi) := by
  by_cases h0 : a = 0
  · exact Or.inl h0
  · refine Or.inr ?_
    by_cases h1 : lo ≤ a
    · by_cases h2 : a ≤ hi
      · exact ⟨h1, h2⟩
      · simp [h0, h1, h2, IntOp.ori, IntOp.andi] at h
    · simp [h0, h1, IntOp.ori, IntOp.andi] at h

/-- The greatest magnitude the precondition admits. -/
def top : EReal := Ideal.ofBits .f32 0x7F7F0000#32

section read

variable [Facts] (x : FVec Ideal S16x4096x960 .bf16) (k v : FVec Ideal S16x4096x320 .bf16) (s : FVec Ideal S15 .f32)

theorem fn_x (h : (fn (F := Ideal) x k v s).1 = fun _ => 1#1) (i : S16x4096x960.Idx) :
    mag (x i) = 0 ∨ (Ideal.ofBits .f32 0x11800000#32 ≤ mag (x i) ∧ mag (x i) ≤ top) := by
  have h := congrFun h i
  simp only [fn, fn_part1] at h
  pointwise at h
  exact of_test h

theorem fn_k (h : (fn (F := Ideal) x k v s).2.1 = fun _ => 1#1) (i : S16x4096x320.Idx) :
    mag (k i) = 0 ∨ (Ideal.ofBits .f32 0x05000000#32 ≤ mag (k i) ∧ mag (k i) ≤ top) := by
  have h := congrFun h i
  simp only [fn, fn_part1] at h
  pointwise at h
  exact of_test h

theorem fn_v (h : (fn (F := Ideal) x k v s).2.2 = fun _ => 1#1) (i : S16x4096x320.Idx) :
    mag (v i) = 0 ∨ (Ideal.ofBits .f32 0x05000000#32 ≤ mag (v i) ∧ mag (v i) ≤ top) := by
  have h := congrFun h i
  simp only [fn, fn_part1] at h
  pointwise at h
  exact of_test h

end read

/-! ## The greatest magnitudes -/

theorem word_query : Ideal.ofBits .f32 0x11800000#32 = (((2 : ℝ) ^ (-92 : ℤ) : ℝ) : EReal) := by
  have := ieee_field 35 (by norm_num) (by norm_num)
  rw [show BitVec.ofNat 32 35 <<< 23 = 0x11800000#32 by decide] at this
  exact this.trans (congrArg _ (by norm_num))
theorem word_key : Ideal.ofBits .f32 0x05000000#32 = (((2 : ℝ) ^ (-117 : ℤ) : ℝ) : EReal) := by
  have := ieee_field 10 (by norm_num) (by norm_num)
  rw [show BitVec.ofNat 32 10 <<< 23 = 0x05000000#32 by decide] at this
  exact this.trans (congrArg _ (by norm_num))
theorem word_top : ∃ r : ℝ, top = (r : EReal) ∧ r ≤ (2 : ℝ) ^ (128 : ℤ) := by
  unfold top
  show ∃ r : ℝ, Ideal.ieee 8 23 0x7F7F0000#32 = (r : EReal) ∧ _
  simp [Ideal.ieee]
  exact ⟨16711680 * 2 ^ 104, by rw [EReal.coe_mul, EReal.coe_pow], by norm_num⟩

/-- A magnitude that is zero, or between a power of two and the greatest admitted, is tame. -/
theorem tame_of {k : ℤ} {a : EReal} (h : a = 0 ∨ ((((2 : ℝ) ^ k : ℝ) : EReal) ≤ a ∧ a ≤ top)) : Tame k a := by
  refine h.imp_right fun ⟨h1, h2⟩ => ?_
  obtain ⟨r, hr, hr'⟩ := word_top
  rw [hr] at h2
  induction a with
  | bot => exact absurd h1 (by simp)
  | top => exact absurd h2 (by simp)
  | coe q => exact ⟨q, rfl, EReal.coe_le_coe_iff.mp h1, (EReal.coe_le_coe_iff.mp h2).trans hr'⟩

/-- A greatest one of finitely many is one of them. -/
theorem sup_mem {ι : Type} [Fintype ι] [Nonempty ι] (f : ι → EReal) : ∃ i, Finset.univ.sup f = f i := by
  obtain ⟨i, -, hi⟩ := Finset.exists_mem_eq_sup Finset.univ Finset.univ_nonempty f
  exact ⟨i, hi⟩

theorem pow_row {k : ℤ} (hk : -117 ≤ k) (hk' : k ≤ 0) (x : Fin 64 → EReal)
    (h : ∀ d, mag (x d) = 0 ∨ ((((2 : ℝ) ^ k : ℝ) : EReal) ≤ mag (x d) ∧ mag (x d) ≤ top)) :
    ∃ n, Pow (amax x) n ∧ k - 8 ≤ n := by
  obtain ⟨d, hd⟩ := sup_mem fun d => mag (x d)
  obtain ⟨n, hn, h1, -⟩ := pow_of_tame k hk hk' (amax x) (by unfold amax; rw [hd]; exact tame_of (h d))
  exact ⟨n, hn, h1⟩

theorem pow_col {k : ℤ} (hk : -117 ≤ k) (hk' : k ≤ 0) (v : Fin 64 → Fin 4096 → EReal)
    (h : ∀ d n, mag (v d n) = 0 ∨ ((((2 : ℝ) ^ k : ℝ) : EReal) ≤ mag (v d n) ∧ mag (v d n) ≤ top)) :
    ∃ n, Pow (vmax v) n := by
  obtain ⟨n, hn⟩ := sup_mem fun n => Finset.univ.sup fun d => mag (v d n)
  obtain ⟨d, hd⟩ := sup_mem fun d => mag (v d n)
  obtain ⟨j, hj, -⟩ := pow_of_tame k hk hk' (vmax v) (by unfold vmax; rw [hn, hd]; exact tame_of (h d n))
  exact ⟨j, hj⟩

section args

variable [Facts] (X : SX.Idx → EReal) (K V : SK.Idx → EReal) (S : SS.Idx → EReal)

theorem queries_pow (h : (fn (F := Ideal) X K V S).1 = fun _ => 1#1) (b : Fin 16) (s : Fin 4096) (g : Fin 15) :
    ∃ n, Pow (amax (xrow X b s g)) n ∧ -100 ≤ n :=
  pow_row (by norm_num) (by norm_num) _ fun d => word_query ▸ fn_x X K V S h _

theorem keys_pow (h : (fn (F := Ideal) X K V S).2.1 = fun _ => 1#1) (b : Fin 16) (g : Fin 5) (n : Fin 4096) :
    ∃ j, Pow (amax (krow K b g n)) j :=
  (pow_row (by norm_num) (by norm_num) _ fun d => word_key ▸ fn_k X K V S h _).imp fun _ => And.left

theorem vals_pow (h : (fn (F := Ideal) X K V S).2.2 = fun _ => 1#1) (b : Fin 16) (g : Fin 5) :
    ∃ j, Pow (vmax (vcol V b g)) j :=
  pow_col (by norm_num) (by norm_num) _ fun d n => word_key ▸ fn_v X K V S h _

end args

end Cert.Proof.TameArgs

end
-- ==== Proof.Algebraic.lean ====
/-
  The value claim: on tame arguments the kernel and the reference leave the same eight results.
-/
module

public import proofs.«01_k».proof.Defs
public import proofs.«01_k».proof.Proof.IdealLaunch
public import proofs.«01_k».proof.Proof.KernelFinal
public import proofs.«01_k».proof.Proof.RefFinal
public import proofs.«01_k».proof.Proof.TameArgs

@[expose] public section

set_option maxRecDepth 16384

noncomputable section

namespace Cert.Proof.Algebraic

open Idealize.ShloMosaic Idealize.ShloMosaic.TcCoe Idealize.SL.Sem
open Cert.Proof.Scalar Cert.Proof.Spec Cert.Proof.Rows

/-- The operations of the precondition have their side conditions. -/
theorem tame_facts : Cert.Pre_tame.Facts where
  bitsLt_bf16_f32 := by decide
  bcast_S_S16x4096x960 := by decide
  bcast_S_S16x4096x320 := by decide

/-- A kernel run on tame arguments and a reference run on the same arguments leave the same results. -/
theorem algebraic [h : Cert.Pre_tame.Facts] : Cert.algebraic_KernelIdeal_ReferenceIdeal_pre_tame (hKernelIdeal := Cert.KernelIdeal.Gen.facts)
    (hReferenceIdeal := Cert.ReferenceIdeal.Gen.facts) := by
  intro m g m' g' hpre hagree
  have hX := fun c => TameArgs.queries_pow (KernelArrays.aX m c) (KernelArrays.aK m c) (KernelArrays.aV m c) (KernelArrays.aS m c) (hpre c).1
  have hK := fun c => TameArgs.keys_pow (KernelArrays.aX m c) (KernelArrays.aK m c) (KernelArrays.aV m c) (KernelArrays.aS m c) (hpre c).2.1
  have hV := fun c => TameArgs.vals_pow (KernelArrays.aX m c) (KernelArrays.aK m c) (KernelArrays.aV m c) (KernelArrays.aS m c) (hpre c).2.2
  have eX : ∀ c, RefFinal.aX m' c = KernelArrays.aX m c := fun c => (hagree c).1
  have eK : ∀ c, RefFinal.aK m' c = KernelArrays.aK m c := fun c => (hagree c).2.1
  have eV : ∀ c, RefFinal.aV m' c = KernelArrays.aV m c := fun c => (hagree c).2.2.1
  have eS : ∀ c, RefFinal.aS m' c = KernelArrays.aS m c := fun c => (hagree c).2.2.2
  refine ⟨fun c => fun (y : Cert.KernelIdeal.S16x960x4096.Idx) => kE4 (KernelArrays.aX m c) (KernelArrays.aK m c) (KernelArrays.aV m c) (KernelArrays.aS m c) (y 0) (y 1) (y 2),
    fun c => fun (y : Cert.KernelIdeal.S16x15x4096.Idx) => kE5 (KernelArrays.aX m c) (KernelArrays.aK m c) (KernelArrays.aS m c) (y 0) (y 1) (y 2),
    fun c => fun (y : Cert.KernelIdeal.S16x960x4096.Idx) => kE6 (KernelArrays.aX m c) (y 0) (y 1) (y 2),
    fun c => fun (y : Cert.KernelIdeal.S16x15x4096.Idx) => kE7 (KernelArrays.aX m c) (y 0) (y 1) (y 2),
    fun c => fun (y : Cert.KernelIdeal.S16x320x4096.Idx) => kE8 (KernelArrays.aK m c) (y 0) (y 1) (y 2),
    fun c => fun (y : Cert.KernelIdeal.S16x5x4096.Idx) => kE9 (KernelArrays.aK m c) (y 0) (y 1) (y 2),
    fun c => fun (y : Cert.KernelIdeal.S16x320x4096.Idx) => kE10 (KernelArrays.aV m c) (y 0) (y 1) (y 2),
    fun c => fun (y : Cert.KernelIdeal.S16x5x128.Idx) => kE11 (KernelArrays.aV m c) (y 0) (y 1) (y 2), ?_, ?_⟩
  · refine (θ_run _ _ _).mono (fun r hr c => ?_) (IdealLaunch.run_main_values m g)
    have hp := hr.1
    exact ⟨(hp.out_eq c 4).trans (KernelFinal.array4 m c),
      (hp.out_eq c 5).trans (KernelFinal.array5 m c),
      (hp.out_eq c 6).trans (KernelFinal.array6 m c),
      (hp.out_eq c 7).trans (KernelFinal.array7 m c),
      (hp.out_eq c 8).trans (KernelFinal.array8 m c),
      (hp.out_eq c 9).trans (KernelFinal.array9 m c),
      (hp.out_eq c 10).trans (KernelFinal.array10 m c),
      (hp.out_eq c 11).trans (KernelFinal.array11 m c),
      ((hp c).2 Cert.KernelIdeal.main_arg0 (Pipeline.mem_restRefs_of Cert.KernelIdeal.main_arg0 (by decide) (by decide))).trans (Cert.KernelIdeal.Gen.V_main_arg0 m c),
      ((hp c).2 Cert.KernelIdeal.main_arg1 (Pipeline.mem_restRefs_of Cert.KernelIdeal.main_arg1 (by decide) (by decide))).trans (Cert.KernelIdeal.Gen.V_main_arg1 m c),
      ((hp c).2 Cert.KernelIdeal.main_arg2 (Pipeline.mem_restRefs_of Cert.KernelIdeal.main_arg2 (by decide) (by decide))).trans (Cert.KernelIdeal.Gen.V_main_arg2 m c),
      ((hp c).1 0).trans (((IdealRun.dats m 0 c).arrAt_in 0 rfl _).trans (Cert.KernelIdeal.Gen.V_main_arg3 m c))⟩
  · refine (θ_run _ _ _).mono (fun r hr c => ?_) (Cert.ReferenceIdeal.Gen.run_main_quiescent m' g')
    have hp := hr.1
    exact ⟨(hp.out_eq c 4).trans ((RefFinal.array4 m' c).trans (by rw [eX c, eK c, eV c, eS c]; exact (funext fun (y : Cert.KernelIdeal.S16x960x4096.Idx) => (same4 (KernelArrays.aX m c) (KernelArrays.aK m c) (KernelArrays.aV m c) (KernelArrays.aS m c) (hX c) (hK c) (hV c) (y 0) (y 1) (y 2)).symm))),
      (hp.out_eq c 5).trans ((RefFinal.array5 m' c).trans (by rw [eX c, eK c, eS c]; exact (funext fun (y : Cert.KernelIdeal.S16x15x4096.Idx) => (same5 (KernelArrays.aX m c) (KernelArrays.aK m c) (KernelArrays.aS m c) (hX c) (hK c) (y 0) (y 1) (y 2)).symm))),
      (hp.out_eq c 6).trans ((RefFinal.array6 m' c).trans (by rw [eX c]; exact (funext fun (y : Cert.KernelIdeal.S16x960x4096.Idx) => (same6 (KernelArrays.aX m c) (hX c) (y 0) (y 1) (y 2)).symm))),
      (hp.out_eq c 7).trans ((RefFinal.array7 m' c).trans (by rw [eX c]; exact (funext fun (y : Cert.KernelIdeal.S16x15x4096.Idx) => (same7 (KernelArrays.aX m c) (hX c) (y 0) (y 1) (y 2)).symm))),
      (hp.out_eq c 8).trans ((RefFinal.array8 m' c).trans (by rw [eK c]; exact (funext fun (y : Cert.KernelIdeal.S16x320x4096.Idx) => (same8 (KernelArrays.aK m c) (hK c) (y 0) (y 1) (y 2)).symm))),
      (hp.out_eq c 9).trans ((RefFinal.array9 m' c).trans (by rw [eK c]; exact (funext fun (y : Cert.KernelIdeal.S16x5x4096.Idx) => (same9 (KernelArrays.aK m c) (hK c) (y 0) (y 1) (y 2)).symm))),
      (hp.out_eq c 10).trans ((RefFinal.array10 m' c).trans (by rw [eV c]; exact (funext fun (y : Cert.KernelIdeal.S16x320x4096.Idx) => (same10 (KernelArrays.aV m c) (hV c) (y 0) (y 1) (y 2)).symm))),
      (hp.out_eq c 11).trans ((RefFinal.array11 m' c).trans (by rw [eV c]; exact (funext fun (y : Cert.KernelIdeal.S16x5x128.Idx) => (same11 (KernelArrays.aV m c) (hV c) (y 0) (y 1) (y 2)).symm))),
      ((hp c).1 0).trans (((Cert.ReferenceIdeal.Gen.dats m' 0 c).arrAt_in 0 rfl _).trans ((Cert.ReferenceIdeal.Gen.A_eq m' c 0).trans (Cert.ReferenceIdeal.Gen.V_main_arg0 m' c))),
      ((hp c).1 1).trans (((Cert.ReferenceIdeal.Gen.dats m' 0 c).arrAt_in 1 rfl _).trans ((Cert.ReferenceIdeal.Gen.A_eq m' c 1).trans (Cert.ReferenceIdeal.Gen.V_main_arg1 m' c))),
      ((hp c).1 2).trans (((Cert.ReferenceIdeal.Gen.dats m' 0 c).arrAt_in 2 rfl _).trans ((Cert.ReferenceIdeal.Gen.A_eq m' c 2).trans (Cert.ReferenceIdeal.Gen.V_main_arg2 m' c))),
      ((hp c).1 3).trans (((Cert.ReferenceIdeal.Gen.dats m' 0 c).arrAt_in 3 rfl _).trans ((Cert.ReferenceIdeal.Gen.A_eq m' c 3).trans (Cert.ReferenceIdeal.Gen.V_main_arg3 m' c)))⟩

end Cert.Proof.Algebraic

end
-- ==== Proof.lean ====
/- The assembled claim: the frames, the values of the named constants, and the value claim. -/
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Algebraic

@[expose] public section

noncomputable section

namespace Cert.Proof

open Idealize.ShloMosaic Idealize.SL.Sem

/-- The two named constants of the idealized kernel have the values their names stand for. -/
theorem preserves : Cert.preserves_Kernel_KernelIdeal :=
  ⟨IdealRules.named_const.statement Cert.KernelIdeal.κ "log2e" .f32 0x3FB8AA3B#32 _ rfl,
   IdealRules.named_const.statement Cert.KernelIdeal.κ "eight_ln2" .f32 0x40B17218#32 _ rfl⟩

/-- Every claim of the certificate. -/
theorem claim : Cert.Claim :=
  ⟨Cert.Kernel.Gen.facts, Cert.KernelIdeal.Gen.facts, Cert.ReferenceIdeal.Gen.facts, Cert.Proof.Algebraic.tame_facts,
   fun m ρ _ => Cert.Proof.KernelFrame.frame m ρ,
   fun m ρ _ => Cert.Proof.KernelIdealFrame.frame m ρ,
   fun m ρ _ => Cert.Proof.KernelIdealFrame.frame m ρ,
   fun m ρ _ => Cert.ReferenceIdeal.Gen.frame m ρ,
   fun m ρ _ => Cert.ReferenceIdeal.Gen.frame m ρ,
   preserves,
   Cert.Proof.Algebraic.algebraic (h := Cert.Proof.Algebraic.tame_facts)⟩

end Cert.Proof

end
